-- ==== Defs.lean ====
def Pre_Kernel [hPre_routed : Cert.Pre_routed.Facts] (m : (ℓ : Loc Cert.Kernel.nD Cert.Kernel.τ Cert.Kernel.sig) → Buf (Elt Bits) ℓ) : Prop :=
  ∀ c : Dev Cert.Kernel.nD,
    (Cert.Pre_routed.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_routed : Cert.Pre_routed.Facts] (m : (ℓ : Loc Cert.KernelIdeal.nD Cert.KernelIdeal.τ Cert.KernelIdeal.sig) → Buf (Elt Ideal) ℓ) : Prop :=
  ∀ c : Dev Cert.KernelIdeal.nD,
    (Cert.Pre_routed.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_KernelIdeal_routed_padded [hPre_routed_padded : Cert.Pre_routed_padded.Facts] (m : (ℓ : Loc Cert.KernelIdeal.nD Cert.KernelIdeal.τ Cert.KernelIdeal.sig) → Buf (Elt Ideal) ℓ) : Prop :=
  ∀ c : Dev Cert.KernelIdeal.nD,
    (Cert.Pre_routed_padded.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_routed_padded [hPre_routed_padded : Cert.Pre_routed_padded.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_routed_padded.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Kernel5Ideal_finite [hPre_finite : Cert.Pre_finite.Facts] (m : (ℓ : Loc Cert.Kernel5Ideal.nD Cert.Kernel5Ideal.τ Cert.Kernel5Ideal.sig) → Buf (Elt Ideal) ℓ) : Prop :=
  ∀ c : Dev Cert.Kernel5Ideal.nD,
    (Cert.Pre_finite.fn (F := Ideal) (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1)) (m ((c.tc : Thread Cert.Kernel5Ideal.nD Cert.Kernel5Ideal.τ).loc Cert.Kernel5Ideal.main_arg2))) = (fun _ => 1#1)

def Pre_Reference5Ideal (m : (ℓ : Loc Cert.Reference5Ideal.nD Cert.Reference5Ideal.τ Cert.Reference5Ideal.sig) → Buf (Elt Ideal) ℓ) : Prop :=
  True

def Pre_Reference5Ideal_finite [hPre_finite : Cert.Pre_finite.Facts] (m : (ℓ : Loc Cert.Reference5Ideal.nD Cert.Reference5Ideal.τ Cert.Reference5Ideal.sig) → Buf (Elt Ideal) ℓ) : Prop :=
  ∀ c : Dev Cert.Reference5Ideal.nD,
    (Cert.Pre_finite.fn (F := Ideal) (m ((c.tc : Thread Cert.Reference5Ideal.nD Cert.Reference5Ideal.τ).loc Cert.Reference5Ideal.main_arg0)) (m ((c.tc : Thread Cert.Reference5Ideal.nD Cert.Reference5Ideal.τ).loc Cert.Reference5Ideal.main_arg1)) (m ((c.tc : Thread Cert.Reference5Ideal.nD Cert.Reference5Ideal.τ).loc Cert.Reference5Ideal.main_arg2))) = (fun _ => 1#1)

def quiescent_Kernel [hKernel : Cert.Kernel.Facts] [hPre_routed : Cert.Pre_routed.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))
      ∧ r.2.sem = fun _ => 0)

def quiescent_KernelIdeal [hKernelIdeal : Cert.KernelIdeal.Facts] [hPre_routed : Cert.Pre_routed.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_KernelIdeal_pre_routed_padded [hKernelIdeal : Cert.KernelIdeal.Facts] [hPre_routed_padded : Cert.Pre_routed_padded.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_routed_padded m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def quiescent_ReferenceIdeal_pre_routed_padded [hReferenceIdeal : Cert.ReferenceIdeal.Facts] [hPre_routed_padded : Cert.Pre_routed_padded.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_routed_padded m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5)
      ∧ r.2.mem ((c.tc : Thread Cert.Kernel3.nD Cert.Kernel3.τ).loc Cert.Kernel3.main_arg6) = m ((c.tc : Thread Cert.Kernel3.nD Cert.Kernel3.τ).loc Cert.Kernel3.main_arg6)
      ∧ r.2.mem ((c.tc : Thread Cert.Kernel3.nD Cert.Kernel3.τ).loc Cert.Kernel3.main_arg7) = m ((c.tc : Thread Cert.Kernel3.nD Cert.Kernel3.τ).loc Cert.Kernel3.main_arg7)
      ∧ r.2.mem ((c.tc : Thread Cert.Kernel3.nD Cert.Kernel3.τ).loc Cert.Kernel3.main_arg8) = m ((c.tc : Thread Cert.Kernel3.nD Cert.Kernel3.τ).loc Cert.Kernel3.main_arg8)
      ∧ r.2.mem ((c.tc : Thread Cert.Kernel3.nD Cert.Kernel3.τ).loc Cert.Kernel3.main_arg9) = m ((c.tc : Thread Cert.Kernel3.nD Cert.Kernel3.τ).loc Cert.Kernel3.main_arg9)
      ∧ r.2.mem ((c.tc : Thread Cert.Kernel3.nD Cert.Kernel3.τ).loc Cert.Kernel3.main_arg10) = m ((c.tc : Thread Cert.Kernel3.nD Cert.Kernel3.τ).loc Cert.Kernel3.main_arg10)
      ∧ r.2.mem ((c.tc : Thread Cert.Kernel3.nD Cert.Kernel3.τ).loc Cert.Kernel3.main_arg11) = m ((c.tc : Thread Cert.Kernel3.nD Cert.Kernel3.τ).loc Cert.Kernel3.main_arg11)
      ∧ r.2.mem ((c.tc : Thread Cert.Kernel3.nD Cert.Kernel3.τ).loc Cert.Kernel3.main_arg12) = m ((c.tc : Thread Cert.Kernel3.nD Cert.Kernel3.τ).loc Cert.Kernel3.main_arg12))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
      ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
      ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8)
      ∧ r.2.mem ((c.tc : Thread Cert.Kernel3Ideal.nD Cert.Kernel3Ideal.τ).loc Cert.Kernel3Ideal.main_arg9) = m ((c.tc : Thread Cert.Kernel3Ideal.nD Cert.Kernel3Ideal.τ).loc Cert.Kernel3Ideal.main_arg9)
      ∧ r.2.mem ((c.tc : Thread Cert.Kernel3Ideal.nD Cert.Kernel3Ideal.τ).loc Cert.Kernel3Ideal.main_arg10) = m ((c.tc : Thread Cert.Kernel3Ideal.nD Cert.Kernel3Ideal.τ).loc Cert.Kernel3Ideal.main_arg10)
      ∧ r.2.mem ((c.tc : Thread Cert.Kernel3Ideal.nD Cert.Kernel3Ideal.τ).loc Cert.Kernel3Ideal.main_arg11) = m ((c.tc : Thread Cert.Kernel3Ideal.nD Cert.Kernel3Ideal.τ).loc Cert.Kernel3Ideal.main_arg11)
      ∧ r.2.mem ((c.tc : Thread Cert.Kernel3Ideal.nD Cert.Kernel3Ideal.τ).loc Cert.Kernel3Ideal.main_arg12) = m ((c.tc : Thread Cert.Kernel3Ideal.nD Cert.Kernel3Ideal.τ).loc Cert.Kernel3Ideal.main_arg12))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6)
      ∧ r.2.mem ((c.tc : Thread Cert.Reference3Ideal.nD Cert.Reference3Ideal.τ).loc Cert.Reference3Ideal.main_arg7) = m ((c.tc : Thread Cert.Reference3Ideal.nD Cert.Reference3Ideal.τ).loc Cert.Reference3Ideal.main_arg7)
      ∧ r.2.mem ((c.tc : Thread Cert.Reference3Ideal.nD Cert.Reference3Ideal.τ).loc Cert.Reference3Ideal.main_arg8) = m ((c.tc : Thread Cert.Reference3Ideal.nD Cert.Reference3Ideal.τ).loc Cert.Reference3Ideal.main_arg8)
      ∧ r.2.mem ((c.tc : Thread Cert.Reference3Ideal.nD Cert.Reference3Ideal.τ).loc Cert.Reference3Ideal.main_arg9) = m ((c.tc : Thread Cert.Reference3Ideal.nD Cert.Reference3Ideal.τ).loc Cert.Reference3Ideal.main_arg9)
      ∧ r.2.mem ((c.tc : Thread Cert.Reference3Ideal.nD Cert.Reference3Ideal.τ).loc Cert.Reference3Ideal.main_arg10) = m ((c.tc : Thread Cert.Reference3Ideal.nD Cert.Reference3Ideal.τ).loc Cert.Reference3Ideal.main_arg10)
      ∧ r.2.mem ((c.tc : Thread Cert.Reference3Ideal.nD Cert.Reference3Ideal.τ).loc Cert.Reference3Ideal.main_arg11) = m ((c.tc : Thread Cert.Reference3Ideal.nD Cert.Reference3Ideal.τ).loc Cert.Reference3Ideal.main_arg11)
      ∧ r.2.mem ((c.tc : Thread Cert.Reference3Ideal.nD Cert.Reference3Ideal.τ).loc Cert.Reference3Ideal.main_arg12) = m ((c.tc : Thread Cert.Reference3Ideal.nD Cert.Reference3Ideal.τ).loc Cert.Reference3Ideal.main_arg12))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4)
      ∧ r.2.mem ((c.tc : Thread Cert.Kernel4.nD Cert.Kernel4.τ).loc Cert.Kernel4.main_arg5) = m ((c.tc : Thread Cert.Kernel4.nD Cert.Kernel4.τ).loc Cert.Kernel4.main_arg5)
      ∧ r.2.mem ((c.tc : Thread Cert.Kernel4.nD Cert.Kernel4.τ).loc Cert.Kernel4.main_arg6) = m ((c.tc : Thread Cert.Kernel4.nD Cert.Kernel4.τ).loc Cert.Kernel4.main_arg6)
      ∧ r.2.mem ((c.tc : Thread Cert.Kernel4.nD Cert.Kernel4.τ).loc Cert.Kernel4.main_arg7) = m ((c.tc : Thread Cert.Kernel4.nD Cert.Kernel4.τ).loc Cert.Kernel4.main_arg7))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
      ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
      ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5)
      ∧ r.2.mem ((c.tc : Thread Cert.Reference4Ideal.nD Cert.Reference4Ideal.τ).loc Cert.Reference4Ideal.main_arg6) = m ((c.tc : Thread Cert.Reference4Ideal.nD Cert.Reference4Ideal.τ).loc Cert.Reference4Ideal.main_arg6)
      ∧ r.2.mem ((c.tc : Thread Cert.Reference4Ideal.nD Cert.Reference4Ideal.τ).loc Cert.Reference4Ideal.main_arg7) = m ((c.tc : Thread Cert.Reference4Ideal.nD Cert.Reference4Ideal.τ).loc Cert.Reference4Ideal.main_arg7))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2))
      ∧ r.2.sem = fun _ => 0)

def quiescent_Kernel5Ideal_pre_finite [hKernel5Ideal : Cert.Kernel5Ideal.Facts] [hPre_finite : Cert.Pre_finite.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal_finite m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2))
      ∧ r.2.sem = fun _ => 0)

def quiescent_Reference5Ideal_pre_finite [hReference5Ideal : Cert.Reference5Ideal.Facts] [hPre_finite : Cert.Pre_finite.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal_finite m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2))
      ∧ r.2.sem = fun _ => 0)

def preserves_Kernel_KernelIdeal : Prop :=
  True

def algebraic_KernelIdeal_ReferenceIdeal_pre_routed_padded [hKernelIdeal : Cert.KernelIdeal.Facts] [hReferenceIdeal : Cert.ReferenceIdeal.Facts] [hPre_routed_padded : Cert.Pre_routed_padded.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_routed_padded m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v7) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v66) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)) →
    ∃ (v0 : (c : Dev Cert.Kernel2Ideal.nD) → Buf (Elt Ideal) ((c.tc : Thread Cert.Kernel2Ideal.nD Cert.Kernel2Ideal.τ).loc Cert.Kernel2Ideal.main_v0_0)) (v1 : (c : Dev Cert.Kernel2Ideal.nD) → Buf (Elt Ideal) ((c.tc : Thread Cert.Kernel2Ideal.nD Cert.Kernel2Ideal.τ).loc Cert.Kernel2Ideal.main_v0_1)) (v2 : (c : Dev Cert.Kernel2Ideal.nD) → Buf (Elt Ideal) ((c.tc : Thread Cert.Kernel2Ideal.nD Cert.Kernel2Ideal.τ).loc Cert.Kernel2Ideal.main_v0_2)) (v3 : (c : Dev Cert.Kernel2Ideal.nD) → Buf (Elt Ideal) ((c.tc : Thread Cert.Kernel2Ideal.nD Cert.Kernel2Ideal.τ).loc Cert.Kernel2Ideal.main_v0_3)) (v4 : (c : Dev Cert.Kernel2Ideal.nD) → Buf (Elt Ideal) ((c.tc : Thread Cert.Kernel2Ideal.nD Cert.Kernel2Ideal.τ).loc Cert.Kernel2Ideal.main_v0_4)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v0_0) = v0 c
          ∧ r.2.mem ((c.tc : Thread Cert.Kernel2Ideal.nD Cert.Kernel2Ideal.τ).loc Cert.Kernel2Ideal.main_v0_1) = v1 c
          ∧ r.2.mem ((c.tc : Thread Cert.Kernel2Ideal.nD Cert.Kernel2Ideal.τ).loc Cert.Kernel2Ideal.main_v0_2) = v2 c
          ∧ r.2.mem ((c.tc : Thread Cert.Kernel2Ideal.nD Cert.Kernel2Ideal.τ).loc Cert.Kernel2Ideal.main_v0_3) = v3 c
          ∧ r.2.mem ((c.tc : Thread Cert.Kernel2Ideal.nD Cert.Kernel2Ideal.τ).loc Cert.Kernel2Ideal.main_v0_4) = v4 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v26) = v0 c
          ∧ r.2.mem ((c.tc : Thread Cert.Reference2Ideal.nD Cert.Reference2Ideal.τ).loc Cert.Reference2Ideal.main_v27) = v1 c
          ∧ r.2.mem ((c.tc : Thread Cert.Reference2Ideal.nD Cert.Reference2Ideal.τ).loc Cert.Reference2Ideal.main_v28) = v2 c
          ∧ r.2.mem ((c.tc : Thread Cert.Reference2Ideal.nD Cert.Reference2Ideal.τ).loc Cert.Reference2Ideal.main_v29) = v3 c
          ∧ r.2.mem ((c.tc : Thread Cert.Reference2Ideal.nD Cert.Reference2Ideal.τ).loc Cert.Reference2Ideal.main_v30) = v4 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)
      ∧ m' ((c.tc : Thread Cert.Reference3Ideal.nD Cert.Reference3Ideal.τ).loc Cert.Reference3Ideal.main_arg6) = m ((c.tc : Thread Cert.Kernel3Ideal.nD Cert.Kernel3Ideal.τ).loc Cert.Kernel3Ideal.main_arg6)
      ∧ m' ((c.tc : Thread Cert.Reference3Ideal.nD Cert.Reference3Ideal.τ).loc Cert.Reference3Ideal.main_arg7) = m ((c.tc : Thread Cert.Kernel3Ideal.nD Cert.Kernel3Ideal.τ).loc Cert.Kernel3Ideal.main_arg7)
      ∧ m' ((c.tc : Thread Cert.Reference3Ideal.nD Cert.Reference3Ideal.τ).loc Cert.Reference3Ideal.main_arg8) = m ((c.tc : Thread Cert.Kernel3Ideal.nD Cert.Kernel3Ideal.τ).loc Cert.Kernel3Ideal.main_arg8)
      ∧ m' ((c.tc : Thread Cert.Reference3Ideal.nD Cert.Reference3Ideal.τ).loc Cert.Reference3Ideal.main_arg9) = m ((c.tc : Thread Cert.Kernel3Ideal.nD Cert.Kernel3Ideal.τ).loc Cert.Kernel3Ideal.main_arg9)
      ∧ m' ((c.tc : Thread Cert.Reference3Ideal.nD Cert.Reference3Ideal.τ).loc Cert.Reference3Ideal.main_arg10) = m ((c.tc : Thread Cert.Kernel3Ideal.nD Cert.Kernel3Ideal.τ).loc Cert.Kernel3Ideal.main_arg10)
      ∧ m' ((c.tc : Thread Cert.Reference3Ideal.nD Cert.Reference3Ideal.τ).loc Cert.Reference3Ideal.main_arg11) = m ((c.tc : Thread Cert.Kernel3Ideal.nD Cert.Kernel3Ideal.τ).loc Cert.Kernel3Ideal.main_arg11)
      ∧ m' ((c.tc : Thread Cert.Reference3Ideal.nD Cert.Reference3Ideal.τ).loc Cert.Reference3Ideal.main_arg12) = m ((c.tc : Thread Cert.Kernel3Ideal.nD Cert.Kernel3Ideal.τ).loc Cert.Kernel3Ideal.main_arg12)) →
    ∃ (v0 : (c : Dev Cert.Kernel3Ideal.nD) → Buf (Elt Ideal) ((c.tc : Thread Cert.Kernel3Ideal.nD Cert.Kernel3Ideal.τ).loc Cert.Kernel3Ideal.main_v3_0)) (v1 : (c : Dev Cert.Kernel3Ideal.nD) → Buf (Elt Ideal) ((c.tc : Thread Cert.Kernel3Ideal.nD Cert.Kernel3Ideal.τ).loc Cert.Kernel3Ideal.main_v3_1)) (v2 : (c : Dev Cert.Kernel3Ideal.nD) → Buf (Elt Ideal) ((c.tc : Thread Cert.Kernel3Ideal.nD Cert.Kernel3Ideal.τ).loc Cert.Kernel3Ideal.main_v3_2)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v3_0) = v0 c
          ∧ r.2.mem ((c.tc : Thread Cert.Kernel3Ideal.nD Cert.Kernel3Ideal.τ).loc Cert.Kernel3Ideal.main_v3_1) = v1 c
          ∧ r.2.mem ((c.tc : Thread Cert.Kernel3Ideal.nD Cert.Kernel3Ideal.τ).loc Cert.Kernel3Ideal.main_v3_2) = v2 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
          ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
          ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
          ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8)
          ∧ r.2.mem ((c.tc : Thread Cert.Kernel3Ideal.nD Cert.Kernel3Ideal.τ).loc Cert.Kernel3Ideal.main_arg9) = m ((c.tc : Thread Cert.Kernel3Ideal.nD Cert.Kernel3Ideal.τ).loc Cert.Kernel3Ideal.main_arg9)
          ∧ r.2.mem ((c.tc : Thread Cert.Kernel3Ideal.nD Cert.Kernel3Ideal.τ).loc Cert.Kernel3Ideal.main_arg10) = m ((c.tc : Thread Cert.Kernel3Ideal.nD Cert.Kernel3Ideal.τ).loc Cert.Kernel3Ideal.main_arg10)
          ∧ r.2.mem ((c.tc : Thread Cert.Kernel3Ideal.nD Cert.Kernel3Ideal.τ).loc Cert.Kernel3Ideal.main_arg11) = m ((c.tc : Thread Cert.Kernel3Ideal.nD Cert.Kernel3Ideal.τ).loc Cert.Kernel3Ideal.main_arg11)
          ∧ r.2.mem ((c.tc : Thread Cert.Kernel3Ideal.nD Cert.Kernel3Ideal.τ).loc Cert.Kernel3Ideal.main_arg12) = m ((c.tc : Thread Cert.Kernel3Ideal.nD Cert.Kernel3Ideal.τ).loc Cert.Kernel3Ideal.main_arg12))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v34) = v0 c
          ∧ r.2.mem ((c.tc : Thread Cert.Reference3Ideal.nD Cert.Reference3Ideal.τ).loc Cert.Reference3Ideal.main_v59) = v1 c
          ∧ r.2.mem ((c.tc : Thread Cert.Reference3Ideal.nD Cert.Reference3Ideal.τ).loc Cert.Reference3Ideal.main_v63) = v2 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5)
          ∧ r.2.mem ((c.tc : Thread Cert.Reference3Ideal.nD Cert.Reference3Ideal.τ).loc Cert.Reference3Ideal.main_arg6) = m' ((c.tc : Thread Cert.Reference3Ideal.nD Cert.Reference3Ideal.τ).loc Cert.Reference3Ideal.main_arg6)
          ∧ r.2.mem ((c.tc : Thread Cert.Reference3Ideal.nD Cert.Reference3Ideal.τ).loc Cert.Reference3Ideal.main_arg7) = m' ((c.tc : Thread Cert.Reference3Ideal.nD Cert.Reference3Ideal.τ).loc Cert.Reference3Ideal.main_arg7)
          ∧ r.2.mem ((c.tc : Thread Cert.Reference3Ideal.nD Cert.Reference3Ideal.τ).loc Cert.Reference3Ideal.main_arg8) = m' ((c.tc : Thread Cert.Reference3Ideal.nD Cert.Reference3Ideal.τ).loc Cert.Reference3Ideal.main_arg8)
          ∧ r.2.mem ((c.tc : Thread Cert.Reference3Ideal.nD Cert.Reference3Ideal.τ).loc Cert.Reference3Ideal.main_arg9) = m' ((c.tc : Thread Cert.Reference3Ideal.nD Cert.Reference3Ideal.τ).loc Cert.Reference3Ideal.main_arg9)
          ∧ r.2.mem ((c.tc : Thread Cert.Reference3Ideal.nD Cert.Reference3Ideal.τ).loc Cert.Reference3Ideal.main_arg10) = m' ((c.tc : Thread Cert.Reference3Ideal.nD Cert.Reference3Ideal.τ).loc Cert.Reference3Ideal.main_arg10)
          ∧ r.2.mem ((c.tc : Thread Cert.Reference3Ideal.nD Cert.Reference3Ideal.τ).loc Cert.Reference3Ideal.main_arg11) = m' ((c.tc : Thread Cert.Reference3Ideal.nD Cert.Reference3Ideal.τ).loc Cert.Reference3Ideal.main_arg11)
          ∧ r.2.mem ((c.tc : Thread Cert.Reference3Ideal.nD Cert.Reference3Ideal.τ).loc Cert.Reference3Ideal.main_arg12) = m' ((c.tc : Thread Cert.Reference3Ideal.nD Cert.Reference3Ideal.τ).loc Cert.Reference3Ideal.main_arg12))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)
      ∧ m' ((c.tc : Thread Cert.Reference4Ideal.nD Cert.Reference4Ideal.τ).loc Cert.Reference4Ideal.main_arg5) = m ((c.tc : Thread Cert.Kernel4Ideal.nD Cert.Kernel4Ideal.τ).loc Cert.Kernel4Ideal.main_arg5)
      ∧ m' ((c.tc : Thread Cert.Reference4Ideal.nD Cert.Reference4Ideal.τ).loc Cert.Reference4Ideal.main_arg6) = m ((c.tc : Thread Cert.Kernel4Ideal.nD Cert.Kernel4Ideal.τ).loc Cert.Kernel4Ideal.main_arg6)
      ∧ m' ((c.tc : Thread Cert.Reference4Ideal.nD Cert.Reference4Ideal.τ).loc Cert.Reference4Ideal.main_arg7) = m ((c.tc : Thread Cert.Kernel4Ideal.nD Cert.Kernel4Ideal.τ).loc Cert.Kernel4Ideal.main_arg7)) →
    ∃ (v0 : (c : Dev Cert.Kernel4Ideal.nD) → Buf (Elt Ideal) ((c.tc : Thread Cert.Kernel4Ideal.nD Cert.Kernel4Ideal.τ).loc Cert.Kernel4Ideal.main_v2)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v2) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
          ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
          ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
          ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v33) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4)
          ∧ r.2.mem ((c.tc : Thread Cert.Reference4Ideal.nD Cert.Reference4Ideal.τ).loc Cert.Reference4Ideal.main_arg5) = m' ((c.tc : Thread Cert.Reference4Ideal.nD Cert.Reference4Ideal.τ).loc Cert.Reference4Ideal.main_arg5)
          ∧ r.2.mem ((c.tc : Thread Cert.Reference4Ideal.nD Cert.Reference4Ideal.τ).loc Cert.Reference4Ideal.main_arg6) = m' ((c.tc : Thread Cert.Reference4Ideal.nD Cert.Reference4Ideal.τ).loc Cert.Reference4Ideal.main_arg6)
          ∧ r.2.mem ((c.tc : Thread Cert.Reference4Ideal.nD Cert.Reference4Ideal.τ).loc Cert.Reference4Ideal.main_arg7) = m' ((c.tc : Thread Cert.Reference4Ideal.nD Cert.Reference4Ideal.τ).loc Cert.Reference4Ideal.main_arg7))

def preserves_Kernel5_Kernel5Ideal : Prop :=
  True

def algebraic_Kernel5Ideal_Reference5Ideal_pre_finite [hKernel5Ideal : Cert.Kernel5Ideal.Facts] [hReference5Ideal : Cert.Reference5Ideal.Facts] [hPre_finite : Cert.Pre_finite.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal_finite m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)) →
    ∃ (v0 : (c : Dev Cert.Kernel5Ideal.nD) → Buf (Elt Ideal) ((c.tc : Thread Cert.Kernel5Ideal.nD Cert.Kernel5Ideal.τ).loc Cert.Kernel5Ideal.main_v0)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v0) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v29) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hPre_routed : Cert.Pre_routed.Facts) (hPre_routed_padded : Cert.Pre_routed_padded.Facts) (hPre_finite : Cert.Pre_finite.Facts),
    quiescent_Kernel (hKernel := hKernel) (hPre_routed := hPre_routed)
    ∧ quiescent_KernelIdeal (hKernelIdeal := hKernelIdeal) (hPre_routed := hPre_routed)
    ∧ quiescent_KernelIdeal_pre_routed_padded (hKernelIdeal := hKernelIdeal) (hPre_routed_padded := hPre_routed_padded)
    ∧ quiescent_ReferenceIdeal (hReferenceIdeal := hReferenceIdeal)
    ∧ quiescent_ReferenceIdeal_pre_routed_padded (hReferenceIdeal := hReferenceIdeal) (hPre_routed_padded := hPre_routed_padded)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Kernel5Ideal_pre_finite (hKernel5Ideal := hKernel5Ideal) (hPre_finite := hPre_finite)
    ∧ quiescent_Reference5Ideal (hReference5Ideal := hReference5Ideal)
    ∧ quiescent_Reference5Ideal_pre_finite (hReference5Ideal := hReference5Ideal) (hPre_finite := hPre_finite)
    ∧ preserves_Kernel_KernelIdeal
    ∧ algebraic_KernelIdeal_ReferenceIdeal_pre_routed_padded (hKernelIdeal := hKernelIdeal) (hReferenceIdeal := hReferenceIdeal) (hPre_routed_padded := hPre_routed_padded)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal_pre_finite (hKernel5Ideal := hKernel5Ideal) (hReference5Ideal := hReference5Ideal) (hPre_finite := hPre_finite)
-- ==== Pre_finite.lean ====
abbrev S4x4096x1024 : Shape := ⟨3, ![4, 4096, 1024]⟩
abbrev S4x4096x512 : Shape := ⟨3, ![4, 4096, 512]⟩
abbrev S_ : Shape := ⟨0, ![]⟩

class Facts : Prop where
  bcast_S_S4x4096x1024 : S_.BroadcastsInDim S4x4096x1024 (![] : Fin 0 → Fin S4x4096x1024.rank)

variable [Facts]

def fn {F : FTy → Type} [FloatOps F] (main_arg0 : FVec F S4x4096x1024 .bf16) (main_arg1 : FVec F S4x4096x1024 .bf16) (main_arg2 : FVec F S4x4096x512 .bf16) : IVec S4x4096x1024 1 :=
  let main_v0 : FVec F S4x4096x1024 .bf16 := Host.absf main_arg0
  let main_cst : FVec F S_ .bf16 := constant S_ .bf16 0x7F80#16
  let main_v1 : FVec F S4x4096x1024 .bf16 := broadcastInDim S4x4096x1024 ![] bcast_S_S4x4096x1024 main_cst
  let main_v2 : IVec S4x4096x1024 1 := cmpf .olt main_v0 main_v1
  let main_v3 : FVec F S4x4096x1024 .bf16 := Host.absf main_arg1
  let main_cst_0 : FVec F S_ .bf16 := constant S_ .bf16 0x7F80#16
  let main_v4 : FVec F S4x4096x1024 .bf16 := broadcastInDim S4x4096x1024 ![] bcast_S_S4x4096x1024 main_cst_0
  let main_v5 : IVec S4x4096x1024 1 := cmpf .olt main_v3 main_v4
  let main_v6 : IVec S4x4096x1024 1 := andi main_v2 main_v5
  main_v6
-- ==== Pre_routed.lean ====
abbrev S160 : Shape := ⟨1, ![160]⟩
abbrev S1 : Shape := ⟨1, ![1]⟩
abbrev S81920x2048 : Shape := ⟨2, ![81920, 2048]⟩
abbrev S2x32x2048x4096 : Shape := ⟨4, ![2, 32, 2048, 4096]⟩
abbrev S2x32x4096 : Shape := ⟨3, ![2, 32, 4096]⟩
abbrev S2x32x2048x2048 : Shape := ⟨4, ![2, 32, 2048, 2048]⟩
abbrev S2x32x2048 : Shape := ⟨3, ![2, 32, 2048]⟩
abbrev S81920 : Shape := ⟨1, ![81920]⟩
abbrev S_ : Shape := ⟨0, ![]⟩

class Facts : Prop where
  bcast_S_S160 : S_.BroadcastsInDim S160 (![] : Fin 0 → Fin S160.rank)

variable [Facts]

def fn {F : FTy → Type} [FloatOps F] (main_arg0 : IVec S160 32) (main_arg1 : IVec S1 32) (main_arg2 : FVec F S81920x2048 .bf16) (main_arg3 : FVec F S2x32x2048x4096 .f32) (main_arg4 : FVec F S2x32x4096 .f32) (main_arg5 : FVec F S2x32x2048x2048 .f32) (main_arg6 : FVec F S2x32x2048 .f32) (main_arg7 : FVec F S81920 .f32) : IVec S160 1 :=
  let main_c : IVec S_ 32 := constantI S_ 32 0#32
  let main_v0 : IVec S160 32 := broadcastInDim S160 ![] bcast_S_S160 main_c
  let main_v1 : IVec S160 1 := cmpi .sge main_arg0 main_v0
  let main_c_0 : IVec S_ 32 := constantI S_ 32 32#32
  let main_v2 : IVec S160 32 := broadcastInDim S160 ![] bcast_S_S160 main_c_0
  let main_v3 : IVec S160 1 := cmpi .slt main_arg0 main_v2
  let main_v4 : IVec S160 1 := andi main_v1 main_v3
  main_v4
-- ==== Pre_routed_padded.lean ====
abbrev S160 : Shape := ⟨1, ![160]⟩
abbrev S1 : Shape := ⟨1, ![1]⟩
abbrev S81920x2048 : Shape := ⟨2, ![81920, 2048]⟩
abbrev S2x32x2048x4096 : Shape := ⟨4, ![2, 32, 2048, 4096]⟩
abbrev S2x32x4096 : Shape := ⟨3, ![2, 32, 4096]⟩
abbrev S2x32x2048x2048 : Shape := ⟨4, ![2, 32, 2048, 2048]⟩
abbrev S2x32x2048 : Shape := ⟨3, ![2, 32, 2048]⟩
abbrev S81920 : Shape := ⟨1, ![81920]⟩
abbrev S_ : Shape := ⟨0, ![]⟩
abbrev S160x1 : Shape := ⟨2, ![160, 1]⟩
abbrev S160x512 : Shape := ⟨2, ![160, 512]⟩

class Facts : Prop where
  bcast_S_S160 : S_.BroadcastsInDim S160 (![] : Fin 0 → Fin S160.rank)
  shapeCasts_S1_S_ : S1.ShapeCasts S_
  bcast_S160_S160x1_0 : S160.BroadcastsInDim S160x1 (![0] : Fin 1 → Fin S160x1.rank)
  bcast_S160x1_S160x512_0_1 : S160x1.BroadcastsInDim S160x512 (![0, 1] : Fin 2 → Fin S160x512.rank)
  bcast_S_S81920 : S_.BroadcastsInDim S81920 (![] : Fin 0 → Fin S81920.rank)
  shapeCasts_S81920_S160x512 : S81920.ShapeCasts S160x512

variable [Facts]

def fn {F : FTy → Type} [FloatOps F] (main_arg0 : IVec S160 32) (main_arg1 : IVec S1 32) (main_arg2 : FVec F S81920x2048 .bf16) (main_arg3 : FVec F S2x32x2048x4096 .f32) (main_arg4 : FVec F S2x32x4096 .f32) (main_arg5 : FVec F S2x32x2048x2048 .f32) (main_arg6 : FVec F S2x32x2048 .f32) (main_arg7 : FVec F S81920 .f32) : IVec S160x512 1 :=
  let main_c : IVec S_ 32 := constantI S_ 32 0#32
  let main_v0 : IVec S160 32 := broadcastInDim S160 ![] bcast_S_S160 main_c
  let main_v1 : IVec S160 1 := cmpi .sge main_arg0 main_v0
  let main_c_0 : IVec S_ 32 := constantI S_ 32 32#32
  let main_v2 : IVec S160 32 := broadcastInDim S160 ![] bcast_S_S160 main_c_0
  let main_v3 : IVec S160 1 := cmpi .slt main_arg0 main_v2
  let main_v4 : IVec S160 1 := andi main_v1 main_v3
  let main_v5 : IVec S160 32 := iotaInDim S160 32 0
  let main_v6 : IVec S_ 32 := shapeCast S_ main_arg1 shapeCasts_S1_S_
  let main_v7 : IVec S160 32 := broadcastInDim S160 ![] bcast_S_S160 main_v6
  let main_v8 : IVec S160 1 := cmpi .slt main_v5 main_v7
  let main_v9 : IVec S160x1 1 := broadcastInDim S160x1 ![0] bcast_S160_S160x1_0 main_v8
  let main_v10 : IVec S160x512 1 := broadcastInDim S160x512 ![0, 1] bcast_S160x1_S160x512_0_1 main_v9
  let main_cst : FVec F S_ .f32 := constant S_ .f32 0x00000000#32
  let main_v11 : FVec F S81920 .f32 := broadcastInDim S81920 ![] bcast_S_S81920 main_cst
  let main_v12 : IVec S81920 1 := cmpf .oeq main_arg7 main_v11
  let main_v13 : IVec S160x512 1 := shapeCast S160x512 main_v12 shapeCasts_S81920_S160x512
  let main_v14 : IVec S160x1 1 := broadcastInDim S160x1 ![0] bcast_S160_S160x1_0 main_v4
  let main_v15 : IVec S160x512 1 := ori main_v10 main_v13
  let main_v16 : IVec S160x512 1 := broadcastInDim S160x512 ![0, 1] bcast_S160x1_S160x512_0_1 main_v14
  let main_v17 : IVec S160x512 1 := andi main_v16 main_v15
  main_v17
-- ==== Kernel.lean ====
abbrev S160 : Shape := ⟨1, ![160]⟩
abbrev S1 : Shape := ⟨1, ![1]⟩
abbrev S81920x2048 : Shape := ⟨2, ![81920, 2048]⟩
abbrev S2x32x2048x4096 : Shape := ⟨4, ![2, 32, 2048, 4096]⟩
abbrev S2x32x4096 : Shape := ⟨3, ![2, 32, 4096]⟩
abbrev S2x32x2048x2048 : Shape := ⟨4, ![2, 32, 2048, 2048]⟩
abbrev S2x32x2048 : Shape := ⟨3, ![2, 32, 2048]⟩
abbrev S81920 : Shape := ⟨1, ![81920]⟩
abbrev S64x2048x4096 : Shape := ⟨3, ![64, 2048, 4096]⟩
abbrev S64x2048x2048 : Shape := ⟨3, ![64, 2048, 2048]⟩
abbrev S64x1x4096 : Shape := ⟨3, ![64, 1, 4096]⟩
abbrev S64x1x2048 : Shape := ⟨3, ![64, 1, 2048]⟩
abbrev S_ : Shape := ⟨0, ![]⟩
abbrev S81920x1 : Shape := ⟨2, ![81920, 1]⟩
abbrev S512x2048 : Shape := ⟨2, ![512, 2048]⟩
abbrev S1x2048x256 : Shape := ⟨3, ![1, 2048, 256]⟩
abbrev S1x1x256 : Shape := ⟨3, ![1, 1, 256]⟩
abbrev S1x256x2048 : Shape := ⟨3, ![1, 256, 2048]⟩
abbrev S1x1x2048 : Shape := ⟨3, ![1, 1, 2048]⟩
abbrev S512x1 : Shape := ⟨2, ![512, 1]⟩
abbrev S2048x256 : Shape := ⟨2, ![2048, 256]⟩
abbrev S512x256 : Shape := ⟨2, ![512, 256]⟩
abbrev S1x256 : Shape := ⟨2, ![1, 256]⟩
abbrev S256x2048 : Shape := ⟨2, ![256, 2048]⟩
abbrev S1x2048 : Shape := ⟨2, ![1, 2048]⟩

abbrev nBuf : Space → Nat
  | .hbm => 15
  | .vmem => 19
  | .smem => 2
  | _ => 0

abbrev bufTy : (tb : Table) → Fin (tcTables nBuf tb) → BufTy
  | .hbm, ⟨0, _⟩ => ⟨S160, .i32⟩
  | .hbm, ⟨1, _⟩ => ⟨S81920x2048, .bf16⟩
  | .hbm, ⟨2, _⟩ => ⟨S2x32x2048x4096, .f32⟩
  | .hbm, ⟨3, _⟩ => ⟨S2x32x4096, .f32⟩
  | .hbm, ⟨4, _⟩ => ⟨S2x32x2048x2048, .f32⟩
  | .hbm, ⟨5, _⟩ => ⟨S2x32x2048, .f32⟩
  | .hbm, ⟨6, _⟩ => ⟨S81920, .f32⟩
  | .hbm, ⟨7, _⟩ => ⟨S64x2048x4096, .f32⟩
  | .hbm, ⟨8, _⟩ => ⟨S64x2048x2048, .f32⟩
  | .hbm, ⟨9, _⟩ => ⟨S64x1x4096, .f32⟩
  | .hbm, ⟨10, _⟩ => ⟨S64x1x2048, .f32⟩
  | .hbm, ⟨11, _⟩ => ⟨S_, .i32⟩
  | .hbm, ⟨12, _⟩ => ⟨S160, .i32⟩
  | .hbm, ⟨13, _⟩ => ⟨S81920x1, .f32⟩
  | .hbm, ⟨14, _⟩ => ⟨S81920x2048, .f32⟩
  | .local _ .vmem, ⟨0, _⟩ => ⟨S512x2048, .bf16⟩
  | .local _ .vmem, ⟨1, _⟩ => ⟨S512x2048, .bf16⟩
  | .local _ .vmem, ⟨2, _⟩ => ⟨S1x2048x256, .f32⟩
  | .local _ .vmem, ⟨3, _⟩ => ⟨S1x2048x256, .f32⟩
  | .local _ .vmem, ⟨4, _⟩ => ⟨S1x2048x256, .f32⟩
  | .local _ .vmem, ⟨5, _⟩ => ⟨S1x2048x256, .f32⟩
  | .local _ .vmem, ⟨6, _⟩ => ⟨S1x1x256, .f32⟩
  | .local _ .vmem, ⟨7, _⟩ => ⟨S1x1x256, .f32⟩
  | .local _ .vmem, ⟨8, _⟩ => ⟨S1x1x256, .f32⟩
  | .local _ .vmem, ⟨9, _⟩ => ⟨S1x1x256, .f32⟩
  | .local _ .vmem, ⟨10, _⟩ => ⟨S1x256x2048, .f32⟩
  | .local _ .vmem, ⟨11, _⟩ => ⟨S1x256x2048, .f32⟩
  | .local _ .vmem, ⟨12, _⟩ => ⟨S1x1x2048, .f32⟩
  | .local _ .vmem, ⟨13, _⟩ => ⟨S1x1x2048, .f32⟩
  | .local _ .vmem, ⟨14, _⟩ => ⟨S512x1, .f32⟩
  | .local _ .vmem, ⟨15, _⟩ => ⟨S512x1, .f32⟩
  | .local _ .vmem, ⟨16, _⟩ => ⟨S512x2048, .f32⟩
  | .local _ .vmem, ⟨17, _⟩ => ⟨S512x2048, .f32⟩
  | .local _ .vmem, ⟨18, _⟩ => ⟨S512x2048, .f32⟩
  | .local _ .smem, ⟨0, _⟩ => ⟨S160, .i32⟩
  | .local _ .smem, ⟨1, _⟩ => ⟨S1, .i32⟩
  | _, _ => ⟨S160, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg2 : Ref sig .tc := ⟨.hbm, 1, rfl⟩
abbrev main_arg3 : Ref sig .tc := ⟨.hbm, 2, rfl⟩
abbrev main_arg4 : Ref sig .tc := ⟨.hbm, 3, rfl⟩
abbrev main_arg5 : Ref sig .tc := ⟨.hbm, 4, rfl⟩
abbrev main_arg6 : Ref sig .tc := ⟨.hbm, 5, rfl⟩
abbrev main_arg7 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_c : Ref sig .tc := ⟨.hbm, 11, rfl⟩
abbrev main_v4 : Ref sig .tc := ⟨.hbm, 12, rfl⟩
abbrev main_v6 : Ref sig .tc := ⟨.hbm, 13, rfl⟩
abbrev main_v7 : Ref sig .tc := ⟨.hbm, 14, rfl⟩
abbrev main_v5 : Ref sig .tc := ⟨.smem, 0, rfl⟩
abbrev main_arg1 : Ref sig .tc := ⟨.smem, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_scratch0 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨2, ![160, 8], ![false, false]⟩

abbrev pre0 : Pipeline.Prefetch sig := ⟨2, ![main_v5.idx, main_arg1.idx], fun | 0 => main_v5.names | 1 => main_arg1.names | ⟨_ + 2, h⟩ => absurd h (Nat.not_lt.2 (Nat.le_add_left _ _)), fun | 0 => rfl | 1 => rfl | ⟨_ + 2, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def k0_cond3 (i : grid0.Coords) : BitVec 1 :=
  let arg1 : BitVec 32 := BitVec.ofNat 32 (i 1).val
  let c7_i32 : BitVec 32 := 7#32
  let v7 : BitVec 1 := Scalar.cmpi .eq arg1 c7_i32
  let v8 : BitVec 32 := Scalar.extui v7
  let c0_i32_2 : BitVec 32 := 0#32
  let v9 : BitVec 1 := Scalar.cmpi .ne v8 c0_i32_2
  v9

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (k0_off1_inb : ∀ i : grid0.Coords, ∀ a, (k0_off1 i) a + S1.size a ≤ S160.size a) (numel1_S1 : S1.numel = 1) (inb_S1_S1_0 : ∀ a, (![0] : Fin 1 → Nat) a + S1.size a ≤ S1.size a) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg0
  let v1 : BitVec 32 := pf.at 0 (Rect.unit (s := S160) ![v0.toNat] S1.size (k0_off1_inb i)) numel1_S1
  let c0 : Index := 0#32
  let v2 : BitVec 32 := pf.at 1 (Rect.unit (s := S1) ![0] S1.size inb_S1_S1_0) numel1_S1
  let v3 : BitVec 1 := Scalar.cmpi .slt arg0 v2
  let c7_i32 : BitVec 32 := 7#32
  let v4 : BitVec 32 := Scalar.select v3 arg1 c7_i32
  let c0_i32 : BitVec 32 := 0#32
  let c0_i32_0 : BitVec 32 := 0#32
  ![v1.toNat, c0_i32.toNat, v4.toNat]

def cc0_transform_2 (k0_off1_inb : ∀ i : grid0.Coords, ∀ a, (k0_off1 i) a + S1.size a ≤ S160.size a) (numel1_S1 : S1.numel = 1) (inb_S1_S1_0 : ∀ a, (![0] : Fin 1 → Nat) a + S1.size a ≤ S1.size a) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg0
  let v1 : BitVec 32 := pf.at 0 (Rect.unit (s := S160) ![v0.toNat] S1.size (k0_off1_inb i)) numel1_S1
  let c0 : Index := 0#32
  let v2 : BitVec 32 := pf.at 1 (Rect.unit (s := S1) ![0] S1.size inb_S1_S1_0) numel1_S1
  let v3 : BitVec 1 := Scalar.cmpi .slt arg0 v2
  let c7_i32 : BitVec 32 := 7#32
  let v4 : BitVec 32 := Scalar.select v3 arg1 c7_i32
  let c8_i32 : BitVec 32 := 8#32
  let v5 : BitVec 32 := Scalar.addi c8_i32 v4
  let c0_i32 : BitVec 32 := 0#32
  let c0_i32_0 : BitVec 32 := 0#32
  ![v1.toNat, c0_i32.toNat, v5.toNat]

def cc0_transform_3 (k0_off1_inb : ∀ i : grid0.Coords, ∀ a, (k0_off1 i) a + S1.size a ≤ S160.size a) (numel1_S1 : S1.numel = 1) (inb_S1_S1_0 : ∀ a, (![0] : Fin 1 → Nat) a + S1.size a ≤ S1.size a) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg0
  let v1 : BitVec 32 := pf.at 0 (Rect.unit (s := S160) ![v0.toNat] S1.size (k0_off1_inb i)) numel1_S1
  let c0 : Index := 0#32
  let v2 : BitVec 32 := pf.at 1 (Rect.unit (s := S1) ![0] S1.size inb_S1_S1_0) numel1_S1
  let v3 : BitVec 1 := Scalar.cmpi .slt arg0 v2
  let c7_i32 : BitVec 32 := 7#32
  let v4 : BitVec 32 := Scalar.select v3 arg1 c7_i32
  let c0_i32 : BitVec 32 := 0#32
  let c0_i32_0 : BitVec 32 := 0#32
  ![v1.toNat, c0_i32.toNat, v4.toNat]

def cc0_transform_4 (k0_off1_inb : ∀ i : grid0.Coords, ∀ a, (k0_off1 i) a + S1.size a ≤ S160.size a) (numel1_S1 : S1.numel = 1) (inb_S1_S1_0 : ∀ a, (![0] : Fin 1 → Nat) a + S1.size a ≤ S1.size a) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg0
  let v1 : BitVec 32 := pf.at 0 (Rect.unit (s := S160) ![v0.toNat] S1.size (k0_off1_inb i)) numel1_S1
  let c0 : Index := 0#32
  let v2 : BitVec 32 := pf.at 1 (Rect.unit (s := S1) ![0] S1.size inb_S1_S1_0) numel1_S1
  let v3 : BitVec 1 := Scalar.cmpi .slt arg0 v2
  let c7_i32 : BitVec 32 := 7#32
  let v4 : BitVec 32 := Scalar.select v3 arg1 c7_i32
  let c8_i32 : BitVec 32 := 8#32
  let v5 : BitVec 32 := Scalar.addi c8_i32 v4
  let c0_i32 : BitVec 32 := 0#32
  let c0_i32_0 : BitVec 32 := 0#32
  ![v1.toNat, c0_i32.toNat, v5.toNat]

def cc0_transform_5 (k0_off1_inb : ∀ i : grid0.Coords, ∀ a, (k0_off1 i) a + S1.size a ≤ S160.size a) (numel1_S1 : S1.numel = 1) (inb_S1_S1_0 : ∀ a, (![0] : Fin 1 → Nat) a + S1.size a ≤ S1.size a) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg0
  let v1 : BitVec 32 := pf.at 0 (Rect.unit (s := S160) ![v0.toNat] S1.size (k0_off1_inb i)) numel1_S1
  let c0 : Index := 0#32
  let v2 : BitVec 32 := pf.at 1 (Rect.unit (s := S1) ![0] S1.size inb_S1_S1_0) numel1_S1
  let v3 : BitVec 1 := Scalar.cmpi .slt arg0 v2
  let c7_i32 : BitVec 32 := 7#32
  let v4 : BitVec 32 := Scalar.select v3 arg1 c7_i32
  let c0_i32 : BitVec 32 := 0#32
  let c0_i32_0 : BitVec 32 := 0#32
  ![v1.toNat, v4.toNat, c0_i32.toNat]

def cc0_transform_6 (k0_off1_inb : ∀ i : grid0.Coords, ∀ a, (k0_off1 i) a + S1.size a ≤ S160.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg0
  let v1 : BitVec 32 := pf.at 0 (Rect.unit (s := S160) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x2048x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x2048x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x1x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x256x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x1x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S512x1 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 2 → Memref sig .tc .vmem S512x2048 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]
-- ==== ReferenceIdeal.lean ====
abbrev S160 : Shape := ⟨1, ![160]⟩
abbrev S1 : Shape := ⟨1, ![1]⟩
abbrev S81920x2048 : Shape := ⟨2, ![81920, 2048]⟩
abbrev S2x32x2048x4096 : Shape := ⟨4, ![2, 32, 2048, 4096]⟩
abbrev S2x32x4096 : Shape := ⟨3, ![2, 32, 4096]⟩
abbrev S2x32x2048x2048 : Shape := ⟨4, ![2, 32, 2048, 2048]⟩
abbrev S2x32x2048 : Shape := ⟨3, ![2, 32, 2048]⟩
abbrev S81920 : Shape := ⟨1, ![81920]⟩
abbrev S160x512x2048 : Shape := ⟨3, ![160, 512, 2048]⟩
abbrev S1x32x2048x4096 : Shape := ⟨4, ![1, 32, 2048, 4096]⟩
abbrev S32x2048x4096 : Shape := ⟨3, ![32, 2048, 4096]⟩
abbrev S_ : Shape := ⟨0, ![]⟩
abbrev S160x1 : Shape := ⟨2, ![160, 1]⟩
abbrev S160x2048x4096 : Shape := ⟨3, ![160, 2048, 4096]⟩
abbrev S160x512x4096 : Shape := ⟨3, ![160, 512, 4096]⟩
abbrev S1x32x4096 : Shape := ⟨3, ![1, 32, 4096]⟩
abbrev S32x4096 : Shape := ⟨2, ![32, 4096]⟩
abbrev S160x4096 : Shape := ⟨2, ![160, 4096]⟩
abbrev S160x1x4096 : Shape := ⟨3, ![160, 1, 4096]⟩
abbrev S1x32x2048x2048 : Shape := ⟨4, ![1, 32, 2048, 2048]⟩
abbrev S32x2048x2048 : Shape := ⟨3, ![32, 2048, 2048]⟩
abbrev S160x2048x2048 : Shape := ⟨3, ![160, 2048, 2048]⟩
abbrev S1x32x2048 : Shape := ⟨3, ![1, 32, 2048]⟩
abbrev S32x2048 : Shape := ⟨2, ![32, 2048]⟩
abbrev S160x2048 : Shape := ⟨2, ![160, 2048]⟩
abbrev S160x1x2048 : Shape := ⟨3, ![160, 1, 2048]⟩
abbrev S81920x1 : Shape := ⟨2, ![81920, 1]⟩

abbrev nBuf : Space → Nat
  | .hbm => 95
  | .vmem => 0
  | .smem => 0
  | _ => 0

abbrev bufTy : (tb : Table) → Fin (tcTables nBuf tb) → BufTy
  | .hbm, ⟨0, _⟩ => ⟨S160, .i32⟩
  | .hbm, ⟨1, _⟩ => ⟨S1, .i32⟩
  | .hbm, ⟨2, _⟩ => ⟨S81920x2048, .bf16⟩
  | .hbm, ⟨3, _⟩ => ⟨S2x32x2048x4096, .f32⟩
  | .hbm, ⟨4, _⟩ => ⟨S2x32x4096, .f32⟩
  | .hbm, ⟨5, _⟩ => ⟨S2x32x2048x2048, .f32⟩
  | .hbm, ⟨6, _⟩ => ⟨S2x32x2048, .f32⟩
  | .hbm, ⟨7, _⟩ => ⟨S81920, .f32⟩
  | .hbm, ⟨8, _⟩ => ⟨S81920x2048, .f32⟩
  | .hbm, ⟨9, _⟩ => ⟨S160x512x2048, .f32⟩
  | .hbm, ⟨10, _⟩ => ⟨S1x32x2048x4096, .f32⟩
  | .hbm, ⟨11, _⟩ => ⟨S32x2048x4096, .f32⟩
  | .hbm, ⟨12, _⟩ => ⟨S_, .i32⟩
  | .hbm, ⟨13, _⟩ => ⟨S160, .i32⟩
  | .hbm, ⟨14, _⟩ => ⟨S160, .i1⟩
  | .hbm, ⟨15, _⟩ => ⟨S_, .i32⟩
  | .hbm, ⟨16, _⟩ => ⟨S160, .i32⟩
  | .hbm, ⟨17, _⟩ => ⟨S160, .i32⟩
  | .hbm, ⟨18, _⟩ => ⟨S160, .i32⟩
  | .hbm, ⟨19, _⟩ => ⟨S160x1, .i32⟩
  | .hbm, ⟨20, _⟩ => ⟨S160x2048x4096, .f32⟩
  | .hbm, ⟨21, _⟩ => ⟨S160x512x4096, .f32⟩
  | .hbm, ⟨22, _⟩ => ⟨S1x32x4096, .f32⟩
  | .hbm, ⟨23, _⟩ => ⟨S32x4096, .f32⟩
  | .hbm, ⟨24, _⟩ => ⟨S_, .i32⟩
  | .hbm, ⟨25, _⟩ => ⟨S160, .i32⟩
  | .hbm, ⟨26, _⟩ => ⟨S160, .i1⟩
  | .hbm, ⟨27, _⟩ => ⟨S_, .i32⟩
  | .hbm, ⟨28, _⟩ => ⟨S160, .i32⟩
  | .hbm, ⟨29, _⟩ => ⟨S160, .i32⟩
  | .hbm, ⟨30, _⟩ => ⟨S160, .i32⟩
  | .hbm, ⟨31, _⟩ => ⟨S160x1, .i32⟩
  | .hbm, ⟨32, _⟩ => ⟨S160x4096, .f32⟩
  | .hbm, ⟨33, _⟩ => ⟨S160x1x4096, .f32⟩
  | .hbm, ⟨34, _⟩ => ⟨S160x512x4096, .f32⟩
  | .hbm, ⟨35, _⟩ => ⟨S160x512x4096, .f32⟩
  | .hbm, ⟨36, _⟩ => ⟨S160x512x2048, .f32⟩
  | .hbm, ⟨37, _⟩ => ⟨S160x512x2048, .f32⟩
  | .hbm, ⟨38, _⟩ => ⟨S_, .f32⟩
  | .hbm, ⟨39, _⟩ => ⟨S160x512x2048, .f32⟩
  | .hbm, ⟨40, _⟩ => ⟨S160x512x2048, .f32⟩
  | .hbm, ⟨41, _⟩ => ⟨S_, .f32⟩
  | .hbm, ⟨42, _⟩ => ⟨S_, .f32⟩
  | .hbm, ⟨43, _⟩ => ⟨S_, .f32⟩
  | .hbm, ⟨44, _⟩ => ⟨S160x512x2048, .f32⟩
  | .hbm, ⟨45, _⟩ => ⟨S160x512x2048, .f32⟩
  | .hbm, ⟨46, _⟩ => ⟨S_, .f32⟩
  | .hbm, ⟨47, _⟩ => ⟨S160x512x2048, .f32⟩
  | .hbm, ⟨48, _⟩ => ⟨S160x512x2048, .f32⟩
  | .hbm, ⟨49, _⟩ => ⟨S_, .f32⟩
  | .hbm, ⟨50, _⟩ => ⟨S160x512x2048, .f32⟩
  | .hbm, ⟨51, _⟩ => ⟨S160x512x2048, .f32⟩
  | .hbm, ⟨52, _⟩ => ⟨S160x512x2048, .f32⟩
  | .hbm, ⟨53, _⟩ => ⟨S160x512x2048, .f32⟩
  | .hbm, ⟨54, _⟩ => ⟨S_, .f32⟩
  | .hbm, ⟨55, _⟩ => ⟨S160x512x2048, .f32⟩
  | .hbm, ⟨56, _⟩ => ⟨S160x512x2048, .f32⟩
  | .hbm, ⟨57, _⟩ => ⟨S_, .f32⟩
  | .hbm, ⟨58, _⟩ => ⟨S160x512x2048, .f32⟩
  | .hbm, ⟨59, _⟩ => ⟨S160x512x2048, .f32⟩
  | .hbm, ⟨60, _⟩ => ⟨S160x512x2048, .f32⟩
  | .hbm, ⟨61, _⟩ => ⟨S_, .f32⟩
  | .hbm, ⟨62, _⟩ => ⟨S160x512x2048, .f32⟩
  | .hbm, ⟨63, _⟩ => ⟨S160x512x2048, .f32⟩
  | .hbm, ⟨64, _⟩ => ⟨S160x512x2048, .f32⟩
  | .hbm, ⟨65, _⟩ => ⟨S1x32x2048x2048, .f32⟩
  | .hbm, ⟨66, _⟩ => ⟨S32x2048x2048, .f32⟩
  | .hbm, ⟨67, _⟩ => ⟨S_, .i32⟩
  | .hbm, ⟨68, _⟩ => ⟨S160, .i32⟩
  | .hbm, ⟨69, _⟩ => ⟨S160, .i1⟩
  | .hbm, ⟨70, _⟩ => ⟨S_, .i32⟩
  | .hbm, ⟨71, _⟩ => ⟨S160, .i32⟩
  | .hbm, ⟨72, _⟩ => ⟨S160, .i32⟩
  | .hbm, ⟨73, _⟩ => ⟨S160, .i32⟩
  | .hbm, ⟨74, _⟩ => ⟨S160x1, .i32⟩
  | .hbm, ⟨75, _⟩ => ⟨S160x2048x2048, .f32⟩
  | .hbm, ⟨76, _⟩ => ⟨S160x512x2048, .f32⟩
  | .hbm, ⟨77, _⟩ => ⟨S1x32x2048, .f32⟩
  | .hbm, ⟨78, _⟩ => ⟨S32x2048, .f32⟩
  | .hbm, ⟨79, _⟩ => ⟨S_, .i32⟩
  | .hbm, ⟨80, _⟩ => ⟨S160, .i32⟩
  | .hbm, ⟨81, _⟩ => ⟨S160, .i1⟩
  | .hbm, ⟨82, _⟩ => ⟨S_, .i32⟩
  | .hbm, ⟨83, _⟩ => ⟨S160, .i32⟩
  | .hbm, ⟨84, _⟩ => ⟨S160, .i32⟩
  | .hbm, ⟨85, _⟩ => ⟨S160, .i32⟩
  | .hbm, ⟨86, _⟩ => ⟨S160x1, .i32⟩
  | .hbm, ⟨87, _⟩ => ⟨S160x2048, .f32⟩
  | .hbm, ⟨88, _⟩ => ⟨S160x1x2048, .f32⟩
  | .hbm, ⟨89, _⟩ => ⟨S160x512x2048, .f32⟩
  | .hbm, ⟨90, _⟩ => ⟨S160x512x2048, .f32⟩
  | .hbm, ⟨91, _⟩ => ⟨S81920x2048, .f32⟩
  | .hbm, ⟨92, _⟩ => ⟨S81920x1, .f32⟩
  | .hbm, ⟨93, _⟩ => ⟨S81920x2048, .f32⟩
  | .hbm, ⟨94, _⟩ => ⟨S81920x2048, .f32⟩
  | _, _ => ⟨S160, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_c : Ref sig .tc := ⟨.hbm, 12, rfl⟩
abbrev main_v4 : Ref sig .tc := ⟨.hbm, 13, rfl⟩
abbrev main_v5 : Ref sig .tc := ⟨.hbm, 14, rfl⟩
abbrev main_c_0 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_c_1 : Ref sig .tc := ⟨.hbm, 24, rfl⟩
abbrev main_v14 : Ref sig .tc := ⟨.hbm, 25, rfl⟩
abbrev main_v15 : Ref sig .tc := ⟨.hbm, 26, rfl⟩
abbrev main_c_2 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_cst : Ref sig .tc := ⟨.hbm, 38, rfl⟩
abbrev main_v26 : Ref sig .tc := ⟨.hbm, 39, rfl⟩
abbrev main_v27 : Ref sig .tc := ⟨.hbm, 40, rfl⟩
abbrev main_cst_3 : Ref sig .tc := ⟨.hbm, 41, rfl⟩
abbrev main_cst_4 : Ref sig .tc := ⟨.hbm, 42, rfl⟩
abbrev main_call0_v0 : Ref sig .tc := ⟨.hbm, 43, rfl⟩
abbrev main_call0_v1 : Ref sig .tc := ⟨.hbm, 44, rfl⟩
abbrev main_call0_v2 : Ref sig .tc := ⟨.hbm, 45, rfl⟩
abbrev main_call0_v3 : Ref sig .tc := ⟨.hbm, 46, rfl⟩
abbrev main_call0_v4 : Ref sig .tc := ⟨.hbm, 47, rfl⟩
abbrev main_v28 : Ref sig .tc := ⟨.hbm, 48, rfl⟩
abbrev main_cst_5 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_cst_6 : Ref sig .tc := ⟨.hbm, 54, rfl⟩
abbrev main_v33 : Ref sig .tc := ⟨.hbm, 55, rfl⟩
abbrev main_v34 : Ref sig .tc := ⟨.hbm, 56, rfl⟩
abbrev main_cst_7 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩
abbrev main_cst_8 : Ref sig .tc := ⟨.hbm, 61, rfl⟩
abbrev main_v38 : Ref sig .tc := ⟨.hbm, 62, rfl⟩
abbrev main_v39 : Ref sig .tc := ⟨.hbm, 63, rfl⟩
abbrev main_v40 : Ref sig .tc := ⟨.hbm, 64, rfl⟩
abbrev main_v41 : Ref sig .tc := ⟨.hbm, 65, rfl⟩
abbrev main_v42 : Ref sig .tc := ⟨.hbm, 66, rfl⟩
abbrev main_c_9 : Ref sig .tc := ⟨.hbm, 67, rfl⟩
abbrev main_v43 : Ref sig .tc := ⟨.hbm, 68, rfl⟩
abbrev main_v44 : Ref sig .tc := ⟨.hbm, 69, rfl⟩
abbrev main_c_10 : Ref sig .tc := ⟨.hbm, 70, rfl⟩
abbrev main_v45 : Ref sig .tc := ⟨.hbm, 71, rfl⟩
abbrev main_v46 : Ref sig .tc := ⟨.hbm, 72, rfl⟩
abbrev main_v47 : Ref sig .tc := ⟨.hbm, 73, rfl⟩
abbrev main_v48 : Ref sig .tc := ⟨.hbm, 74, rfl⟩
abbrev main_v49 : Ref sig .tc := ⟨.hbm, 75, rfl⟩
abbrev main_v50 : Ref sig .tc := ⟨.hbm, 76, rfl⟩
abbrev main_v51 : Ref sig .tc := ⟨.hbm, 77, rfl⟩
abbrev main_v52 : Ref sig .tc := ⟨.hbm, 78, rfl⟩
abbrev main_c_11 : Ref sig .tc := ⟨.hbm, 79, rfl⟩
abbrev main_v53 : Ref sig .tc := ⟨.hbm, 80, rfl⟩
abbrev main_v54 : Ref sig .tc := ⟨.hbm, 81, rfl⟩
abbrev main_c_12 : Ref sig .tc := ⟨.hbm, 82, rfl⟩
abbrev main_v55 : Ref sig .tc := ⟨.hbm, 83, rfl⟩
abbrev main_v56 : Ref sig .tc := ⟨.hbm, 84, rfl⟩
abbrev main_v57 : Ref sig .tc := ⟨.hbm, 85, rfl⟩
abbrev main_v58 : Ref sig .tc := ⟨.hbm, 86, rfl⟩
abbrev main_v59 : Ref sig .tc := ⟨.hbm, 87, rfl⟩
abbrev main_v60 : Ref sig .tc := ⟨.hbm, 88, rfl⟩
abbrev main_v61 : Ref sig .tc := ⟨.hbm, 89, rfl⟩
abbrev main_v62 : Ref sig .tc := ⟨.hbm, 90, rfl⟩
abbrev main_v63 : Ref sig .tc := ⟨.hbm, 91, rfl⟩
abbrev main_v64 : Ref sig .tc := ⟨.hbm, 92, rfl⟩
abbrev main_v65 : Ref sig .tc := ⟨.hbm, 93, rfl⟩
abbrev main_v66 : Ref sig .tc := ⟨.hbm, 94, rfl⟩

abbrev nD : Nat := 1
abbrev τ : Topo := Topo.v7x

variable {F : FTy → Type} [FloatOps F]
-- ==== Kernel2.lean ====
abbrev S4x4096x2048 : Shape := ⟨3, ![4, 4096, 2048]⟩
abbrev S4x1x2048 : Shape := ⟨3, ![4, 1, 2048]⟩
abbrev S2048x6144 : Shape := ⟨2, ![2048, 6144]⟩
abbrev S4x4096x1024 : Shape := ⟨3, ![4, 4096, 1024]⟩
abbrev S4x4096x768 : Shape := ⟨3, ![4, 4096, 768]⟩
abbrev S4x4096x1536 : Shape := ⟨3, ![4, 4096, 1536]⟩
abbrev S4x4096x1280 : Shape := ⟨3, ![4, 4096, 1280]⟩
abbrev S1x256x2048 : Shape := ⟨3, ![1, 256, 2048]⟩
abbrev S1x1x2048 : Shape := ⟨3, ![1, 1, 2048]⟩
abbrev S1x256x1024 : Shape := ⟨3, ![1, 256, 1024]⟩
abbrev S1x256x768 : Shape := ⟨3, ![1, 256, 768]⟩
abbrev S1x256x1536 : Shape := ⟨3, ![1, 256, 1536]⟩
abbrev S1x256x1280 : Shape := ⟨3, ![1, 256, 1280]⟩
abbrev S256x2048 : Shape := ⟨2, ![256, 2048]⟩
abbrev S256 : Shape := ⟨1, ![256]⟩
abbrev S256x1 : Shape := ⟨2, ![256, 1]⟩
abbrev S1x2048 : Shape := ⟨2, ![1, 2048]⟩
abbrev S2048x1024 : Shape := ⟨2, ![2048, 1024]⟩
abbrev S256x1024 : Shape := ⟨2, ![256, 1024]⟩
abbrev S2048x768 : Shape := ⟨2, ![2048, 768]⟩
abbrev S256x768 : Shape := ⟨2, ![256, 768]⟩
abbrev S2048x1536 : Shape := ⟨2, ![2048, 1536]⟩
abbrev S256x1536 : Shape := ⟨2, ![256, 1536]⟩
abbrev S2048x1280 : Shape := ⟨2, ![2048, 1280]⟩
abbrev S256x1280 : Shape := ⟨2, ![256, 1280]⟩

abbrev nBuf : Space → Nat
  | .hbm => 9
  | .vmem => 17
  | .smem => 0
  | _ => 0

abbrev bufTy : (tb : Table) → Fin (tcTables nBuf tb) → BufTy
  | .hbm, ⟨0, _⟩ => ⟨S4x4096x2048, .f32⟩
  | .hbm, ⟨1, _⟩ => ⟨S4x1x2048, .f32⟩
  | .hbm, ⟨2, _⟩ => ⟨S4x1x2048, .f32⟩
  | .hbm, ⟨3, _⟩ => ⟨S2048x6144, .bf16⟩
  | .hbm, ⟨4, _⟩ => ⟨S4x4096x1024, .f32⟩
  | .hbm, ⟨5, _⟩ => ⟨S4x4096x768, .f32⟩
  | .hbm, ⟨6, _⟩ => ⟨S4x4096x1536, .f32⟩
  | .hbm, ⟨7, _⟩ => ⟨S4x4096x1536, .f32⟩
  | .hbm, ⟨8, _⟩ => ⟨S4x4096x1280, .f32⟩
  | .local _ .vmem, ⟨0, _⟩ => ⟨S1x256x2048, .f32⟩
  | .local _ .vmem, ⟨1, _⟩ => ⟨S1x256x2048, .f32⟩
  | .local _ .vmem, ⟨2, _⟩ => ⟨S1x1x2048, .f32⟩
  | .local _ .vmem, ⟨3, _⟩ => ⟨S1x1x2048, .f32⟩
  | .local _ .vmem, ⟨4, _⟩ => ⟨S1x1x2048, .f32⟩
  | .local _ .vmem, ⟨5, _⟩ => ⟨S1x1x2048, .f32⟩
  | .local _ .vmem, ⟨6, _⟩ => ⟨S2048x6144, .bf16⟩
  | .local _ .vmem, ⟨7, _⟩ => ⟨S1x256x1024, .f32⟩
  | .local _ .vmem, ⟨8, _⟩ => ⟨S1x256x1024, .f32⟩
  | .local _ .vmem, ⟨9, _⟩ => ⟨S1x256x768, .f32⟩
  | .local _ .vmem, ⟨10, _⟩ => ⟨S1x256x768, .f32⟩
  | .local _ .vmem, ⟨11, _⟩ => ⟨S1x256x1536, .f32⟩
  | .local _ .vmem, ⟨12, _⟩ => ⟨S1x256x1536, .f32⟩
  | .local _ .vmem, ⟨13, _⟩ => ⟨S1x256x1536, .f32⟩
  | .local _ .vmem, ⟨14, _⟩ => ⟨S1x256x1536, .f32⟩
  | .local _ .vmem, ⟨15, _⟩ => ⟨S1x256x1280, .f32⟩
  | .local _ .vmem, ⟨16, _⟩ => ⟨S1x256x1280, .f32⟩
  | _, _ => ⟨S4x4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev main_v0_4 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16

abbrev nD : Nat := 1
abbrev τ : Topo := Topo.v7x

variable {F : FTy → Type} [FloatOps F]

abbrev grid0 : Pipeline.Grid := ⟨2, ![4, 16], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x1x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 1 → Memref sig .tc .vmem S2048x6144 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1x256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x256x768 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x256x1536 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x256x1536 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x256x1280 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== Reference2Ideal.lean ====
abbrev S4x4096x2048 : Shape := ⟨3, ![4, 4096, 2048]⟩
abbrev S4x1x2048 : Shape := ⟨3, ![4, 1, 2048]⟩
abbrev S2048x6144 : Shape := ⟨2, ![2048, 6144]⟩
abbrev S_ : Shape := ⟨0, ![]⟩
abbrev S4x4096 : Shape := ⟨2, ![4, 4096]⟩
abbrev S4x4096x1 : Shape := ⟨3, ![4, 4096, 1]⟩
abbrev S4x4096x6144 : Shape := ⟨3, ![4, 4096, 6144]⟩
abbrev S4x4096x1024 : Shape := ⟨3, ![4, 4096, 1024]⟩
abbrev S4x4096x768 : Shape := ⟨3, ![4, 4096, 768]⟩
abbrev S4x4096x1536 : Shape := ⟨3, ![4, 4096, 1536]⟩
abbrev S4x4096x1280 : Shape := ⟨3, ![4, 4096, 1280]⟩

abbrev nBuf : Space → Nat
  | .hbm => 41
  | .vmem => 0
  | .smem => 0
  | _ => 0

abbrev bufTy : (tb : Table) → Fin (tcTables nBuf tb) → BufTy
  | .hbm, ⟨0, _⟩ => ⟨S4x4096x2048, .f32⟩
  | .hbm, ⟨1, _⟩ => ⟨S4x1x2048, .f32⟩
  | .hbm, ⟨2, _⟩ => ⟨S4x1x2048, .f32⟩
  | .hbm, ⟨3, _⟩ => ⟨S2048x6144, .bf16⟩
  | .hbm, ⟨4, _⟩ => ⟨S_, .f32⟩
  | .hbm, ⟨5, _⟩ => ⟨S4x4096, .f32⟩
  | .hbm, ⟨6, _⟩ => ⟨S4x4096x1, .f32⟩
  | .hbm, ⟨7, _⟩ => ⟨S_, .f32⟩
  | .hbm, ⟨8, _⟩ => ⟨S4x4096x1, .f32⟩
  | .hbm, ⟨9, _⟩ => ⟨S4x4096x1, .f32⟩
  | .hbm, ⟨10, _⟩ => ⟨S4x4096x2048, .f32⟩
  | .hbm, ⟨11, _⟩ => ⟨S4x4096x2048, .f32⟩
  | .hbm, ⟨12, _⟩ => ⟨S4x4096x2048, .f32⟩
  | .hbm, ⟨13, _⟩ => ⟨S_, .f32⟩
  | .hbm, ⟨14, _⟩ => ⟨S4x4096, .f32⟩
  | .hbm, ⟨15, _⟩ => ⟨S4x4096x1, .f32⟩
  | .hbm, ⟨16, _⟩ => ⟨S_, .f32⟩
  | .hbm, ⟨17, _⟩ => ⟨S4x4096x1, .f32⟩
  | .hbm, ⟨18, _⟩ => ⟨S4x4096x1, .f32⟩
  | .hbm, ⟨19, _⟩ => ⟨S4x4096x2048, .f32⟩
  | .hbm, ⟨20, _⟩ => ⟨S4x4096x2048, .f32⟩
  | .hbm, ⟨21, _⟩ => ⟨S_, .f32⟩
  | .hbm, ⟨22, _⟩ => ⟨S4x4096x1, .f32⟩
  | .hbm, ⟨23, _⟩ => ⟨S4x4096x1, .f32⟩
  | .hbm, ⟨24, _⟩ => ⟨S4x4096x1, .f32⟩
  | .hbm, ⟨25, _⟩ => ⟨S4x4096x2048, .f32⟩
  | .hbm, ⟨26, _⟩ => ⟨S4x4096x2048, .f32⟩
  | .hbm, ⟨27, _⟩ => ⟨S_, .f32⟩
  | .hbm, ⟨28, _⟩ => ⟨S4x1x2048, .f32⟩
  | .hbm, ⟨29, _⟩ => ⟨S4x1x2048, .f32⟩
  | .hbm, ⟨30, _⟩ => ⟨S4x4096x2048, .f32⟩
  | .hbm, ⟨31, _⟩ => ⟨S4x4096x2048, .f32⟩
  | .hbm, ⟨32, _⟩ => ⟨S4x4096x2048, .f32⟩
  | .hbm, ⟨33, _⟩ => ⟨S4x4096x2048, .f32⟩
  | .hbm, ⟨34, _⟩ => ⟨S2048x6144, .f32⟩
  | .hbm, ⟨35, _⟩ => ⟨S4x4096x6144, .f32⟩
  | .hbm, ⟨36, _⟩ => ⟨S4x4096x1024, .f32⟩
  | .hbm, ⟨37, _⟩ => ⟨S4x4096x768, .f32⟩
  | .hbm, ⟨38, _⟩ => ⟨S4x4096x1536, .f32⟩
  | .hbm, ⟨39, _⟩ => ⟨S4x4096x1536, .f32⟩
  | .hbm, ⟨40, _⟩ => ⟨S4x4096x1280, .f32⟩
  | _, _ => ⟨S4x4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst_1 : Ref sig .tc := ⟨.hbm, 13, rfl⟩
abbrev main_v7 : Ref sig .tc := ⟨.hbm, 14, rfl⟩
abbrev main_v8 : Ref sig .tc := ⟨.hbm, 15, rfl⟩
abbrev main_cst_2 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_cst_3 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_cst_4 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩

abbrev nD : Nat := 1
abbrev τ : Topo := Topo.v7x

variable {F : FTy → Type} [FloatOps F]
-- ==== Kernel3.lean ====
abbrev S4x4096x512 : Shape := ⟨3, ![4, 4096, 512]⟩
abbrev S2048x2048 : Shape := ⟨2, ![2048, 2048]⟩
abbrev S4x4096x2048 : Shape := ⟨3, ![4, 4096, 2048]⟩
abbrev S4x1x2048 : Shape := ⟨3, ![4, 1, 2048]⟩
abbrev S2048 : Shape := ⟨1, ![2048]⟩
abbrev S2048x32 : Shape := ⟨2, ![2048, 32]⟩
abbrev S32 : Shape := ⟨1, ![32]⟩
abbrev S1x2048 : Shape := ⟨2, ![1, 2048]⟩
abbrev S1x32 : Shape := ⟨2, ![1, 32]⟩
abbrev S4x4096x32 : Shape := ⟨3, ![4, 4096, 32]⟩
abbrev S1x256x512 : Shape := ⟨3, ![1, 256, 512]⟩
abbrev S1x256x2048 : Shape := ⟨3, ![1, 256, 2048]⟩
abbrev S1x1x2048 : Shape := ⟨3, ![1, 1, 2048]⟩
abbrev S1x256x32 : Shape := ⟨3, ![1, 256, 32]⟩
abbrev S256x2048 : Shape := ⟨2, ![256, 2048]⟩
abbrev S256x512 : Shape := ⟨2, ![256, 512]⟩
abbrev S512x2048 : Shape := ⟨2, ![512, 2048]⟩
abbrev S256 : Shape := ⟨1, ![256]⟩
abbrev S256x1 : Shape := ⟨2, ![256, 1]⟩
abbrev S256x32 : Shape := ⟨2, ![256, 32]⟩

abbrev nBuf : Space → Nat
  | .hbm => 19
  | .vmem => 27
  | .smem => 0
  | _ => 0

abbrev bufTy : (tb : Table) → Fin (tcTables nBuf tb) → BufTy
  | .hbm, ⟨0, _⟩ => ⟨S4x4096x512, .bf16⟩
  | .hbm, ⟨1, _⟩ => ⟨S4x4096x512, .bf16⟩
  | .hbm, ⟨2, _⟩ => ⟨S4x4096x512, .bf16⟩
  | .hbm, ⟨3, _⟩ => ⟨S4x4096x512, .bf16⟩
  | .hbm, ⟨4, _⟩ => ⟨S2048x2048, .bf16⟩
  | .hbm, ⟨5, _⟩ => ⟨S4x4096x2048, .f32⟩
  | .hbm, ⟨6, _⟩ => ⟨S4x1x2048, .f32⟩
  | .hbm, ⟨7, _⟩ => ⟨S2048, .f32⟩
  | .hbm, ⟨8, _⟩ => ⟨S2048, .f32⟩
  | .hbm, ⟨9, _⟩ => ⟨S4x1x2048, .f32⟩
  | .hbm, ⟨10, _⟩ => ⟨S4x1x2048, .f32⟩
  | .hbm, ⟨11, _⟩ => ⟨S2048x32, .f32⟩
  | .hbm, ⟨12, _⟩ => ⟨S32, .f32⟩
  | .hbm, ⟨13, _⟩ => ⟨S1x2048, .f32⟩
  | .hbm, ⟨14, _⟩ => ⟨S1x2048, .f32⟩
  | .hbm, ⟨15, _⟩ => ⟨S1x32, .f32⟩
  | .hbm, ⟨16, _⟩ => ⟨S4x4096x2048, .f32⟩
  | .hbm, ⟨17, _⟩ => ⟨S4x4096x2048, .bf16⟩
  | .hbm, ⟨18, _⟩ => ⟨S4x4096x32, .f32⟩
  | .local _ .vmem, ⟨0, _⟩ => ⟨S1x256x512, .bf16⟩
  | .local _ .vmem, ⟨1, _⟩ => ⟨S1x256x512, .bf16⟩
  | .local _ .vmem, ⟨2, _⟩ => ⟨S1x256x512, .bf16⟩
  | .local _ .vmem, ⟨3, _⟩ => ⟨S1x256x512, .bf16⟩
  | .local _ .vmem, ⟨4, _⟩ => ⟨S1x256x512, .bf16⟩
  | .local _ .vmem, ⟨5, _⟩ => ⟨S1x256x512, .bf16⟩
  | .local _ .vmem, ⟨6, _⟩ => ⟨S1x256x512, .bf16⟩
  | .local _ .vmem, ⟨7, _⟩ => ⟨S1x256x512, .bf16⟩
  | .local _ .vmem, ⟨8, _⟩ => ⟨S2048x2048, .bf16⟩
  | .local _ .vmem, ⟨9, _⟩ => ⟨S1x256x2048, .f32⟩
  | .local _ .vmem, ⟨10, _⟩ => ⟨S1x256x2048, .f32⟩
  | .local _ .vmem, ⟨11, _⟩ => ⟨S1x1x2048, .f32⟩
  | .local _ .vmem, ⟨12, _⟩ => ⟨S1x1x2048, .f32⟩
  | .local _ .vmem, ⟨13, _⟩ => ⟨S1x2048, .f32⟩
  | .local _ .vmem, ⟨14, _⟩ => ⟨S1x2048, .f32⟩
  | .local _ .vmem, ⟨15, _⟩ => ⟨S1x1x2048, .f32⟩
  | .local _ .vmem, ⟨16, _⟩ => ⟨S1x1x2048, .f32⟩
  | .local _ .vmem, ⟨17, _⟩ => ⟨S1x1x2048, .f32⟩
  | .local _ .vmem, ⟨18, _⟩ => ⟨S1x1x2048, .f32⟩
  | .local _ .vmem, ⟨19, _⟩ => ⟨S2048x32, .f32⟩
  | .local _ .vmem, ⟨20, _⟩ => ⟨S1x32, .f32⟩
  | .local _ .vmem, ⟨21, _⟩ => ⟨S1x256x2048, .f32⟩
  | .local _ .vmem, ⟨22, _⟩ => ⟨S1x256x2048, .f32⟩
  | .local _ .vmem, ⟨23, _⟩ => ⟨S1x256x2048, .bf16⟩
  | .local _ .vmem, ⟨24, _⟩ => ⟨S1x256x2048, .bf16⟩
  | .local _ .vmem, ⟨25, _⟩ => ⟨S1x256x32, .f32⟩
  | .local _ .vmem, ⟨26, _⟩ => ⟨S1x256x32, .f32⟩
  | _, _ => ⟨S4x4096x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | _, _ => false

abbrev semScoped : Fin 0 → Bool
  | ⟨_, h⟩ => absurd h (Nat.not_lt_zero _)

abbrev dmaSemScoped : Fin 27 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | _ => false

abbrev sig : RefSig :=
  ofTc nBuf bufTy 0 27 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3_0 : Ref sig .tc := ⟨.hbm, 16, rfl⟩
abbrev main_v3_1 : Ref sig .tc := ⟨.hbm, 17, rfl⟩
abbrev main_v3_2 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg8_0 : Ref sig .tc := ⟨.vmem, 14, rfl⟩
abbrev cc0_stg9_0 : Ref sig .tc := ⟨.vmem, 15, rfl⟩
abbrev cc0_stg9_1 : Ref sig .tc := ⟨.vmem, 16, rfl⟩
abbrev cc0_stg10_0 : Ref sig .tc := ⟨.vmem, 17, rfl⟩
abbrev cc0_stg10_1 : Ref sig .tc := ⟨.vmem, 18, rfl⟩
abbrev cc0_stg11_0 : Ref sig .tc := ⟨.vmem, 19, rfl⟩
abbrev cc0_stg12_0 : Ref sig .tc := ⟨.vmem, 20, rfl⟩
abbrev cc0_stg13_0 : Ref sig .tc := ⟨.vmem, 21, rfl⟩
abbrev cc0_stg13_1 : Ref sig .tc := ⟨.vmem, 22, rfl⟩
abbrev cc0_stg14_0 : Ref sig .tc := ⟨.vmem, 23, rfl⟩
abbrev cc0_stg14_1 : Ref sig .tc := ⟨.vmem, 24, rfl⟩
abbrev cc0_stg15_0 : Ref sig .tc := ⟨.vmem, 25, rfl⟩
abbrev cc0_stg15_1 : Ref sig .tc := ⟨.vmem, 26, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem8_0 : DmaSem sig := 14
abbrev cc0_sem9_0 : DmaSem sig := 15
abbrev cc0_sem9_1 : DmaSem sig := 16
abbrev cc0_sem10_0 : DmaSem sig := 17
abbrev cc0_sem10_1 : DmaSem sig := 18
abbrev cc0_sem11_0 : DmaSem sig := 19
abbrev cc0_sem12_0 : DmaSem sig := 20
abbrev cc0_sem13_0 : DmaSem sig := 21
abbrev cc0_sem13_1 : DmaSem sig := 22
abbrev cc0_sem14_0 : DmaSem sig := 23
abbrev cc0_sem14_1 : DmaSem sig := 24
abbrev cc0_sem15_0 : DmaSem sig := 25
abbrev cc0_sem15_1 : DmaSem sig := 26

abbrev nD : Nat := 1
abbrev τ : Topo := Topo.v7x

variable {F : FTy → Type} [FloatOps F]

abbrev grid0 : Pipeline.Grid := ⟨2, ![4, 16], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_14 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_15 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x256x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x256x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x256x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 1 → Memref sig .tc .vmem S2048x2048 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S1x256x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x1x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 1 → Memref sig .tc .vmem S1x2048 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1x2048 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 2 → Memref sig .tc .vmem S1x1x2048 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false]

abbrev stage0_10 : Fin 2 → Memref sig .tc .vmem S1x1x2048 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, false]

abbrev stage0_11 : Fin 1 → Memref sig .tc .vmem S2048x32 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]

abbrev stage0_12 : Fin 1 → Memref sig .tc .vmem S1x32 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false, false]

abbrev stage0_13 : Fin 2 → Memref sig .tc .vmem S1x256x2048 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true]

abbrev stage0_14 : Fin 2 → Memref sig .tc .vmem S1x256x2048 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, true]

abbrev stage0_15 : Fin 2 → Memref sig .tc .vmem S1x256x32 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true, true]
-- ==== Reference3Ideal.lean ====
abbrev S4x4096x512 : Shape := ⟨3, ![4, 4096, 512]⟩
abbrev S2048x2048 : Shape := ⟨2, ![2048, 2048]⟩
abbrev S4x4096x2048 : Shape := ⟨3, ![4, 4096, 2048]⟩
abbrev S4x1x2048 : Shape := ⟨3, ![4, 1, 2048]⟩
abbrev S2048 : Shape := ⟨1, ![2048]⟩
abbrev S2048x32 : Shape := ⟨2, ![2048, 32]⟩
abbrev S32 : Shape := ⟨1, ![32]⟩
abbrev S_ : Shape := ⟨0, ![]⟩
abbrev S4x4096 : Shape := ⟨2, ![4, 4096]⟩
abbrev S4x4096x1 : Shape := ⟨3, ![4, 4096, 1]⟩
abbrev S1x1x2048 : Shape := ⟨3, ![1, 1, 2048]⟩
abbrev S4x4096x32 : Shape := ⟨3, ![4, 4096, 32]⟩
abbrev S1x1x32 : Shape := ⟨3, ![1, 1, 32]⟩

abbrev nBuf : Space → Nat
  | .hbm => 90
  | .vmem => 0
  | .smem => 0
  | _ => 0

abbrev bufTy : (tb : Table) → Fin (tcTables nBuf tb) → BufTy
  | .hbm, ⟨0, _⟩ => ⟨S4x4096x512, .bf16⟩
  | .hbm, ⟨1, _⟩ => ⟨S4x4096x512, .bf16⟩
  | .hbm, ⟨2, _⟩ => ⟨S4x4096x512, .bf16⟩
  | .hbm, ⟨3, _⟩ => ⟨S4x4096x512, .bf16⟩
  | .hbm, ⟨4, _⟩ => ⟨S2048x2048, .bf16⟩
  | .hbm, ⟨5, _⟩ => ⟨S4x4096x2048, .f32⟩
  | .hbm, ⟨6, _⟩ => ⟨S4x1x2048, .f32⟩
  | .hbm, ⟨7, _⟩ => ⟨S2048, .f32⟩
  | .hbm, ⟨8, _⟩ => ⟨S2048, .f32⟩
  | .hbm, ⟨9, _⟩ => ⟨S4x1x2048, .f32⟩
  | .hbm, ⟨10, _⟩ => ⟨S4x1x2048, .f32⟩
  | .hbm, ⟨11, _⟩ => ⟨S2048x32, .f32⟩
  | .hbm, ⟨12, _⟩ => ⟨S32, .f32⟩
  | .hbm, ⟨13, _⟩ => ⟨S4x4096x2048, .bf16⟩
  | .hbm, ⟨14, _⟩ => ⟨S4x4096x2048, .f32⟩
  | .hbm, ⟨15, _⟩ => ⟨S2048x2048, .f32⟩
  | .hbm, ⟨16, _⟩ => ⟨S4x4096x2048, .f32⟩
  | .hbm, ⟨17, _⟩ => ⟨S_, .f32⟩
  | .hbm, ⟨18, _⟩ => ⟨S4x4096x2048, .f32⟩
  | .hbm, ⟨19, _⟩ => ⟨S4x4096x2048, .f32⟩
  | .hbm, ⟨20, _⟩ => ⟨S_, .f32⟩
  | .hbm, ⟨21, _⟩ => ⟨S4x1x2048, .f32⟩
  | .hbm, ⟨22, _⟩ => ⟨S4x1x2048, .f32⟩
  | .hbm, ⟨23, _⟩ => ⟨S4x4096x2048, .f32⟩
  | .hbm, ⟨24, _⟩ => ⟨S4x4096x2048, .f32⟩
  | .hbm, ⟨25, _⟩ => ⟨S4x4096x2048, .f32⟩
  | .hbm, ⟨26, _⟩ => ⟨S_, .f32⟩
  | .hbm, ⟨27, _⟩ => ⟨S4x4096, .f32⟩
  | .hbm, ⟨28, _⟩ => ⟨S4x4096x1, .f32⟩
  | .hbm, ⟨29, _⟩ => ⟨S_, .f32⟩
  | .hbm, ⟨30, _⟩ => ⟨S4x4096x1, .f32⟩
  | .hbm, ⟨31, _⟩ => ⟨S4x4096x1, .f32⟩
  | .hbm, ⟨32, _⟩ => ⟨S4x4096x2048, .f32⟩
  | .hbm, ⟨33, _⟩ => ⟨S4x4096x2048, .f32⟩
  | .hbm, ⟨34, _⟩ => ⟨S4x4096x2048, .f32⟩
  | .hbm, ⟨35, _⟩ => ⟨S_, .f32⟩
  | .hbm, ⟨36, _⟩ => ⟨S4x4096, .f32⟩
  | .hbm, ⟨37, _⟩ => ⟨S4x4096x1, .f32⟩
  | .hbm, ⟨38, _⟩ => ⟨S_, .f32⟩
  | .hbm, ⟨39, _⟩ => ⟨S4x4096x1, .f32⟩
  | .hbm, ⟨40, _⟩ => ⟨S4x4096x1, .f32⟩
  | .hbm, ⟨41, _⟩ => ⟨S4x4096x2048, .f32⟩
  | .hbm, ⟨42, _⟩ => ⟨S4x4096x2048, .f32⟩
  | .hbm, ⟨43, _⟩ => ⟨S_, .f32⟩
  | .hbm, ⟨44, _⟩ => ⟨S4x4096x1, .f32⟩
  | .hbm, ⟨45, _⟩ => ⟨S4x4096x1, .f32⟩
  | .hbm, ⟨46, _⟩ => ⟨S4x4096x1, .f32⟩
  | .hbm, ⟨47, _⟩ => ⟨S4x4096x2048, .f32⟩
  | .hbm, ⟨48, _⟩ => ⟨S4x4096x2048, .f32⟩
  | .hbm, ⟨49, _⟩ => ⟨S1x1x2048, .f32⟩
  | .hbm, ⟨50, _⟩ => ⟨S4x4096x2048, .f32⟩
  | .hbm, ⟨51, _⟩ => ⟨S4x4096x2048, .f32⟩
  | .hbm, ⟨52, _⟩ => ⟨S1x1x2048, .f32⟩
  | .hbm, ⟨53, _⟩ => ⟨S4x4096x2048, .f32⟩
  | .hbm, ⟨54, _⟩ => ⟨S4x4096x2048, .f32⟩
  | .hbm, ⟨55, _⟩ => ⟨S_, .f32⟩
  | .hbm, ⟨56, _⟩ => ⟨S4x4096, .f32⟩
  | .hbm, ⟨57, _⟩ => ⟨S4x4096x1, .f32⟩
  | .hbm, ⟨58, _⟩ => ⟨S_, .f32⟩
  | .hbm, ⟨59, _⟩ => ⟨S4x4096x1, .f32⟩
  | .hbm, ⟨60, _⟩ => ⟨S4x4096x1, .f32⟩
  | .hbm, ⟨61, _⟩ => ⟨S4x4096x2048, .f32⟩
  | .hbm, ⟨62, _⟩ => ⟨S4x4096x2048, .f32⟩
  | .hbm, ⟨63, _⟩ => ⟨S4x4096x2048, .f32⟩
  | .hbm, ⟨64, _⟩ => ⟨S_, .f32⟩
  | .hbm, ⟨65, _⟩ => ⟨S4x4096, .f32⟩
  | .hbm, ⟨66, _⟩ => ⟨S4x4096x1, .f32⟩
  | .hbm, ⟨67, _⟩ => ⟨S_, .f32⟩
  | .hbm, ⟨68, _⟩ => ⟨S4x4096x1, .f32⟩
  | .hbm, ⟨69, _⟩ => ⟨S4x4096x1, .f32⟩
  | .hbm, ⟨70, _⟩ => ⟨S4x4096x2048, .f32⟩
  | .hbm, ⟨71, _⟩ => ⟨S4x4096x2048, .f32⟩
  | .hbm, ⟨72, _⟩ => ⟨S_, .f32⟩
  | .hbm, ⟨73, _⟩ => ⟨S4x4096x1, .f32⟩
  | .hbm, ⟨74, _⟩ => ⟨S4x4096x1, .f32⟩
  | .hbm, ⟨75, _⟩ => ⟨S4x4096x1, .f32⟩
  | .hbm, ⟨76, _⟩ => ⟨S4x4096x2048, .f32⟩
  | .hbm, ⟨77, _⟩ => ⟨S4x4096x2048, .f32⟩
  | .hbm, ⟨78, _⟩ => ⟨S_, .f32⟩
  | .hbm, ⟨79, _⟩ => ⟨S4x1x2048, .f32⟩
  | .hbm, ⟨80, _⟩ => ⟨S4x1x2048, .f32⟩
  | .hbm, ⟨81, _⟩ => ⟨S4x4096x2048, .f32⟩
  | .hbm, ⟨82, _⟩ => ⟨S4x4096x2048, .f32⟩
  | .hbm, ⟨83, _⟩ => ⟨S4x4096x2048, .f32⟩
  | .hbm, ⟨84, _⟩ => ⟨S4x4096x2048, .f32⟩
  | .hbm, ⟨85, _⟩ => ⟨S4x4096x2048, .bf16⟩
  | .hbm, ⟨86, _⟩ => ⟨S4x4096x32, .f32⟩
  | .hbm, ⟨87, _⟩ => ⟨S1x1x32, .f32⟩
  | .hbm, ⟨88, _⟩ => ⟨S4x4096x32, .f32⟩
  | .hbm, ⟨89, _⟩ => ⟨S4x4096x32, .f32⟩
  | _, _ => ⟨S4x4096x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_cst : Ref sig .tc := ⟨.hbm, 17, rfl⟩
abbrev main_v4 : Ref sig .tc := ⟨.hbm, 18, rfl⟩
abbrev main_v5 : Ref sig .tc := ⟨.hbm, 19, rfl⟩
abbrev main_cst_0 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_cst_1 : Ref sig .tc := ⟨.hbm, 26, rfl⟩
abbrev main_v11 : Ref sig .tc := ⟨.hbm, 27, rfl⟩
abbrev main_v12 : Ref sig .tc := ⟨.hbm, 28, rfl⟩
abbrev main_cst_2 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_cst_3 : Ref sig .tc := ⟨.hbm, 35, rfl⟩
abbrev main_v18 : Ref sig .tc := ⟨.hbm, 36, rfl⟩
abbrev main_v19 : Ref sig .tc := ⟨.hbm, 37, rfl⟩
abbrev main_cst_4 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_cst_5 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_cst_6 : Ref sig .tc := ⟨.hbm, 55, rfl⟩
abbrev main_v35 : Ref sig .tc := ⟨.hbm, 56, rfl⟩
abbrev main_v36 : Ref sig .tc := ⟨.hbm, 57, rfl⟩
abbrev main_cst_7 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_cst_8 : Ref sig .tc := ⟨.hbm, 64, rfl⟩
abbrev main_v42 : Ref sig .tc := ⟨.hbm, 65, rfl⟩
abbrev main_v43 : Ref sig .tc := ⟨.hbm, 66, rfl⟩
abbrev main_cst_9 : Ref sig .tc := ⟨.hbm, 67, rfl⟩
abbrev main_v44 : Ref sig .tc := ⟨.hbm, 68, rfl⟩
abbrev main_v45 : Ref sig .tc := ⟨.hbm, 69, rfl⟩
abbrev main_v46 : Ref sig .tc := ⟨.hbm, 70, rfl⟩
abbrev main_v47 : Ref sig .tc := ⟨.hbm, 71, rfl⟩
abbrev main_cst_10 : Ref sig .tc := ⟨.hbm, 72, rfl⟩
abbrev main_v48 : Ref sig .tc := ⟨.hbm, 73, rfl⟩
abbrev main_v49 : Ref sig .tc := ⟨.hbm, 74, rfl⟩
abbrev main_v50 : Ref sig .tc := ⟨.hbm, 75, rfl⟩
abbrev main_v51 : Ref sig .tc := ⟨.hbm, 76, rfl⟩
abbrev main_v52 : Ref sig .tc := ⟨.hbm, 77, rfl⟩
abbrev main_cst_11 : Ref sig .tc := ⟨.hbm, 78, rfl⟩
abbrev main_v53 : Ref sig .tc := ⟨.hbm, 79, rfl⟩
abbrev main_v54 : Ref sig .tc := ⟨.hbm, 80, rfl⟩
abbrev main_v55 : Ref sig .tc := ⟨.hbm, 81, rfl⟩
abbrev main_v56 : Ref sig .tc := ⟨.hbm, 82, rfl⟩
abbrev main_v57 : Ref sig .tc := ⟨.hbm, 83, rfl⟩
abbrev main_v58 : Ref sig .tc := ⟨.hbm, 84, rfl⟩
abbrev main_v59 : Ref sig .tc := ⟨.hbm, 85, rfl⟩
abbrev main_v60 : Ref sig .tc := ⟨.hbm, 86, rfl⟩
abbrev main_v61 : Ref sig .tc := ⟨.hbm, 87, rfl⟩
abbrev main_v62 : Ref sig .tc := ⟨.hbm, 88, rfl⟩
abbrev main_v63 : Ref sig .tc := ⟨.hbm, 89, rfl⟩

abbrev nD : Nat := 1
abbrev τ : Topo := Topo.v7x

variable {F : FTy → Type} [FloatOps F]
-- ==== Kernel4.lean ====
abbrev S4x4096x2048 : Shape := ⟨3, ![4, 4096, 2048]⟩
abbrev S4x1x2048 : Shape := ⟨3, ![4, 1, 2048]⟩
abbrev S2048 : Shape := ⟨1, ![2048]⟩
abbrev S1x2048 : Shape := ⟨2, ![1, 2048]⟩
abbrev S1x256x2048 : Shape := ⟨3, ![1, 256, 2048]⟩
abbrev S1x1x2048 : Shape := ⟨3, ![1, 1, 2048]⟩
abbrev S256x2048 : Shape := ⟨2, ![256, 2048]⟩
abbrev S256 : Shape := ⟨1, ![256]⟩
abbrev S256x1 : Shape := ⟨2, ![256, 1]⟩

abbrev nBuf : Space → Nat
  | .hbm => 11
  | .vmem => 16
  | .smem => 0
  | _ => 0

abbrev bufTy : (tb : Table) → Fin (tcTables nBuf tb) → BufTy
  | .hbm, ⟨0, _⟩ => ⟨S4x4096x2048, .f32⟩
  | .hbm, ⟨1, _⟩ => ⟨S4x4096x2048, .f32⟩
  | .hbm, ⟨2, _⟩ => ⟨S4x4096x2048, .f32⟩
  | .hbm, ⟨3, _⟩ => ⟨S4x4096x2048, .f32⟩
  | .hbm, ⟨4, _⟩ => ⟨S4x4096x2048, .f32⟩
  | .hbm, ⟨5, _⟩ => ⟨S4x1x2048, .f32⟩
  | .hbm, ⟨6, _⟩ => ⟨S2048, .f32⟩
  | .hbm, ⟨7, _⟩ => ⟨S2048, .f32⟩
  | .hbm, ⟨8, _⟩ => ⟨S1x2048, .f32⟩
  | .hbm, ⟨9, _⟩ => ⟨S1x2048, .f32⟩
  | .hbm, ⟨10, _⟩ => ⟨S4x4096x2048, .f32⟩
  | .local _ .vmem, ⟨0, _⟩ => ⟨S1x256x2048, .f32⟩
  | .local _ .vmem, ⟨1, _⟩ => ⟨S1x256x2048, .f32⟩
  | .local _ .vmem, ⟨2, _⟩ => ⟨S1x256x2048, .f32⟩
  | .local _ .vmem, ⟨3, _⟩ => ⟨S1x256x2048, .f32⟩
  | .local _ .vmem, ⟨4, _⟩ => ⟨S1x256x2048, .f32⟩
  | .local _ .vmem, ⟨5, _⟩ => ⟨S1x256x2048, .f32⟩
  | .local _ .vmem, ⟨6, _⟩ => ⟨S1x256x2048, .f32⟩
  | .local _ .vmem, ⟨7, _⟩ => ⟨S1x256x2048, .f32⟩
  | .local _ .vmem, ⟨8, _⟩ => ⟨S1x256x2048, .f32⟩
  | .local _ .vmem, ⟨9, _⟩ => ⟨S1x256x2048, .f32⟩
  | .local _ .vmem, ⟨10, _⟩ => ⟨S1x1x2048, .f32⟩
  | .local _ .vmem, ⟨11, _⟩ => ⟨S1x1x2048, .f32⟩
  | .local _ .vmem, ⟨12, _⟩ => ⟨S1x2048, .f32⟩
  | .local _ .vmem, ⟨13, _⟩ => ⟨S1x2048, .f32⟩
  | .local _ .vmem, ⟨14, _⟩ => ⟨S1x256x2048, .f32⟩
  | .local _ .vmem, ⟨15, _⟩ => ⟨S1x256x2048, .f32⟩
  | _, _ => ⟨S4x4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg8_0 : Ref sig .tc := ⟨.vmem, 14, rfl⟩
abbrev cc0_stg8_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem8_0 : DmaSem sig := 14
abbrev cc0_sem8_1 : DmaSem sig := 15

abbrev nD : Nat := 1
abbrev τ : Topo := Topo.v7x

variable {F : FTy → Type} [FloatOps F]

abbrev grid0 : Pipeline.Grid := ⟨2, ![4, 16], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x256x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x256x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x256x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x256x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x1x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 1 → Memref sig .tc .vmem S1x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x2048 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 2 → Memref sig .tc .vmem S1x256x2048 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== Reference4Ideal.lean ====
abbrev S4x4096x2048 : Shape := ⟨3, ![4, 4096, 2048]⟩
abbrev S4x1x2048 : Shape := ⟨3, ![4, 1, 2048]⟩
abbrev S2048 : Shape := ⟨1, ![2048]⟩
abbrev S_ : Shape := ⟨0, ![]⟩
abbrev S4x4096 : Shape := ⟨2, ![4, 4096]⟩
abbrev S4x4096x1 : Shape := ⟨3, ![4, 4096, 1]⟩
abbrev S1x1x2048 : Shape := ⟨3, ![1, 1, 2048]⟩

abbrev nBuf : Space → Nat
  | .hbm => 49
  | .vmem => 0
  | .smem => 0
  | _ => 0

abbrev bufTy : (tb : Table) → Fin (tcTables nBuf tb) → BufTy
  | .hbm, ⟨0, _⟩ => ⟨S4x4096x2048, .f32⟩
  | .hbm, ⟨1, _⟩ => ⟨S4x4096x2048, .f32⟩
  | .hbm, ⟨2, _⟩ => ⟨S4x4096x2048, .f32⟩
  | .hbm, ⟨3, _⟩ => ⟨S4x4096x2048, .f32⟩
  | .hbm, ⟨4, _⟩ => ⟨S4x4096x2048, .f32⟩
  | .hbm, ⟨5, _⟩ => ⟨S4x1x2048, .f32⟩
  | .hbm, ⟨6, _⟩ => ⟨S2048, .f32⟩
  | .hbm, ⟨7, _⟩ => ⟨S2048, .f32⟩
  | .hbm, ⟨8, _⟩ => ⟨S4x4096x2048, .f32⟩
  | .hbm, ⟨9, _⟩ => ⟨S4x4096x2048, .f32⟩
  | .hbm, ⟨10, _⟩ => ⟨S4x4096x2048, .f32⟩
  | .hbm, ⟨11, _⟩ => ⟨S_, .f32⟩
  | .hbm, ⟨12, _⟩ => ⟨S4x4096x2048, .f32⟩
  | .hbm, ⟨13, _⟩ => ⟨S4x4096x2048, .f32⟩
  | .hbm, ⟨14, _⟩ => ⟨S_, .f32⟩
  | .hbm, ⟨15, _⟩ => ⟨S4x1x2048, .f32⟩
  | .hbm, ⟨16, _⟩ => ⟨S4x1x2048, .f32⟩
  | .hbm, ⟨17, _⟩ => ⟨S4x4096x2048, .f32⟩
  | .hbm, ⟨18, _⟩ => ⟨S4x4096x2048, .f32⟩
  | .hbm, ⟨19, _⟩ => ⟨S4x4096x2048, .f32⟩
  | .hbm, ⟨20, _⟩ => ⟨S_, .f32⟩
  | .hbm, ⟨21, _⟩ => ⟨S4x4096, .f32⟩
  | .hbm, ⟨22, _⟩ => ⟨S4x4096x1, .f32⟩
  | .hbm, ⟨23, _⟩ => ⟨S_, .f32⟩
  | .hbm, ⟨24, _⟩ => ⟨S4x4096x1, .f32⟩
  | .hbm, ⟨25, _⟩ => ⟨S4x4096x1, .f32⟩
  | .hbm, ⟨26, _⟩ => ⟨S4x4096x2048, .f32⟩
  | .hbm, ⟨27, _⟩ => ⟨S4x4096x2048, .f32⟩
  | .hbm, ⟨28, _⟩ => ⟨S4x4096x2048, .f32⟩
  | .hbm, ⟨29, _⟩ => ⟨S_, .f32⟩
  | .hbm, ⟨30, _⟩ => ⟨S4x4096, .f32⟩
  | .hbm, ⟨31, _⟩ => ⟨S4x4096x1, .f32⟩
  | .hbm, ⟨32, _⟩ => ⟨S_, .f32⟩
  | .hbm, ⟨33, _⟩ => ⟨S4x4096x1, .f32⟩
  | .hbm, ⟨34, _⟩ => ⟨S4x4096x1, .f32⟩
  | .hbm, ⟨35, _⟩ => ⟨S4x4096x2048, .f32⟩
  | .hbm, ⟨36, _⟩ => ⟨S4x4096x2048, .f32⟩
  | .hbm, ⟨37, _⟩ => ⟨S_, .f32⟩
  | .hbm, ⟨38, _⟩ => ⟨S4x4096x1, .f32⟩
  | .hbm, ⟨39, _⟩ => ⟨S4x4096x1, .f32⟩
  | .hbm, ⟨40, _⟩ => ⟨S4x4096x1, .f32⟩
  | .hbm, ⟨41, _⟩ => ⟨S4x4096x2048, .f32⟩
  | .hbm, ⟨42, _⟩ => ⟨S4x4096x2048, .f32⟩
  | .hbm, ⟨43, _⟩ => ⟨S1x1x2048, .f32⟩
  | .hbm, ⟨44, _⟩ => ⟨S4x4096x2048, .f32⟩
  | .hbm, ⟨45, _⟩ => ⟨S4x4096x2048, .f32⟩
  | .hbm, ⟨46, _⟩ => ⟨S1x1x2048, .f32⟩
  | .hbm, ⟨47, _⟩ => ⟨S4x4096x2048, .f32⟩
  | .hbm, ⟨48, _⟩ => ⟨S4x4096x2048, .f32⟩
  | _, _ => ⟨S4x4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_cst : Ref sig .tc := ⟨.hbm, 11, rfl⟩
abbrev main_v3 : Ref sig .tc := ⟨.hbm, 12, rfl⟩
abbrev main_v4 : Ref sig .tc := ⟨.hbm, 13, rfl⟩
abbrev main_cst_0 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_cst_1 : Ref sig .tc := ⟨.hbm, 20, rfl⟩
abbrev main_v10 : Ref sig .tc := ⟨.hbm, 21, rfl⟩
abbrev main_v11 : Ref sig .tc := ⟨.hbm, 22, rfl⟩
abbrev main_cst_2 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_cst_3 : Ref sig .tc := ⟨.hbm, 29, rfl⟩
abbrev main_v17 : Ref sig .tc := ⟨.hbm, 30, rfl⟩
abbrev main_v18 : Ref sig .tc := ⟨.hbm, 31, rfl⟩
abbrev main_cst_4 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_cst_5 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩

abbrev nD : Nat := 1
abbrev τ : Topo := Topo.v7x

variable {F : FTy → Type} [FloatOps F]
-- ==== Kernel5.lean ====
abbrev S4x4096x1024 : Shape := ⟨3, ![4, 4096, 1024]⟩
abbrev S4x4096x512 : Shape := ⟨3, ![4, 4096, 512]⟩
abbrev S1x256x256 : Shape := ⟨3, ![1, 256, 256]⟩
abbrev S1x4096x256 : Shape := ⟨3, ![1, 4096, 256]⟩
abbrev S1x4096x128 : Shape := ⟨3, ![1, 4096, 128]⟩
abbrev S1x256x128 : Shape := ⟨3, ![1, 256, 128]⟩
abbrev S256x256 : Shape := ⟨2, ![256, 256]⟩
abbrev S256x1 : Shape := ⟨2, ![256, 1]⟩
abbrev S256x128 : Shape := ⟨2, ![256, 128]⟩
abbrev S256 : Shape := ⟨1, ![256]⟩

abbrev nBuf : Space → Nat
  | .hbm => 4
  | .vmem => 8
  | .smem => 0
  | _ => 0

abbrev bufTy : (tb : Table) → Fin (tcTables nBuf tb) → BufTy
  | .hbm, ⟨0, _⟩ => ⟨S4x4096x1024, .bf16⟩
  | .hbm, ⟨1, _⟩ => ⟨S4x4096x1024, .bf16⟩
  | .hbm, ⟨2, _⟩ => ⟨S4x4096x512, .bf16⟩
  | .hbm, ⟨3, _⟩ => ⟨S4x4096x512, .bf16⟩
  | .local _ .vmem, ⟨0, _⟩ => ⟨S1x256x256, .bf16⟩
  | .local _ .vmem, ⟨1, _⟩ => ⟨S1x256x256, .bf16⟩
  | .local _ .vmem, ⟨2, _⟩ => ⟨S1x4096x256, .bf16⟩
  | .local _ .vmem, ⟨3, _⟩ => ⟨S1x4096x256, .bf16⟩
  | .local _ .vmem, ⟨4, _⟩ => ⟨S1x4096x128, .bf16⟩
  | .local _ .vmem, ⟨5, _⟩ => ⟨S1x4096x128, .bf16⟩
  | .local _ .vmem, ⟨6, _⟩ => ⟨S1x256x128, .bf16⟩
  | .local _ .vmem, ⟨7, _⟩ => ⟨S1x256x128, .bf16⟩
  | _, _ => ⟨S4x4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![4, 4, 16], ![false, false, false]⟩

@[reducible] def k0_t1_loop (i : grid0.Coords) : Scf.Loop 32 :=
  let c0_i32_15 : BitVec 32 := 0#32
  let arg2 : BitVec 32 := BitVec.ofNat 32 (i 2).val
  let v56 : BitVec 32 := Scalar.subi arg2 c0_i32_15
  let c1_i32_16 : BitVec 32 := 1#32
  let v58 : BitVec 32 := Scalar.divsi v56 c1_i32_16
  let v59 : BitVec 32 := Scalar.muli v58 c1_i32_16
  let v60 : BitVec 32 := Scalar.addi c0_i32_15 v59
  let c1_i32_17 : BitVec 32 := 1#32
  ⟨c0_i32_15, v60, c1_i32_17⟩
def k0_mult1 (i : grid0.Coords) (k0_t1 : Fin (k0_t1_loop i).trips) : BitVec 32 :=
  let c0_i32_15 : BitVec 32 := 0#32
  let c1_i32_17 : BitVec 32 := 1#32
  let arg7 : BitVec 32 := Scf.iv c0_i32_15 c1_i32_17 k0_t1
  let c256_i32_31 : BitVec 32 := 256#32
  let v97 : BitVec 32 := Scalar.muli arg7 c256_i32_31
  v97
def k0_off1 (i : grid0.Coords) (k0_t1 : Fin (k0_t1_loop i).trips) : Fin 3 → Nat :=
  let c0_32 : Index := 0#32
  let c0_i32_15 : BitVec 32 := 0#32
  let c1_i32_17 : BitVec 32 := 1#32
  let arg7 : BitVec 32 := Scf.iv c0_i32_15 c1_i32_17 k0_t1
  let c256_i32_31 : BitVec 32 := 256#32
  let v97 : BitVec 32 := Scalar.muli arg7 c256_i32_31
  let v98 : BitVec 32 := v97
  let v99 : Index := Scalar.indexCast v98
  let c0_33 : Index := 0#32
  ![0, v99.toNat, 0]
def k0_off2 (i : grid0.Coords) (k0_t1 : Fin (k0_t1_loop i).trips) : Fin 3 → Nat :=
  let c0_34 : Index := 0#32
  let c0_i32_15 : BitVec 32 := 0#32
  let c1_i32_17 : BitVec 32 := 1#32
  let arg7 : BitVec 32 := Scf.iv c0_i32_15 c1_i32_17 k0_t1
  let c256_i32_31 : BitVec 32 := 256#32
  let v97 : BitVec 32 := Scalar.muli arg7 c256_i32_31
  let v98 : BitVec 32 := v97
  let v102 : Index := Scalar.indexCast v98
  let c0_35 : Index := 0#32
  ![0, v102.toNat, 0]
@[reducible] def k0_t2_loop (i : grid0.Coords) : Scf.Loop 32 :=
  let c0_i32_15 : BitVec 32 := 0#32
  let arg2 : BitVec 32 := BitVec.ofNat 32 (i 2).val
  let v56 : BitVec 32 := Scalar.subi arg2 c0_i32_15
  let c1_i32_16 : BitVec 32 := 1#32
  let v58 : BitVec 32 := Scalar.divsi v56 c1_i32_16
  let v59 : BitVec 32 := Scalar.muli v58 c1_i32_16
  let v60 : BitVec 32 := Scalar.addi c0_i32_15 v59
  let v57 : BitVec 32 := Scalar.addi c0_i32_15 v56
  let c1_i32_18 : BitVec 32 := 1#32
  ⟨v60, v57, c1_i32_18⟩
def k0_mult2 (i : grid0.Coords) (k0_t2 : Fin (k0_t2_loop i).trips) : BitVec 32 :=
  let c0_i32_15 : BitVec 32 := 0#32
  let arg2 : BitVec 32 := BitVec.ofNat 32 (i 2).val
  let v56 : BitVec 32 := Scalar.subi arg2 c0_i32_15
  let c1_i32_16 : BitVec 32 := 1#32
  let v58 : BitVec 32 := Scalar.divsi v56 c1_i32_16
  let v59 : BitVec 32 := Scalar.muli v58 c1_i32_16
  let v60 : BitVec 32 := Scalar.addi c0_i32_15 v59
  let c1_i32_18 : BitVec 32 := 1#32
  let arg7 : BitVec 32 := Scf.iv v60 c1_i32_18 k0_t2
  let c256_i32_31 : BitVec 32 := 256#32
  let v97 : BitVec 32 := Scalar.muli arg7 c256_i32_31
  v97
def k0_off3 (i : grid0.Coords) (k0_t2 : Fin (k0_t2_loop i).trips) : Fin 3 → Nat :=
  let c0_32 : Index := 0#32
  let c0_i32_15 : BitVec 32 := 0#32
  let arg2 : BitVec 32 := BitVec.ofNat 32 (i 2).val
  let v56 : BitVec 32 := Scalar.subi arg2 c0_i32_15
  let c1_i32_16 : BitVec 32 := 1#32
  let v58 : BitVec 32 := Scalar.divsi v56 c1_i32_16
  let v59 : BitVec 32 := Scalar.muli v58 c1_i32_16
  let v60 : BitVec 32 := Scalar.addi c0_i32_15 v59
  let c1_i32_18 : BitVec 32 := 1#32
  let arg7 : BitVec 32 := Scf.iv v60 c1_i32_18 k0_t2
  let c256_i32_31 : BitVec 32 := 256#32
  let v97 : BitVec 32 := Scalar.muli arg7 c256_i32_31
  let v98 : BitVec 32 := v97
  let v99 : Index := Scalar.indexCast v98
  let c0_33 : Index := 0#32
  ![0, v99.toNat, 0]
def k0_off4 (i : grid0.Coords) (k0_t2 : Fin (k0_t2_loop i).trips) : Fin 3 → Nat :=
  let c0_34 : Index := 0#32
  let c0_i32_15 : BitVec 32 := 0#32
  let arg2 : BitVec 32 := BitVec.ofNat 32 (i 2).val
  let v56 : BitVec 32 := Scalar.subi arg2 c0_i32_15
  let c1_i32_16 : BitVec 32 := 1#32
  let v58 : BitVec 32 := Scalar.divsi v56 c1_i32_16
  let v59 : BitVec 32 := Scalar.muli v58 c1_i32_16
  let v60 : BitVec 32 := Scalar.addi c0_i32_15 v59
  let c1_i32_18 : BitVec 32 := 1#32
  let arg7 : BitVec 32 := Scf.iv v60 c1_i32_18 k0_t2
  let c256_i32_31 : BitVec 32 := 256#32
  let v97 : BitVec 32 := Scalar.muli arg7 c256_i32_31
  let v98 : BitVec 32 := v97
  let v102 : Index := Scalar.indexCast v98
  let c0_35 : Index := 0#32
  ![0, v102.toNat, 0]
def k0_mult3 (i : grid0.Coords) : BitVec 32 :=
  let arg2 : BitVec 32 := BitVec.ofNat 32 (i 2).val
  let c256_i32 : BitVec 32 := 256#32
  let v63 : BitVec 32 := Scalar.muli arg2 c256_i32
  v63
def k0_off5 (i : grid0.Coords) : Fin 3 → Nat :=
  let c0_19 : Index := 0#32
  let arg2 : BitVec 32 := BitVec.ofNat 32 (i 2).val
  let c256_i32 : BitVec 32 := 256#32
  let v63 : BitVec 32 := Scalar.muli arg2 c256_i32
  let v64 : BitVec 32 := v63
  let v65 : Index := Scalar.indexCast v64
  let c0_20 : Index := 0#32
  ![0, v65.toNat, 0]
def k0_off6 (i : grid0.Coords) : Fin 3 → Nat :=
  let c0_21 : Index := 0#32
  let arg2 : BitVec 32 := BitVec.ofNat 32 (i 2).val
  let c256_i32 : BitVec 32 := 256#32
  let v63 : BitVec 32 := Scalar.muli arg2 c256_i32
  let v64 : BitVec 32 := v63
  let v68 : Index := Scalar.indexCast v64
  let c0_22 : Index := 0#32
  ![0, v68.toNat, 0]
def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

abbrev stage0_0 : Fin 2 → Memref sig .tc .vmem S1x256x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x4096x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S1x4096x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1x256x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]
-- ==== Reference5Ideal.lean ====
abbrev S4x4096x1024 : Shape := ⟨3, ![4, 4096, 1024]⟩
abbrev S4x4096x512 : Shape := ⟨3, ![4, 4096, 512]⟩
abbrev S4096 : Shape := ⟨1, ![4096]⟩
abbrev S_ : Shape := ⟨0, ![]⟩
abbrev S4x4096x4x256 : Shape := ⟨4, ![4, 4096, 4, 256]⟩
abbrev S4x4x4096x4096 : Shape := ⟨4, ![4, 4, 4096, 4096]⟩
abbrev S1x4096 : Shape := ⟨2, ![1, 4096]⟩
abbrev S4096x1 : Shape := ⟨2, ![4096, 1]⟩
abbrev S4096x4096 : Shape := ⟨2, ![4096, 4096]⟩
abbrev S4x4x4096 : Shape := ⟨3, ![4, 4, 4096]⟩
abbrev S4x4x4096x1 : Shape := ⟨4, ![4, 4, 4096, 1]⟩
abbrev S4x4096x4x128 : Shape := ⟨4, ![4, 4096, 4, 128]⟩
abbrev S4x4x128x4096 : Shape := ⟨4, ![4, 4, 128, 4096]⟩

abbrev nBuf : Space → Nat
  | .hbm => 57
  | .vmem => 0
  | .smem => 0
  | _ => 0

abbrev bufTy : (tb : Table) → Fin (tcTables nBuf tb) → BufTy
  | .hbm, ⟨0, _⟩ => ⟨S4x4096x1024, .bf16⟩
  | .hbm, ⟨1, _⟩ => ⟨S4x4096x1024, .bf16⟩
  | .hbm, ⟨2, _⟩ => ⟨S4x4096x512, .bf16⟩
  | .hbm, ⟨3, _⟩ => ⟨S4096, .i32⟩
  | .hbm, ⟨4, _⟩ => ⟨S_, .i32⟩
  | .hbm, ⟨5, _⟩ => ⟨S_, .i32⟩
  | .hbm, ⟨6, _⟩ => ⟨S4096, .i32⟩
  | .hbm, ⟨7, _⟩ => ⟨S4096, .i32⟩
  | .hbm, ⟨8, _⟩ => ⟨S4096, .i32⟩
  | .hbm, ⟨9, _⟩ => ⟨S_, .i32⟩
  | .hbm, ⟨10, _⟩ => ⟨S4096, .i32⟩
  | .hbm, ⟨11, _⟩ => ⟨S4096, .i1⟩
  | .hbm, ⟨12, _⟩ => ⟨S4096, .i32⟩
  | .hbm, ⟨13, _⟩ => ⟨S4096, .i32⟩
  | .hbm, ⟨14, _⟩ => ⟨S_, .i32⟩
  | .hbm, ⟨15, _⟩ => ⟨S4096, .i32⟩
  | .hbm, ⟨16, _⟩ => ⟨S4096, .i1⟩
  | .hbm, ⟨17, _⟩ => ⟨S4096, .i1⟩
  | .hbm, ⟨18, _⟩ => ⟨S_, .i32⟩
  | .hbm, ⟨19, _⟩ => ⟨S4096, .i32⟩
  | .hbm, ⟨20, _⟩ => ⟨S4096, .i32⟩
  | .hbm, ⟨21, _⟩ => ⟨S4096, .i32⟩
  | .hbm, ⟨22, _⟩ => ⟨S4x4096x1024, .f32⟩
  | .hbm, ⟨23, _⟩ => ⟨S4x4096x4x256, .f32⟩
  | .hbm, ⟨24, _⟩ => ⟨S4x4096x1024, .f32⟩
  | .hbm, ⟨25, _⟩ => ⟨S4x4096x4x256, .f32⟩
  | .hbm, ⟨26, _⟩ => ⟨S4x4x4096x4096, .f32⟩
  | .hbm, ⟨27, _⟩ => ⟨S1x4096, .i32⟩
  | .hbm, ⟨28, _⟩ => ⟨S4096x1, .i32⟩
  | .hbm, ⟨29, _⟩ => ⟨S4096x4096, .i32⟩
  | .hbm, ⟨30, _⟩ => ⟨S4096x4096, .i32⟩
  | .hbm, ⟨31, _⟩ => ⟨S4096x4096, .i1⟩
  | .hbm, ⟨32, _⟩ => ⟨S_, .f32⟩
  | .hbm, ⟨33, _⟩ => ⟨S_, .f32⟩
  | .hbm, ⟨34, _⟩ => ⟨S4x4x4096x4096, .i1⟩
  | .hbm, ⟨35, _⟩ => ⟨S4x4x4096x4096, .f32⟩
  | .hbm, ⟨36, _⟩ => ⟨S4x4x4096x4096, .f32⟩
  | .hbm, ⟨37, _⟩ => ⟨S_, .f32⟩
  | .hbm, ⟨38, _⟩ => ⟨S4x4x4096, .f32⟩
  | .hbm, ⟨39, _⟩ => ⟨S_, .f32⟩
  | .hbm, ⟨40, _⟩ => ⟨S4x4x4096, .f32⟩
  | .hbm, ⟨41, _⟩ => ⟨S4x4x4096, .f32⟩
  | .hbm, ⟨42, _⟩ => ⟨S4x4x4096x1, .f32⟩
  | .hbm, ⟨43, _⟩ => ⟨S4x4x4096x4096, .f32⟩
  | .hbm, ⟨44, _⟩ => ⟨S4x4x4096x4096, .f32⟩
  | .hbm, ⟨45, _⟩ => ⟨S4x4x4096x4096, .f32⟩
  | .hbm, ⟨46, _⟩ => ⟨S_, .f32⟩
  | .hbm, ⟨47, _⟩ => ⟨S4x4x4096, .f32⟩
  | .hbm, ⟨48, _⟩ => ⟨S4x4x4096x1, .f32⟩
  | .hbm, ⟨49, _⟩ => ⟨S4x4x4096x4096, .f32⟩
  | .hbm, ⟨50, _⟩ => ⟨S4x4x4096x4096, .f32⟩
  | .hbm, ⟨51, _⟩ => ⟨S4x4096x512, .f32⟩
  | .hbm, ⟨52, _⟩ => ⟨S4x4096x4x128, .f32⟩
  | .hbm, ⟨53, _⟩ => ⟨S4x4x128x4096, .f32⟩
  | .hbm, ⟨54, _⟩ => ⟨S4x4096x4x128, .f32⟩
  | .hbm, ⟨55, _⟩ => ⟨S4x4096x512, .f32⟩
  | .hbm, ⟨56, _⟩ => ⟨S4x4096x512, .bf16⟩
  | _, _ => ⟨S4x4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_c : Ref sig .tc := ⟨.hbm, 4, rfl⟩
abbrev main_call0_v0 : Ref sig .tc := ⟨.hbm, 5, rfl⟩
abbrev main_call0_v1 : Ref sig .tc := ⟨.hbm, 6, rfl⟩
abbrev main_call0_v2 : Ref sig .tc := ⟨.hbm, 7, rfl⟩
abbrev main_call0_v3 : Ref sig .tc := ⟨.hbm, 8, rfl⟩
abbrev main_call0_v4 : Ref sig .tc := ⟨.hbm, 9, rfl⟩
abbrev main_call0_v5 : Ref sig .tc := ⟨.hbm, 10, rfl⟩
abbrev main_call0_v6 : Ref sig .tc := ⟨.hbm, 11, rfl⟩
abbrev main_call0_v7 : Ref sig .tc := ⟨.hbm, 12, rfl⟩
abbrev main_call0_v8 : Ref sig .tc := ⟨.hbm, 13, rfl⟩
abbrev main_call0_c : Ref sig .tc := ⟨.hbm, 14, rfl⟩
abbrev main_call0_v9 : Ref sig .tc := ⟨.hbm, 15, rfl⟩
abbrev main_call0_v10 : Ref sig .tc := ⟨.hbm, 16, rfl⟩
abbrev main_call0_v11 : Ref sig .tc := ⟨.hbm, 17, rfl⟩
abbrev main_call0_c_0 : Ref sig .tc := ⟨.hbm, 18, rfl⟩
abbrev main_call0_v12 : Ref sig .tc := ⟨.hbm, 19, rfl⟩
abbrev main_call0_v13 : Ref sig .tc := ⟨.hbm, 20, rfl⟩
abbrev main_v1 : Ref sig .tc := ⟨.hbm, 21, rfl⟩
abbrev main_v2 : Ref sig .tc := ⟨.hbm, 22, rfl⟩
abbrev main_v3 : Ref sig .tc := ⟨.hbm, 23, rfl⟩
abbrev main_v4 : Ref sig .tc := ⟨.hbm, 24, rfl⟩
abbrev main_v5 : Ref sig .tc := ⟨.hbm, 25, rfl⟩
abbrev main_v6 : Ref sig .tc := ⟨.hbm, 26, rfl⟩
abbrev main_v7 : Ref sig .tc := ⟨.hbm, 27, rfl⟩
abbrev main_v8 : Ref sig .tc := ⟨.hbm, 28, rfl⟩
abbrev main_v9 : Ref sig .tc := ⟨.hbm, 29, rfl⟩
abbrev main_v10 : Ref sig .tc := ⟨.hbm, 30, rfl⟩
abbrev main_v11 : Ref sig .tc := ⟨.hbm, 31, rfl⟩
abbrev main_cst : Ref sig .tc := ⟨.hbm, 32, rfl⟩
abbrev main_call1_v0 : Ref sig .tc := ⟨.hbm, 33, rfl⟩
abbrev main_call1_v1 : Ref sig .tc := ⟨.hbm, 34, rfl⟩
abbrev main_call1_v2 : Ref sig .tc := ⟨.hbm, 35, rfl⟩
abbrev main_v12 : Ref sig .tc := ⟨.hbm, 36, rfl⟩
abbrev main_cst_0 : Ref sig .tc := ⟨.hbm, 37, rfl⟩
abbrev main_v13 : Ref sig .tc := ⟨.hbm, 38, rfl⟩
abbrev main_cst_1 : Ref sig .tc := ⟨.hbm, 39, rfl⟩
abbrev main_v14 : Ref sig .tc := ⟨.hbm, 40, rfl⟩
abbrev main_v15 : Ref sig .tc := ⟨.hbm, 41, rfl⟩
abbrev main_v16 : Ref sig .tc := ⟨.hbm, 42, rfl⟩
abbrev main_v17 : Ref sig .tc := ⟨.hbm, 43, rfl⟩
abbrev main_v18 : Ref sig .tc := ⟨.hbm, 44, rfl⟩
abbrev main_v19 : Ref sig .tc := ⟨.hbm, 45, rfl⟩
abbrev main_cst_2 : Ref sig .tc := ⟨.hbm, 46, rfl⟩
abbrev main_v20 : Ref sig .tc := ⟨.hbm, 47, rfl⟩
abbrev main_v21 : Ref sig .tc := ⟨.hbm, 48, rfl⟩
abbrev main_v22 : Ref sig .tc := ⟨.hbm, 49, rfl⟩
abbrev main_v23 : Ref sig .tc := ⟨.hbm, 50, rfl⟩
abbrev main_v24 : Ref sig .tc := ⟨.hbm, 51, rfl⟩
abbrev main_v25 : Ref sig .tc := ⟨.hbm, 52, rfl⟩
abbrev main_v26 : Ref sig .tc := ⟨.hbm, 53, rfl⟩
abbrev main_v27 : Ref sig .tc := ⟨.hbm, 54, rfl⟩
abbrev main_v28 : Ref sig .tc := ⟨.hbm, 55, rfl⟩
abbrev main_v29 : Ref sig .tc := ⟨.hbm, 56, rfl⟩

abbrev nD : Nat := 1
abbrev τ : Topo := Topo.v7x

variable {F : FTy → Type} [FloatOps F]
-- ==== Proof.Attn.Chunk.lean ====
/- Positions' chunks of 64, as words: the rounded-down quotient the kernel and the reference spell out. -/
module

public import Idealize.ShloMosaic.PureOps.Ideal
public import Idealize.ShloMosaic.Lib.Claim
public import Idealize.ShloMosaic.Lib.Pointwise

@[expose] public section

noncomputable section

namespace Cert.Attn

open Idealize.ShloMosaic

theorem not_corner (x : BitVec 32) : ¬ IntOp.SDivCorner x 64#32 := by
  unfold IntOp.SDivCorner
  simp

theorem msb_small {n : Nat} (h : n < 4096) : (BitVec.ofNat 32 n).msb = false := by
  rw [BitVec.msb_eq_decide, BitVec.toNat_ofNat]
  simp only [decide_eq_false_iff_not]
  omega

theorem divsi_64 (u : ArithUnit) {n : Nat} (h : n < 4096) : IntOp.divsi u (BitVec.ofNat 32 n) 64#32 = BitVec.ofNat 32 (n / 64) := by
  have hy : (64#32 : BitVec 32).msb = false := by decide
  unfold IntOp.divsi
  rw [if_neg (not_corner _), BitVec.sdiv_eq, msb_small h, hy]
  apply BitVec.eq_of_toNat_eq
  simp only [BitVec.udiv_eq, BitVec.toNat_udiv, BitVec.toNat_ofNat]
  rw [Nat.mod_eq_of_lt (by omega : n < 2 ^ 32), Nat.mod_eq_of_lt (by decide : 64 < 2 ^ 32), Nat.mod_eq_of_lt (by omega : n / 64 < 2 ^ 32)]

theorem remsi_zero (u : ArithUnit) : IntOp.remsi u 0#32 64#32 = 0#32 := by
  unfold IntOp.remsi
  rw [if_neg (not_corner _)]
  decide

theorem andi_zero_right : ∀ x : BitVec 1, IntOp.andi x 0#1 = 0#1 := by decide
theorem andi_zero_left : ∀ x : BitVec 1, IntOp.andi 0#1 x = 0#1 := by decide

/-- The rounding step never takes one off: a position is not negative. -/
theorem quotient (u : ArithUnit) {n : Nat} (h : n < 4096) (s t : BitVec 32) (ht : t = 1#32) (hs : 0 < n → s = 1#32) :
    Scalar.select (IntOp.andi (IntOp.cmpi .ne s t) (IntOp.cmpi .ne (IntOp.remsi u (BitVec.ofNat 32 n) 64#32) 0#32))
      (IntOp.subi (IntOp.divsi u (BitVec.ofNat 32 n) 64#32) 1#32) (IntOp.divsi u (BitVec.ofNat 32 n) 64#32)
      = BitVec.ofNat 32 (n / 64) := by
  subst ht
  have hc : IntOp.andi (IntOp.cmpi .ne s 1#32) (IntOp.cmpi .ne (IntOp.remsi u (BitVec.ofNat 32 n) 64#32) 0#32) = 0#1 := by
    rcases Nat.eq_zero_or_pos n with rfl | hn
    · rw [remsi_zero]
      exact andi_zero_right _
    · rw [hs hn]
      exact andi_zero_left _
  rw [hc, divsi_64 u h]
  rfl

/-- Words of small numbers compare as the numbers. -/
theorem sle_small {a b : Nat} (ha : a < 4096) (hb : b < 4096) :
    IntOp.cmpi .sle (BitVec.ofNat 32 a) (BitVec.ofNat 32 b) = BitVec.ofBool (decide (a ≤ b)) := by
  show BitVec.ofBool (BitVec.sle _ _) = _
  congr 1
  rw [BitVec.sle, BitVec.toInt_eq_toNat_of_msb (msb_small ha), BitVec.toInt_eq_toNat_of_msb (msb_small hb),
    BitVec.toNat_ofNat, BitVec.toNat_ofNat]
  congr 1
  apply propext
  omega

theorem select_ofBool {α : Type} (p : Prop) [Decidable p] (x y : α) :
    Scalar.select (BitVec.ofBool (decide p)) x y = if p then x else y := by
  unfold Scalar.select
  by_cases h : p <;> simp [h]

/-- The sign of a positive word. -/
theorem signi_pos {s : Shape} (x : IVec s 32) (i : s.Idx) {n : Nat} (e : x i = BitVec.ofNat 32 n) (h : n < 4096) (hn : 0 < n) :
    signi x i = 1#32 := by
  have h0 : BitVec.ofNat 32 n ≠ 0 := by
    intro e
    have h' := congrArg BitVec.toNat e
    simp only [BitVec.toNat_ofNat] at h'
    have h' : n % 2 ^ 32 = 0 := h'
    omega
  have h1 : ¬ (BitVec.ofNat 32 n).msb = true := by
    rw [msb_small h]
    decide
  rw [← e] at h0 h1
  unfold signi
  rw [if_neg h0, if_neg h1]
  rfl

end Cert.Attn

end
-- ==== Proof.Attn.Pay.lean ====
/- The body's values of the latent attention's call at an index, in exact arithmetic. -/
module

public import proofs.«01_k».proof.Proof.Gen.Kernel5Ideal.Skeleton
public import proofs.«01_k».proof.Proof.Attn.Chunk
public import Idealize.ShloMosaic.Lib.Claim
public import Idealize.ShloMosaic.Lib.Pointwise
public import Idealize.ShloMosaic.PureOps.Ideal

@[expose] public section

set_option maxRecDepth 16384

noncomputable section

namespace Cert.Kernel5Ideal.Attn

open Idealize.ShloMosaic Idealize.ShloMosaic.TcCoe Cert.Attn
open Cert.Kernel5Ideal Cert.Kernel5Ideal.Gen

theorem query_apply (x : FVec Ideal S1x256x256 .bf16) (r d : Fin 256) :
    k0_pay2 (F := Ideal) x (ValueIdx.ix2 r d) = x (ValueIdx.ix3 (0 : Fin 1) r d) := by
  pointwise [k0_pay2]
  rfl

theorem value_apply (x : FVec Ideal S1x256x128 .bf16) (c : Fin 256) (d : Fin 128) :
    k0_pay21 (F := Ideal) x (ValueIdx.ix2 c d) = x (ValueIdx.ix3 (0 : Fin 1) c d) := by
  pointwise [k0_pay21]
  rfl

theorem pay6_apply (r : Fin 256) : k0_pay6 (F := Ideal) (ValueIdx.ix2 r (0 : Fin 1)) = (⊥ : EReal) := by
  pointwise [k0_pay6]
  rfl

theorem pay7_apply (r : Fin 256) : k0_pay7 (F := Ideal) (ValueIdx.ix2 r (0 : Fin 1)) = (0 : EReal) := by
  pointwise [k0_pay7]

theorem pay8_apply (r : Fin 256) (d : Fin 128) : k0_pay8 (F := Ideal) (ValueIdx.ix2 r d) = (0 : EReal) := by
  pointwise [k0_pay8]

theorem pay9_apply (q : FVec Ideal S256x256 .bf16) (w : FVec Ideal S1x256x256 .bf16) (r c : Fin 256) :
    k0_pay9 (F := Ideal) q w (ValueIdx.ix2 r c) = ∑ d : Fin 256, q (ValueIdx.ix2 r d) * w (ValueIdx.ix3 (0 : Fin 1) c d) := by
  pointwise [k0_pay9]
  rfl

theorem pay10_apply (q : FVec Ideal S256x256 .bf16) (M : FVec Ideal S256x1 .f32) (w : FVec Ideal S1x256x256 .bf16) (r : Fin 256) :
    k0_pay10 (F := Ideal) q M w (ValueIdx.ix2 r (0 : Fin 1))
      = max (M (ValueIdx.ix2 r (0 : Fin 1))) (Finset.univ.fold max (⊥ : EReal) fun c : Fin 256 => k0_pay9 (F := Ideal) q w (ValueIdx.ix2 r c)) := by
  pointwise [k0_pay10]
  rfl

theorem pay13_apply (q : FVec Ideal S256x256 .bf16) (M l : FVec Ideal S256x1 .f32) (w : FVec Ideal S1x256x256 .bf16) (r : Fin 256) :
    k0_pay13 (F := Ideal) q M l w (ValueIdx.ix2 r (0 : Fin 1))
      = Ideal.exp (M (ValueIdx.ix2 r (0 : Fin 1)) - k0_pay10 (F := Ideal) q M w (ValueIdx.ix2 r (0 : Fin 1))) * l (ValueIdx.ix2 r (0 : Fin 1))
        + ∑ c : Fin 256, Ideal.exp (k0_pay9 (F := Ideal) q w (ValueIdx.ix2 r c) - k0_pay10 (F := Ideal) q M w (ValueIdx.ix2 r (0 : Fin 1))) := by
  pointwise [k0_pay13, k0_pay12, k0_pay11]
  rfl

theorem pay14_apply (q : FVec Ideal S256x256 .bf16) (M : FVec Ideal S256x1 .f32) (a : FVec Ideal S256x128 .f32) (w : FVec Ideal S1x256x256 .bf16) (u : FVec Ideal S1x256x128 .bf16) (r : Fin 256) (d : Fin 128) :
    k0_pay14 (F := Ideal) q M a w u (ValueIdx.ix2 r d)
      = Ideal.exp (M (ValueIdx.ix2 r (0 : Fin 1)) - k0_pay10 (F := Ideal) q M w (ValueIdx.ix2 r (0 : Fin 1))) * a (ValueIdx.ix2 r d)
        + ∑ c : Fin 256, Ideal.exp (k0_pay9 (F := Ideal) q w (ValueIdx.ix2 r c) - k0_pay10 (F := Ideal) q M w (ValueIdx.ix2 r (0 : Fin 1))) * u (ValueIdx.ix3 (0 : Fin 1) c d) := by
  pointwise [k0_pay14, k0_pay12, k0_pay11]
  rfl

theorem sign_kernel : ∀ n : Fin 256, 0 < n.val →
    IntOp.subi (BitVec.setWidth 32 (IntOp.cmpi .sgt (BitVec.ofNat 32 n.val) 0#32)) (BitVec.setWidth 32 (IntOp.cmpi .slt (BitVec.ofNat 32 n.val) 0#32)) = 1#32 := by
  decide +kernel

/-- A row's chunk within its tile. -/
theorem pay3_apply (r c : Fin 256) : k0_pay3 (ValueIdx.ix2 r c) = BitVec.ofNat 32 (r.val / 64) := by
  pointwise [k0_pay3]
  exact quotient .vector (n := r.val) (by omega) _ _ rfl (sign_kernel r)

abbrev cols : IVec S256x256 32 := iota .tc S256x256 32 [1] iota_S256x256_d1_w32

/-- The masked scores of the last block. -/
def last (q : FVec Ideal S256x256 .bf16) (w : FVec Ideal S1x256x256 .bf16) : FVec Ideal S256x256 .f32 :=
  k0_pay22 (F := Ideal) q k0_pay3 cols 64#32 k0_pay4 k0_pay5 1#32 w

theorem last_apply (q : FVec Ideal S256x256 .bf16) (w : FVec Ideal S1x256x256 .bf16) (r c : Fin 256) :
    last q w (ValueIdx.ix2 r c) = if c.val / 64 ≤ r.val / 64 then k0_pay9 (F := Ideal) q w (ValueIdx.ix2 r c) else (⊥ : EReal) := by
  pointwise [last, k0_pay22, k0_pay4, k0_pay5]
  rw [pay3_apply, pay9_apply]
  refine (congrArg (fun x => Scalar.select (IntOp.cmpi .sle x (BitVec.ofNat 32 (r.val / 64)))
    (∑ d : Fin 256, q (ValueIdx.ix2 r d) * w (ValueIdx.ix3 (0 : Fin 1) c d)) (⊥ : EReal)) (quotient .vector (n := c.val) (by omega) _ _ rfl (sign_kernel c))).trans ?_
  rw [sle_small (by omega) (by omega), select_ofBool]

/-- The largest score of a row after the last block. -/
def top (q : FVec Ideal S256x256 .bf16) (M : FVec Ideal S256x1 .f32) (w : FVec Ideal S1x256x256 .bf16) : FVec Ideal S256x1 .f32 :=
  k0_pay23 (F := Ideal) q k0_pay3 cols 64#32 k0_pay4 k0_pay5 1#32 M w

theorem top_apply (q : FVec Ideal S256x256 .bf16) (M : FVec Ideal S256x1 .f32) (w : FVec Ideal S1x256x256 .bf16) (r : Fin 256) :
    top q M w (ValueIdx.ix2 r (0 : Fin 1))
      = max (M (ValueIdx.ix2 r (0 : Fin 1))) (Finset.univ.fold max (⊥ : EReal) fun c : Fin 256 => last q w (ValueIdx.ix2 r c)) := by
  pointwise [top, k0_pay23]
  rfl

theorem pay24_apply (q : FVec Ideal S256x256 .bf16) (M : FVec Ideal S256x1 .f32) (w : FVec Ideal S1x256x256 .bf16) (r : Fin 256) :
    k0_pay24 (F := Ideal) q k0_pay3 cols 64#32 k0_pay4 k0_pay5 1#32 M w (ValueIdx.ix2 r (0 : Fin 1))
      = Ideal.exp (M (ValueIdx.ix2 r (0 : Fin 1)) - top q M w (ValueIdx.ix2 r (0 : Fin 1))) := by
  pointwise [k0_pay24]
  rfl

theorem pay25_apply (q : FVec Ideal S256x256 .bf16) (M : FVec Ideal S256x1 .f32) (w : FVec Ideal S1x256x256 .bf16) (r c : Fin 256) :
    k0_pay25 (F := Ideal) q k0_pay3 cols 64#32 k0_pay4 k0_pay5 1#32 M w (ValueIdx.ix2 r c)
      = Ideal.exp (last q w (ValueIdx.ix2 r c) - top q M w (ValueIdx.ix2 r (0 : Fin 1))) := by
  pointwise [k0_pay25]
  rfl

theorem pay26_apply (q : FVec Ideal S256x256 .bf16) (M l : FVec Ideal S256x1 .f32) (w : FVec Ideal S1x256x256 .bf16) (r : Fin 256) :
    k0_pay26 (F := Ideal) q k0_pay3 cols 64#32 k0_pay4 k0_pay5 1#32 M l w (ValueIdx.ix2 r (0 : Fin 1))
      = Ideal.exp (M (ValueIdx.ix2 r (0 : Fin 1)) - top q M w (ValueIdx.ix2 r (0 : Fin 1))) * l (ValueIdx.ix2 r (0 : Fin 1)) := by
  rw [← pay24_apply]
  pointwise [k0_pay26]

theorem pay27_apply (q : FVec Ideal S256x256 .bf16) (M : FVec Ideal S256x1 .f32) (w : FVec Ideal S1x256x256 .bf16) (r : Fin 256) :
    k0_pay27 (F := Ideal) q k0_pay3 cols 64#32 k0_pay4 k0_pay5 1#32 M w (ValueIdx.ix1 r)
      = ∑ c : Fin 256, Ideal.exp (last q w (ValueIdx.ix2 r c) - top q M w (ValueIdx.ix2 r (0 : Fin 1))) := by
  simp only [← pay25_apply]
  pointwise [k0_pay27]
  rfl

theorem pay1_apply (a : FVec Ideal S256x128 .f32) (u : FVec Ideal S256x128 .bf16) (e : FVec Ideal S256x1 .f32) (p : FVec Ideal S256x256 .f32) (l : FVec Ideal S256x1 .f32) (t : FVec Ideal S256 .f32) (r : Fin 256) (d : Fin 128) :
    k0_pay1 (F := Ideal) a u e p l t (ValueIdx.ix3 (0 : Fin 1) r d)
      = Ideal.div (e (ValueIdx.ix2 r (0 : Fin 1)) * a (ValueIdx.ix2 r d) + ∑ c : Fin 256, p (ValueIdx.ix2 r c) * u (ValueIdx.ix2 c d))
          (l (ValueIdx.ix2 r (0 : Fin 1)) + t (ValueIdx.ix1 r)) := by
  pointwise [k0_pay1]
  rfl

end Cert.Kernel5Ideal.Attn

end
-- ==== Proof.Attn.Tiles.lean ====
/- The grid of the latent attention's call, 4 batches by 4 heads by 16 tiles of 256 rows: where a point's blocks lie in
   the arrays. -/
module

public import Idealize.ShloMosaic.Lib.Pipeline.ValueKit
public import Idealize.ShloMosaic.Lib.Claim

@[expose] public section

set_option maxRecDepth 16384

noncomputable section

namespace Cert.Attn

open Idealize.ShloMosaic

abbrev grid : Pipeline.Grid := ⟨3, ![4, 4, 16], ![false, false, false]⟩

/-- A grid point's coordinates: its batch, its head and its tile of rows. -/
theorem coords_val : ∀ t : Fin grid.N, (grid.coords t 0).val = t.val / 64 ∧ (grid.coords t 1).val = t.val / 16 % 4 ∧ (grid.coords t 2).val = t.val % 16 := by
  decide +kernel

/-- A point's batch. -/
abbrev batch (t : Fin grid.N) : Fin 4 := ⟨t.val / 64, by have : t.val < 256 := t.isLt; omega⟩
/-- A point's head. -/
abbrev head (t : Fin grid.N) : Fin 4 := ⟨t.val / 16 % 4, by omega⟩
/-- Row `r` of a point's tile. -/
abbrev row (t : Fin grid.N) (r : Fin 256) : Fin 4096 := ⟨t.val % 16 * 256 + r.val, by omega⟩

/-- The index of an array of rows by heads at a point's row and head. -/
theorem tile_ext {D E : Nat} (t : Fin grid.N) (r : Fin 256) (k : Fin D) (z : Fin E) (hz : z.val = (head t).val * D + k.val) (i : Shape.Idx ⟨3, ![4, 4096, E]⟩)
    (h0 : (i (0 : Fin 3)).val = (BitVec.ofNat 32 (grid.coords t 0).val).toNat * 1 + 1 * 0)
    (h1 : (i (1 : Fin 3)).val = (BitVec.ofNat 32 (grid.coords t 2).val).toNat * 256 + 1 * r.val)
    (h2 : (i (2 : Fin 3)).val = (BitVec.ofNat 32 (grid.coords t 1).val).toNat * D + 1 * k.val) : i = ValueIdx.ix3 (batch t) (row t r) z := by
  obtain ⟨e0, e1, e2⟩ := coords_val t
  have ht : t.val < 256 := t.isLt
  have f : (BitVec.ofNat 32 (grid.coords t 1).val).toNat = t.val / 16 % 4 := by
    rw [BitVec.toNat_ofNat]; omega
  rw [BitVec.toNat_ofNat] at h0 h1
  rw [f] at h2
  funext a
  apply Fin.ext
  fin_cases a
  · refine Eq.trans h0 ?_
    show _ = t.val / 64
    omega
  · refine Eq.trans h1 ?_
    show _ = t.val % 16 * 256 + r.val
    omega
  · refine Eq.trans h2 ((congrArg (t.val / 16 % 4 * D + ·) (Nat.one_mul _)).trans hz.symm)

/-- The index of an array of all rows by heads at a row and a point's head. -/
theorem head_ext {D E : Nat} (t : Fin grid.N) (r : Fin 4096) (k : Fin D) (z : Fin E) (hz : z.val = (head t).val * D + k.val) (i : Shape.Idx ⟨3, ![4, 4096, E]⟩)
    (h0 : (i (0 : Fin 3)).val = (BitVec.ofNat 32 (grid.coords t 0).val).toNat * 1 + 1 * 0)
    (h1 : (i (1 : Fin 3)).val = 0 * 4096 + 1 * r.val)
    (h2 : (i (2 : Fin 3)).val = (BitVec.ofNat 32 (grid.coords t 1).val).toNat * D + 1 * k.val) : i = ValueIdx.ix3 (batch t) r z := by
  obtain ⟨e0, e1, e2⟩ := coords_val t
  have ht : t.val < 256 := t.isLt
  have f : (BitVec.ofNat 32 (grid.coords t 1).val).toNat = t.val / 16 % 4 := by
    rw [BitVec.toNat_ofNat]; omega
  rw [BitVec.toNat_ofNat] at h0
  rw [f] at h2
  funext a
  apply Fin.ext
  fin_cases a
  · refine Eq.trans h0 ?_
    show _ = t.val / 64
    omega
  · refine Eq.trans h1 ?_
    show _ = r.val
    omega
  · refine Eq.trans h2 ((congrArg (t.val / 16 % 4 * D + ·) (Nat.one_mul _)).trans hz.symm)

/-- The index of 256 rows of a block of all rows, from row `o`. -/
theorem rows_ext {D : Nat} (o : ℕ) (off : Fin 3 → ℕ) (ho : off = ![0, o, 0]) (c : Fin 256) (e : Fin D) (j : Fin 4096) (hj : j.val = o + c.val) (i : Shape.Idx ⟨3, ![1, 4096, D]⟩)
    (h1 : (i (1 : Fin 3)).val = off 1 + 1 * c.val)
    (h2 : (i (2 : Fin 3)).val = off 2 + 1 * e.val) : i = ValueIdx.ix3 (0 : Fin 1) j e := by
  subst ho
  funext a
  apply Fin.ext
  fin_cases a
  · exact congrArg Fin.val (Subsingleton.elim (α := Fin 1) _ _)
  · refine Eq.trans h1 ?_
    show o + 1 * c.val = j.val
    omega
  · refine Eq.trans h2 ?_
    show 0 + 1 * e.val = e.val
    omega

/-- An index of a block of rows has batch 0. -/
theorem tile_idx {D : Nat} (y : Shape.Idx ⟨3, ![1, 256, D]⟩) : ∃ (r : Fin 256) (d : Fin D), y = ValueIdx.ix3 (0 : Fin 1) r d :=
  ⟨y (1 : Fin 3), y (2 : Fin 3), (ValueIdx.eq_ix3 y).trans (congrArg (fun z => ValueIdx.ix3 z _ _) (Subsingleton.elim (α := Fin 1) _ _))⟩

end Cert.Attn

end
-- ==== Proof.Attn.Trip.lean ====
/- What one trip of the latent attention's loop yields, and what its body leaves in the output block. -/
module

public import proofs.«01_k».proof.Proof.Gen.Kernel5Ideal.Value
public import proofs.«01_k».proof.Proof.Attn.Pay
public import proofs.«01_k».proof.Proof.Attn.Tiles
public import Idealize.ShloMosaic.Lib.Claim
public import Idealize.ShloMosaic.Lib.Pointwise
public import Idealize.ShloMosaic.Lib.Pipeline.ValueKit
public import Idealize.ShloMosaic.Lib.WholeRead
public import Idealize.ShloMosaic.PureOps.Ideal

@[expose] public section

set_option maxRecDepth 16384

noncomputable section

namespace Cert.Kernel5Ideal.Attn

open Idealize.ShloMosaic Idealize.ShloMosaic.TcCoe Idealize.SL.Sem Cert.Attn
open Cert.Kernel5Ideal Cert.Kernel5Ideal.Gen

theorem trips_tile : ∀ n : Fin 16, Scf.trips 0#32 (Scalar.addi 0#32 (Scalar.muli (Scalar.divsi (Scalar.subi (BitVec.ofNat 32 n.val) 0#32) 1#32) 1#32)) 1#32 = n.val := by
  decide +kernel

theorem trips_rest : ∀ n : Fin 16, Scf.trips (Scalar.addi 0#32 (Scalar.muli (Scalar.divsi (Scalar.subi (BitVec.ofNat 32 n.val) 0#32) 1#32) 1#32)) (Scalar.addi 0#32 (Scalar.subi (BitVec.ofNat 32 n.val) 0#32)) 1#32 = 0 := by
  decide +kernel

/-- The loop runs over the blocks of keys before the point's tile. -/
theorem trips_eq (i : grid0.Coords) : (k0_t1_loop i).trips = (i 2).val := trips_tile (i 2)

variable (c : Dev nD) (i : grid0.Coords) (arg3 : Memref sig .tc .vmem S1x256x256 .bf16) (harg3 : arg3.IsWhole) (arg4 : Memref sig .tc .vmem S1x4096x256 .bf16) (harg4 : arg4.IsWhole) (arg5 : Memref sig .tc .vmem S1x4096x128 .bf16) (harg5 : arg5.IsWhole) (arg6 : Memref sig .tc .vmem S1x256x128 .bf16) (harg6 : arg6.IsWhole)
  (x0 : FVec Ideal S1x256x256 .bf16) (x1 : FVec Ideal S1x4096x256 .bf16) (x2 : FVec Ideal S1x4096x128 .bf16)

/-- The running maximum, sum of weights and weighted sum of values before trip `n`. -/
abbrev state (n : ℕ) : FVec Ideal S256x1 .f32 × FVec Ideal S256x1 .f32 × FVec Ideal S256x128 .f32 :=
  st_k0_t1 (F := Ideal) Variants.none c none i arg3 harg3 arg4 harg4 arg5 harg5 arg6 harg6 (BitVec.ofNat 32 (i 2).val) (k0_pay2 x0) k0_pay3 cols 64#32 k0_pay4 k0_pay5 1#32 (harg4.unread x1) (harg5.unread x2) (k0_pay6, k0_pay7, k0_pay8) n

theorem state_succ (n : ℕ) (hn : n < (i 2).val) :
    ∃ (w : FVec Ideal S1x256x256 .bf16) (u : FVec Ideal S1x256x128 .bf16),
      (∀ (b : Fin 256) (e : Fin 256) (j : Fin 4096), j.val = 256 * n + b.val → w (ValueIdx.ix3 (0 : Fin 1) b e) = x1 (ValueIdx.ix3 (0 : Fin 1) j e))
      ∧ (∀ (b : Fin 256) (e : Fin 128) (j : Fin 4096), j.val = 256 * n + b.val → u (ValueIdx.ix3 (0 : Fin 1) b e) = x2 (ValueIdx.ix3 (0 : Fin 1) j e))
      ∧ state c i arg3 harg3 arg4 harg4 arg5 harg5 arg6 harg6 x0 x1 x2 (n + 1)
        = (k0_pay10 (k0_pay2 x0) (state c i arg3 harg3 arg4 harg4 arg5 harg5 arg6 harg6 x0 x1 x2 n).1 w,
            k0_pay13 (k0_pay2 x0) (state c i arg3 harg3 arg4 harg4 arg5 harg5 arg6 harg6 x0 x1 x2 n).1 (state c i arg3 harg3 arg4 harg4 arg5 harg5 arg6 harg6 x0 x1 x2 n).2.1 w,
            k0_pay14 (k0_pay2 x0) (state c i arg3 harg3 arg4 harg4 arg5 harg5 arg6 harg6 x0 x1 x2 n).1 (state c i arg3 harg3 arg4 harg4 arg5 harg5 arg6 harg6 x0 x1 x2 n).2.2 w u) := by
  have hk : n < (k0_t1_loop i).trips := (trips_eq i).symm ▸ hn
  have h := st_k0_t1_succ (F := Ideal) Variants.none c none i arg3 harg3 arg4 harg4 arg5 harg5 arg6 harg6 (BitVec.ofNat 32 (i 2).val) (k0_pay2 x0) k0_pay3 cols 64#32 k0_pay4 k0_pay5 1#32 (harg4.unread x1) (harg5.unread x2) (k0_pay6, k0_pay7, k0_pay8) ⟨n, hk⟩
  apply Exists.intro
  apply Exists.intro
  refine ⟨?w, ?u, h.trans ?s⟩
  case s =>
    unfold tripR_k0_t1 trip_k0_t1
    rfl
  case w =>
    intro b e j hj
    rw [Memref.IsWhole.readAt_unread]
    refine congrArg x1 ?_
    exact rows_ext (256 * n) _ (k0_off1_eq i ⟨n, hk⟩) b e j hj _ rfl rfl
  case u =>
    intro b e j hj
    rw [Memref.IsWhole.readAt_unread]
    refine congrArg x2 ?_
    exact rows_ext (256 * n) _ (k0_off2_eq i ⟨n, hk⟩) b e j hj _ rfl rfl

/-- The output block from the running sums before the point's tile and the tile's keys and values. -/
def finish (s : FVec Ideal S256x1 .f32 × FVec Ideal S256x1 .f32 × FVec Ideal S256x128 .f32) (w : FVec Ideal S1x256x256 .bf16) (u : FVec Ideal S1x256x128 .bf16) : FVec Ideal S1x256x128 .bf16 :=
  k0_pay1 s.2.2 (k0_pay21 u) (k0_pay24 (k0_pay2 x0) k0_pay3 cols 64#32 k0_pay4 k0_pay5 1#32 s.1 w)
    (k0_pay25 (k0_pay2 x0) k0_pay3 cols 64#32 k0_pay4 k0_pay5 1#32 s.1 w)
    (k0_pay26 (k0_pay2 x0) k0_pay3 cols 64#32 k0_pay4 k0_pay5 1#32 s.1 s.2.1 w)
    (k0_pay27 (k0_pay2 x0) k0_pay3 cols 64#32 k0_pay4 k0_pay5 1#32 s.1 w)

/-- The second loop makes no trip. -/
theorem finish_state (n1 n2 : ℕ) (h1 : n1 = (i 2).val) (h2 : n2 = 0) (w : FVec Ideal S1x256x256 .bf16) (u : FVec Ideal S1x256x128 .bf16) :
    finish x0 (st_k0_t2 (F := Ideal) Variants.none c none i arg3 harg3 arg4 harg4 arg5 harg5 arg6 harg6 (BitVec.ofNat 32 (i 2).val) (k0_pay2 x0) k0_pay3 cols 64#32 k0_pay4 k0_pay5 1#32 (harg4.unread x1) (harg5.unread x2)
        ((state c i arg3 harg3 arg4 harg4 arg5 harg5 arg6 harg6 x0 x1 x2 n1).1, (state c i arg3 harg3 arg4 harg4 arg5 harg5 arg6 harg6 x0 x1 x2 n1).2.1, (state c i arg3 harg3 arg4 harg4 arg5 harg5 arg6 harg6 x0 x1 x2 n1).2.2) n2) w u
      = finish x0 (state c i arg3 harg3 arg4 harg4 arg5 harg5 arg6 harg6 x0 x1 x2 (i 2).val) w u := by
  subst h1 h2
  rfl

theorem out_eq :
    ∃ (w : FVec Ideal S1x256x256 .bf16) (u : FVec Ideal S1x256x128 .bf16),
      (∀ (b : Fin 256) (e : Fin 256) (j : Fin 4096), j.val = 256 * (i 2).val + b.val → w (ValueIdx.ix3 (0 : Fin 1) b e) = x1 (ValueIdx.ix3 (0 : Fin 1) j e))
      ∧ (∀ (b : Fin 256) (e : Fin 128) (j : Fin 4096), j.val = 256 * (i 2).val + b.val → u (ValueIdx.ix3 (0 : Fin 1) b e) = x2 (ValueIdx.ix3 (0 : Fin 1) j e))
      ∧ out0_A_3 (F := Ideal) c i arg3 harg3 arg4 harg4 arg5 harg5 arg6 harg6 x0 x1 x2
        = finish x0 (state c i arg3 harg3 arg4 harg4 arg5 harg5 arg6 harg6 x0 x1 x2 (i 2).val) w u := by
  apply Exists.intro
  apply Exists.intro
  refine ⟨?w, ?u, ?s⟩
  case s =>
    unfold out0_A_3
    frame_out
    exact finish_state c i arg3 harg3 arg4 harg4 arg5 harg5 arg6 harg6 x0 x1 x2 _ _ (trips_tile (i 2)) (trips_rest (i 2)) _ _
  case w =>
    intro b e j hj
    rw [View.ld_apply]
    exact congrArg x1 (rows_ext (256 * (i 2).val) _ (k0_off5_eq i) b e j hj _ rfl rfl)
  case u =>
    intro b e j hj
    rw [View.ld_apply]
    exact congrArg x2 (rows_ext (256 * (i 2).val) _ (k0_off6_eq i) b e j hj _ rfl rfl)

end Cert.Kernel5Ideal.Attn

end
-- ==== Proof.Attn.Online.lean ====
/- A softmax-weighted sum taken block by block: the running maximum, the running sum of exponentials and the running
   weighted sum, each rescaled when the maximum grows, over the extended reals. -/
module

public import Idealize.ShloMosaic.PureOps.Ideal
public import Mathlib.Algebra.BigOperators.Intervals
public import Mathlib.Data.EReal.Operations

@[expose] public section

noncomputable section

namespace Cert.Attn

open Idealize.ShloMosaic

/-- The greatest of the first `n` scores. -/
def peak (s : ℕ → EReal) (n : ℕ) : EReal := (Finset.range n).sup s
/-- The sum of the first `n` weights against the level `M`. -/
def mass (s : ℕ → EReal) (n : ℕ) (M : EReal) : EReal := ∑ k ∈ Finset.range n, Ideal.exp (s k - M)
/-- The weighted sum of the first `n` values against the level `M`. -/
def heap (s v : ℕ → EReal) (n : ℕ) (M : EReal) : EReal := ∑ k ∈ Finset.range n, Ideal.exp (s k - M) * v k

theorem exp_nonneg (x : EReal) : 0 ≤ Ideal.exp x := by
  induction x using EReal.rec with
  | bot => exact le_refl _
  | top => exact le_top
  | coe r => exact EReal.coe_nonneg.mpr (Real.exp_pos r).le

theorem exp_ne_top {x : EReal} (h : x ≠ ⊤) : Ideal.exp x ≠ ⊤ := by
  induction x using EReal.rec with
  | bot => exact EReal.zero_ne_top
  | top => exact absurd rfl h
  | coe r => exact EReal.coe_ne_top _

/-- A difference from something no smaller is not the top. -/
theorem sub_ne_top {x y : EReal} (hx : x ≠ ⊤) (h : x ≤ y) : x - y ≠ ⊤ := by
  induction x using EReal.rec with
  | bot => rw [EReal.bot_sub]; exact bot_ne_top
  | top => exact absurd rfl hx
  | coe r =>
    induction y using EReal.rec with
    | bot => exact absurd h (by simp)
    | top => rw [sub_eq_add_neg, EReal.neg_top, EReal.add_bot]; exact bot_ne_top
    | coe t => rw [← EReal.coe_sub]; exact EReal.coe_ne_top _

/-- Rescaling a weight from one level to a greater one. -/
theorem rescale {x y z : EReal} (hxy : x ≤ y) (hyz : y ≤ z) (hz : z ≠ ⊤) :
    Ideal.exp (y - z) * Ideal.exp (x - y) = Ideal.exp (x - z) := by
  induction x using EReal.rec with
  | bot => rw [EReal.bot_sub, EReal.bot_sub]; exact mul_zero _
  | top => exact absurd (top_le_iff.mp (hxy.trans hyz)) hz
  | coe r =>
    induction y using EReal.rec with
    | bot => exact absurd hxy (by simp)
    | top => exact absurd (top_le_iff.mp hyz) hz
    | coe t =>
      induction z using EReal.rec with
      | bot => exact absurd hyz (by simp)
      | top => exact absurd rfl hz
      | coe u =>
        rw [← EReal.coe_sub, ← EReal.coe_sub, ← EReal.coe_sub, Ideal.exp_coe, Ideal.exp_coe, Ideal.exp_coe, ← EReal.coe_mul, ← Real.exp_add]
        congr 2
        ring

theorem mul_sum {ι : Type} {c : EReal} (h0 : 0 ≤ c) (ht : c ≠ ⊤) (t : Finset ι) (f : ι → EReal) :
    c * ∑ k ∈ t, f k = ∑ k ∈ t, c * f k := by
  classical
  induction t using Finset.induction_on with
  | empty => exact mul_zero _
  | insert a t ha ih => rw [Finset.sum_insert ha, Finset.sum_insert ha, EReal.left_distrib_of_nonneg_of_ne_top h0 ht, ih]

theorem le_peak (s : ℕ → EReal) {n k : ℕ} (h : k < n) : s k ≤ peak s n := Finset.le_sup (f := s) (Finset.mem_range.mpr h)

theorem peak_ne_top {s : ℕ → EReal} (hs : ∀ k, s k ≠ ⊤) (n : ℕ) : peak s n ≠ ⊤ := by
  have h : peak s n < ⊤ := (Finset.sup_lt_iff (f := s) bot_lt_top).mpr fun k _ => lt_top_iff_ne_top.mpr (hs k)
  exact h.ne

/-- The greatest over a block, folded from the bottom. -/
theorem peak_block (s : ℕ → EReal) (n b : ℕ) :
    max (peak s n) ((Finset.univ : Finset (Fin b)).fold max ⊥ fun k => s (n + k.val)) = peak s (n + b) := by
  refine le_antisymm (max_le (Finset.sup_mono (Finset.range_subset_range.mpr (Nat.le_add_right n b))) ?_) (Finset.sup_le fun k hk => ?_)
  · exact Finset.sup_le (s := (Finset.univ : Finset (Fin b))) (f := fun k => s (n + k.val)) fun k _ => le_peak s (Nat.add_lt_add_left k.isLt n)
  · rw [Finset.mem_range] at hk
    rcases Nat.lt_or_ge k n with h | h
    · exact le_max_of_le_left (le_peak s h)
    · refine le_max_of_le_right ?_
      have := Finset.le_sup (f := fun j : Fin b => s (n + j.val)) (Finset.mem_univ (⟨k - n, by omega⟩ : Fin b))
      rwa [show n + (⟨k - n, by omega⟩ : Fin b).val = k from by show n + (k - n) = k; omega] at this

theorem sum_block {M : Type} [AddCommMonoid M] (f : ℕ → M) (n b : ℕ) :
    ∑ k ∈ Finset.range (n + b), f k = ∑ k ∈ Finset.range n, f k + ∑ k : Fin b, f (n + k.val) := by
  rw [Finset.sum_range_add, Finset.sum_range (fun k => f (n + k))]

/-- One block more in the sum of weights. -/
theorem mass_block {s : ℕ → EReal} (hs : ∀ k, s k ≠ ⊤) (n b : ℕ) :
    Ideal.exp (peak s n - peak s (n + b)) * mass s n (peak s n) + ∑ k : Fin b, Ideal.exp (s (n + k.val) - peak s (n + b))
      = mass s (n + b) (peak s (n + b)) := by
  have hle : peak s n ≤ peak s (n + b) := Finset.sup_mono (Finset.range_subset_range.mpr (Nat.le_add_right n b))
  unfold mass
  rw [sum_block, mul_sum (exp_nonneg _) (exp_ne_top (sub_ne_top (peak_ne_top hs n) hle))]
  refine congrArg (· + _) (Finset.sum_congr rfl fun k hk => ?_)
  exact rescale (le_peak s (Finset.mem_range.mp hk)) hle (peak_ne_top hs _)

/-- One block more in the weighted sum. -/
theorem heap_block {s : ℕ → EReal} (v : ℕ → EReal) (hs : ∀ k, s k ≠ ⊤) (n b : ℕ) :
    Ideal.exp (peak s n - peak s (n + b)) * heap s v n (peak s n) + ∑ k : Fin b, Ideal.exp (s (n + k.val) - peak s (n + b)) * v (n + k.val)
      = heap s v (n + b) (peak s (n + b)) := by
  have hle : peak s n ≤ peak s (n + b) := Finset.sup_mono (Finset.range_subset_range.mpr (Nat.le_add_right n b))
  unfold heap
  rw [sum_block, mul_sum (exp_nonneg _) (exp_ne_top (sub_ne_top (peak_ne_top hs n) hle))]
  refine congrArg (· + _) (Finset.sum_congr rfl fun k hk => ?_)
  rw [← mul_assoc, rescale (le_peak s (Finset.mem_range.mp hk)) hle (peak_ne_top hs _)]

/-- Keys at the bottom past `n` do not count. -/
theorem peak_masked {s : ℕ → EReal} {n N : ℕ} (h : n ≤ N) (hb : ∀ k, n ≤ k → s k = ⊥) : peak s N = peak s n := by
  refine le_antisymm (Finset.sup_le fun k _ => ?_) (Finset.sup_mono (Finset.range_subset_range.mpr h))
  rcases Nat.lt_or_ge k n with hk | hk
  · exact le_peak s hk
  · rw [hb k hk]; exact bot_le

theorem mass_masked {s : ℕ → EReal} {n N : ℕ} (h : n ≤ N) (hb : ∀ k, n ≤ k → s k = ⊥) (M : EReal) : mass s N M = mass s n M := by
  unfold mass
  refine (Finset.sum_subset (Finset.range_subset_range.mpr h) fun k _ hk => ?_).symm
  rw [hb k (by simpa using hk), EReal.bot_sub]; rfl

theorem heap_masked {s : ℕ → EReal} (v : ℕ → EReal) {n N : ℕ} (h : n ≤ N) (hb : ∀ k, n ≤ k → s k = ⊥) (M : EReal) : heap s v N M = heap s v n M := by
  unfold heap
  refine (Finset.sum_subset (Finset.range_subset_range.mpr h) fun k _ hk => ?_).symm
  rw [hb k (by simpa using hk), EReal.bot_sub]; exact zero_mul _

/-- With one finite score and none at the top, the sum of weights is a positive real. -/
theorem mass_pos {s : ℕ → EReal} (hs : ∀ k, s k ≠ ⊤) {n k : ℕ} (hk : k < n) (hf : s k ≠ ⊥) :
    ∃ r : ℝ, 0 < r ∧ mass s n (peak s n) = (r : EReal) := by
  have hM : peak s n ≠ ⊥ := fun h => hf (le_bot_iff.mp (h ▸ le_peak s hk))
  have hw : ∀ j ∈ Finset.range n, Ideal.exp (s j - peak s n) ≠ ⊤ := fun j hj =>
    exp_ne_top (sub_ne_top (hs j) (le_peak s (Finset.mem_range.mp hj)))
  have h1 : ∀ j ∈ Finset.range n, Ideal.exp (s j - peak s n) = ((Ideal.exp (s j - peak s n)).toReal : EReal) := fun j hj =>
    (EReal.coe_toReal (hw j hj) ((bot_lt_iff_ne_bot.mp (lt_of_lt_of_le EReal.bot_lt_zero (exp_nonneg _))))).symm
  have hpos : 0 < Ideal.exp (s k - peak s n) := by
    have hMt := peak_ne_top hs n
    have e1 := EReal.coe_toReal (hs k) hf
    have e2 := EReal.coe_toReal hMt hM
    rw [← e1, ← e2, ← EReal.coe_sub, Ideal.exp_coe]
    exact EReal.coe_pos.mpr (Real.exp_pos _)
  refine ⟨∑ j ∈ Finset.range n, (Ideal.exp (s j - peak s n)).toReal, ?_, ?_⟩
  · refine Finset.sum_pos' (fun j _ => EReal.toReal_nonneg (exp_nonneg _)) ⟨k, Finset.mem_range.mpr hk, ?_⟩
    have := h1 k (Finset.mem_range.mpr hk)
    rw [this] at hpos
    exact EReal.coe_pos.mp hpos
  · unfold mass
    rw [Finset.sum_congr rfl h1]
    exact (map_sum (⟨⟨Real.toEReal, EReal.coe_zero⟩, EReal.coe_add⟩ : ℝ →+ EReal) _ _).symm

/-- The weighted sum over the sum of weights is the sum under the normalized weights. -/
theorem heap_div {s : ℕ → EReal} (v : ℕ → EReal) (hs : ∀ k, s k ≠ ⊤) {n k : ℕ} (hk : k < n) (hf : s k ≠ ⊥) :
    Ideal.div (heap s v n (peak s n)) (mass s n (peak s n))
      = ∑ j ∈ Finset.range n, v j * Ideal.div (Ideal.exp (s j - peak s n)) (mass s n (peak s n)) := by
  obtain ⟨r, hr, e⟩ := mass_pos hs hk hf
  rw [e, Ideal.div_coe hr.ne', mul_comm]
  unfold heap
  rw [mul_sum (EReal.coe_nonneg.mpr (one_div_pos.mpr hr).le) (EReal.coe_ne_top _)]
  refine Finset.sum_congr rfl fun j _ => ?_
  rw [Ideal.div_coe hr.ne', mul_comm, mul_assoc, mul_left_comm]

end Cert.Attn

end
-- ==== Proof.Attn.Ref.lean ====
/- The reference of the latent attention's call, at an index. -/
module

public import proofs.«01_k».proof.Proof.Gen.Reference5Ideal.Run
public import proofs.«01_k».proof.Proof.Attn.Online
public import proofs.«01_k».proof.Proof.Attn.Chunk
public import Idealize.ShloMosaic.Lib.Claim
public import Idealize.ShloMosaic.Lib.Pointwise
public import Idealize.ShloMosaic.PureOps.Ideal

@[expose] public section

set_option maxRecDepth 16384

noncomputable section

namespace Cert.Reference5Ideal.Attn

open Idealize.ShloMosaic Idealize.ShloMosaic.TcCoe Cert.Attn
open Cert.Reference5Ideal Cert.Reference5Ideal.Gen Cert.Reference5Ideal.Value

/-- Every position's chunk. -/
def chunk : IVec S4096 32 :=
  select (andi (cmpi .ne (signi (iotaInDim S4096 32 0)) (broadcastInDim S4096 ![] bcast_S_S4096 (signi (id (constantI S_ 32 64#32))))) (cmpi .ne (Host.remsi (iotaInDim S4096 32 0) (broadcastInDim S4096 ![] bcast_S_S4096 (id (constantI S_ 32 64#32)))) (broadcastInDim S4096 ![] bcast_S_S4096 (constantI S_ 32 0#32)))) (subi (Host.divsi (iotaInDim S4096 32 0) (broadcastInDim S4096 ![] bcast_S_S4096 (id (constantI S_ 32 64#32)))) (broadcastInDim S4096 ![] bcast_S_S4096 (constantI S_ 32 1#32))) (Host.divsi (iotaInDim S4096 32 0) (broadcastInDim S4096 ![] bcast_S_S4096 (id (constantI S_ 32 64#32))))

/-- Which keys a query sees. -/
def seen : IVec S4096x4096 1 :=
  cmpi .sle (broadcastInDim S4096x4096 ![0, 1] bcast_S1x4096_S4096x4096_0_1 (broadcastInDim S1x4096 ![1] bcast_S4096_S1x4096_1 chunk)) (broadcastInDim S4096x4096 ![0, 1] bcast_S4096x1_S4096x4096_0_1 (broadcastInDim S4096x1 ![0] bcast_S4096_S4096x1_0 chunk))

/-- The products of queries and keys. -/
def products (q k : FVec Ideal S4x4096x1024 .bf16) : FVec Ideal S4x4x4096x4096 .f32 :=
  Host.dotGeneral dot_S4x4096x4x256_S4x4096x4x256_S4x4x4096x4096_3_3_1_1_02_02 none (shapeCast _ (extf .f32 q bitsLt_bf16_f32) shapeCasts_S4x4096x1024_S4x4096x4x256) (shapeCast _ (extf .f32 k bitsLt_bf16_f32) shapeCasts_S4x4096x1024_S4x4096x4x256)

/-- The masked scores. -/
def masked (q k : FVec Ideal S4x4096x1024 .bf16) : FVec Ideal S4x4x4096x4096 .f32 :=
  select (broadcastInDim S4x4x4096x4096 ![2, 3] bcast_S4096x4096_S4x4x4096x4096_2_3 seen) (products q k) (broadcastInDim S4x4x4096x4096 ![] bcast_S_S4x4x4096x4096 (id (constant S_ .f32 0xFF800000#32)))

/-- Every row's largest score. -/
def maxes (s : FVec Ideal S4x4x4096x4096 .f32) : FVec Ideal S4x4x4096 .f32 :=
  maximumf (broadcastInDim S4x4x4096 ![] bcast_S_S4x4x4096 (constant S_ .f32 0xFF800000#32)) (Host.reduce FloatOps.maximumf s (constant S_ .f32 0xFF800000#32) reducesTo_S4x4x4096x4096_S4x4x4096_d3 h_S_)

/-- The exponentials of the scores less their row's largest. -/
def weights (s : FVec Ideal S4x4x4096x4096 .f32) : FVec Ideal S4x4x4096x4096 .f32 :=
  Host.exp (subf s (broadcastInDim S4x4x4096x4096 ![0, 1, 2, 3] bcast_S4x4x4096x1_S4x4x4096x4096_0_1_2_3 (broadcastInDim S4x4x4096x1 ![0, 1, 2] bcast_S4x4x4096_S4x4x4096x1_0_1_2 (maxes s))))

/-- The rows' sums of weights. -/
def totals (w : FVec Ideal S4x4x4096x4096 .f32) : FVec Ideal S4x4x4096 .f32 :=
  Host.reduceAdd w (constant S_ .f32 0x00000000#32) reducesTo_S4x4x4096x4096_S4x4x4096_d3 h_S_

/-- The weights over their row's sum. -/
def probs (w : FVec Ideal S4x4x4096x4096 .f32) : FVec Ideal S4x4x4096x4096 .f32 :=
  Host.divf w (broadcastInDim S4x4x4096x4096 ![0, 1, 2, 3] bcast_S4x4x4096x1_S4x4x4096x4096_0_1_2_3 (broadcastInDim S4x4x4096x1 ![0, 1, 2] bcast_S4x4x4096_S4x4x4096x1_0_1_2 (totals w)))

/-- The values' sums by those. -/
def mix (v : FVec Ideal S4x4096x512 .bf16) (p : FVec Ideal S4x4x4096x4096 .f32) : FVec Ideal S4x4096x512 .bf16 :=
  truncf .bf16 (shapeCast _ (transpose S4x4096x4x128 [0, 3, 1, 2] (Host.dotGeneral dot_S4x4096x4x128_S4x4x4096x4096_S4x4x128x4096_1_3_3_2_02_01 none (shapeCast _ (extf .f32 v bitsLt_bf16_f32) shapeCasts_S4x4096x512_S4x4096x4x128) p) transposes_S4x4x128x4096_S4x4096x4x128_0_3_1_2) shapeCasts_S4x4096x4x128_S4x4096x512) bitsLt_bf16_f32

/-- The call's result. -/
def attend (q k : FVec Ideal S4x4096x1024 .bf16) (v : FVec Ideal S4x4096x512 .bf16) : FVec Ideal S4x4096x512 .bf16 :=
  mix v (probs (weights (masked q k)))

theorem result_eq (m : (ℓ : Loc nD τ sig) → Buf (Elt Ideal) ℓ) (c : Dev nD) :
    res_main_v29 (F := Ideal) m c = attend (m ((c.tc : Thread nD τ).loc main_arg0)) (m ((c.tc : Thread nD τ).loc main_arg1)) (m ((c.tc : Thread nD τ).loc main_arg2)) := by
  unfold res_main_v29
  rfl

theorem chunk_apply (s : Fin 4096) : chunk (ValueIdx.ix1 s) = BitVec.ofNat 32 (s.val / 64) := by
  have e : iotaInDim S4096 32 0 (ValueIdx.ix1 s) = BitVec.ofNat 32 s.val := rfl
  have f : ∀ x : BitVec 32, broadcastInDim S4096 ![] bcast_S_S4096 (constantI S_ 32 x) (ValueIdx.ix1 s) = x := fun x => rfl
  have g : broadcastInDim S4096 ![] bcast_S_S4096 (signi (constantI S_ 32 64#32)) (ValueIdx.ix1 s) = 1#32 :=
    signi_pos (n := 64) (constantI S_ 32 64#32) _ rfl (by decide) (by decide)
  have h := signi_pos (iotaInDim S4096 32 0) (ValueIdx.ix1 s) e s.isLt
  have q := quotient .host s.isLt (signi (iotaInDim S4096 32 0) (ValueIdx.ix1 s)) 1#32 rfl h
  simp only [chunk, id, select, andi, subi, cmpi, Host.remsi, Host.divsi, e, f, g]
  exact q

theorem products_apply (q k : FVec Ideal S4x4096x1024 .bf16) (b h : Fin 4) (s j : Fin 4096) :
    products q k (ValueIdx.ix4 b h s j) = ∑ d : Fin 256, q (ValueIdx.ix3 b s (⟨h.val * 256 + d.val, by omega⟩ : Fin 1024)) * k (ValueIdx.ix3 b j (⟨h.val * 256 + d.val, by omega⟩ : Fin 1024)) := by
  pointwise [products]
  rfl

theorem rowMax (s : FVec Ideal S4x4x4096x4096 .f32) (x : FVec Ideal S_ .f32) (b h : Fin 4) (r : Fin 4096) :
    Host.reduce FloatOps.maximumf s x reducesTo_S4x4x4096x4096_S4x4x4096_d3 h_S_ (ValueIdx.ix3 b h r)
      = Finset.univ.fold max (x (Shape.Idx.first h_S_)) fun j : Fin 4096 => s (ValueIdx.ix4 b h r j) := by
  simp only [pointwise]
  rfl

theorem larger {t : Shape} (x y : FVec Ideal t .f32) (i : t.Idx) : maximumf x y i = (max (x i) (y i) : EReal) := rfl

theorem least : constant (F := Ideal) S_ .f32 0xFF800000#32 = fun _ => (⊥ : EReal) := by
  funext i
  pointwise
  rfl

theorem maxes_apply (s : FVec Ideal S4x4x4096x4096 .f32) (b h : Fin 4) (r : Fin 4096) :
    maxes s (ValueIdx.ix3 b h r) = max (⊥ : EReal) (Finset.univ.fold max ⊥ fun j : Fin 4096 => s (ValueIdx.ix4 b h r j)) := by
  refine (larger _ _ _).trans ?_
  rw [rowMax, least]
  rfl

theorem weights_apply (s : FVec Ideal S4x4x4096x4096 .f32) (b h : Fin 4) (r j : Fin 4096) :
    weights s (ValueIdx.ix4 b h r j) = Ideal.exp (s (ValueIdx.ix4 b h r j) - maxes s (ValueIdx.ix3 b h r)) := by
  pointwise [weights]
  rfl

theorem totals_apply (w : FVec Ideal S4x4x4096x4096 .f32) (b h : Fin 4) (r : Fin 4096) :
    totals w (ValueIdx.ix3 b h r) = ∑ j : Fin 4096, w (ValueIdx.ix4 b h r j) := by
  pointwise [totals]
  rfl

theorem probs_apply (w : FVec Ideal S4x4x4096x4096 .f32) (b h : Fin 4) (r j : Fin 4096) :
    probs w (ValueIdx.ix4 b h r j) = Ideal.div (w (ValueIdx.ix4 b h r j)) (totals w (ValueIdx.ix3 b h r)) := by
  pointwise [probs]
  rfl

theorem mix_apply (v : FVec Ideal S4x4096x512 .bf16) (p : FVec Ideal S4x4x4096x4096 .f32) (b h : Fin 4) (s : Fin 4096) (d : Fin 128) :
    mix v p (ValueIdx.ix3 b s (⟨h.val * 128 + d.val, by omega⟩ : Fin 512))
      = ∑ j : Fin 4096, v (ValueIdx.ix3 b j (⟨h.val * 128 + d.val, by omega⟩ : Fin 512)) * p (ValueIdx.ix4 b h s j) := by
  pointwise [mix]
  refine Finset.sum_congr rfl fun j _ => congrArg₂ (· * ·) (congrArg v ?_) (congrArg p ?_)
  · refine congrArg (fun e => ValueIdx.ix3 b j e) (Fin.ext ?_)
    show (h.val * 128 + d.val) / 128 * 128 + (h.val * 128 + d.val) % 128 = h.val * 128 + d.val
    omega
  · refine congrArg (fun e => ValueIdx.ix4 b e s j) (Fin.ext ?_)
    show (h.val * 128 + d.val) / 128 = h.val
    omega

theorem seen_apply (s j : Fin 4096) : seen (ValueIdx.ix2 s j) = BitVec.ofBool (decide (j.val / 64 ≤ s.val / 64)) := by
  pointwise [seen]
  exact (congrArg₂ (IntOp.cmpi .sle) (chunk_apply j) (chunk_apply s)).trans (sle_small (by omega) (by omega))

theorem masked_apply (q k : FVec Ideal S4x4096x1024 .bf16) (b h : Fin 4) (s j : Fin 4096) :
    masked q k (ValueIdx.ix4 b h s j) = if j.val / 64 ≤ s.val / 64 then products q k (ValueIdx.ix4 b h s j) else ⊥ := by
  pointwise [masked]
  exact (congrArg (fun x => Scalar.select x (products q k (ValueIdx.ix4 b h s j)) (⊥ : EReal)) (seen_apply s j)).trans (select_ofBool _ _ _)

end Cert.Reference5Ideal.Attn

end
-- ==== Proof.Attn.Score.lean ====
/- A query's scores over the keys it may see, and the attention they give: the reference's sum is the quotient that the
   running sums come to. -/
module

public import proofs.«01_k».proof.Proof.Attn.Ref

@[expose] public section

set_option maxRecDepth 16384

noncomputable section

namespace Cert.Attn

open Idealize.ShloMosaic Idealize.ShloMosaic.TcCoe

/-- The score of key `j` for the query `a` at row `S`: their product, or the bottom if the key's chunk is later. -/
def score (a : Fin 256 → EReal) (w : Fin 4096 → Fin 256 → EReal) (S j : ℕ) : EReal :=
  if hj : j < 4096 then (if j / 64 ≤ S / 64 then ∑ d : Fin 256, a d * w ⟨j, hj⟩ d else ⊥) else ⊥

/-- The value at key `j`. -/
def value (u : Fin 4096 → EReal) (j : ℕ) : EReal := if hj : j < 4096 then u ⟨j, hj⟩ else 0

/-- The attention of a query: the weighted sum of values over the sum of weights. -/
def attention (a : Fin 256 → EReal) (w : Fin 4096 → Fin 256 → EReal) (u : Fin 4096 → EReal) (S : ℕ) : EReal :=
  Ideal.div (heap (score a w S) (value u) 4096 (peak (score a w S) 4096)) (mass (score a w S) 4096 (peak (score a w S) 4096))

theorem score_seen (a : Fin 256 → EReal) (w : Fin 4096 → Fin 256 → EReal) {S j : ℕ} (hj : j < 4096) (h : j / 64 ≤ S / 64) :
    score a w S j = ∑ d : Fin 256, a d * w ⟨j, hj⟩ d := by
  unfold score
  rw [dif_pos hj, if_pos h]

theorem score_unseen (a : Fin 256 → EReal) (w : Fin 4096 → Fin 256 → EReal) {S j : ℕ} (h : ¬ j / 64 ≤ S / 64) : score a w S j = ⊥ := by
  unfold score
  exact dite_eq_right_iff.mpr fun _ => if_neg h

theorem value_apply (u : Fin 4096 → EReal) {j : ℕ} (hj : j < 4096) : value u j = u ⟨j, hj⟩ := dif_pos hj

/-- A sum of products of reals is a real. -/
theorem product_real {a b : Fin 256 → EReal} (ha : ∀ d, ∃ r : ℝ, a d = r) (hb : ∀ d, ∃ r : ℝ, b d = r) :
    ∃ r : ℝ, ∑ d : Fin 256, a d * b d = r := by
  choose f hf using ha
  choose g hg using hb
  refine ⟨∑ d : Fin 256, f d * g d, ?_⟩
  refine Eq.trans (Finset.sum_congr rfl fun d _ => ?_) (map_sum (⟨⟨((↑) : ℝ → EReal), EReal.coe_zero⟩, EReal.coe_add⟩ : ℝ →+ EReal) _ _).symm
  rw [hf, hg]
  exact (EReal.coe_mul _ _).symm

theorem score_ne_top {a : Fin 256 → EReal} {w : Fin 4096 → Fin 256 → EReal} (ha : ∀ d, ∃ r : ℝ, a d = r) (hw : ∀ j d, ∃ r : ℝ, w j d = r) (S j : ℕ) :
    score a w S j ≠ ⊤ := by
  unfold score
  split_ifs with hj h
  · obtain ⟨r, e⟩ := product_real ha (hw ⟨j, hj⟩)
    rw [e]
    exact EReal.coe_ne_top r
  · exact bot_ne_top
  · exact bot_ne_top

theorem score_zero_ne_bot {a : Fin 256 → EReal} {w : Fin 4096 → Fin 256 → EReal} (ha : ∀ d, ∃ r : ℝ, a d = r) (hw : ∀ j d, ∃ r : ℝ, w j d = r) (S : ℕ) :
    score a w S 0 ≠ ⊥ := by
  rw [score_seen a w (by omega : 0 < 4096) (by omega)]
  obtain ⟨r, e⟩ := product_real ha (hw ⟨0, by omega⟩)
  rw [e]
  exact EReal.coe_ne_bot r

/-- The greatest of all the scores, folded from the bottom. -/
theorem peak_all (s : ℕ → EReal) : max (⊥ : EReal) (Finset.univ.fold max ⊥ fun j : Fin 4096 => s j.val) = peak s 4096 := by
  have h := peak_block s 0 4096
  simp only [Nat.zero_add] at h
  exact h

/-- The first `m` blocks' running sums are all of them's, where the keys after are unseen. -/
theorem attention_of_seen (a : Fin 256 → EReal) (w : Fin 4096 → Fin 256 → EReal) (u : Fin 4096 → EReal) {S n : ℕ} (hn : n ≤ 4096)
    (hS : ∀ j, n ≤ j → ¬ j / 64 ≤ S / 64) :
    Ideal.div (heap (score a w S) (value u) n (peak (score a w S) n)) (mass (score a w S) n (peak (score a w S) n)) = attention a w u S := by
  have hb : ∀ j, n ≤ j → score a w S j = ⊥ := fun j hj => score_unseen a w (hS j hj)
  unfold attention
  rw [peak_masked hn hb, heap_masked (value u) hn hb, mass_masked hn hb]

end Cert.Attn

namespace Cert.Reference5Ideal.Attn

open Idealize.ShloMosaic Idealize.ShloMosaic.TcCoe Cert.Attn
open Cert.Reference5Ideal Cert.Reference5Ideal.Gen

variable (q k : FVec Ideal S4x4096x1024 .bf16) (v : FVec Ideal S4x4096x512 .bf16)

/-- A head's query, keys and values. -/
abbrev qAt (b h : Fin 4) (s : Fin 4096) : Fin 256 → EReal := fun e => q (ValueIdx.ix3 b s (⟨h.val * 256 + e.val, by omega⟩ : Fin 1024))
abbrev kAt (b h : Fin 4) : Fin 4096 → Fin 256 → EReal := fun j e => k (ValueIdx.ix3 b j (⟨h.val * 256 + e.val, by omega⟩ : Fin 1024))
abbrev vAt (b h : Fin 4) (d : Fin 128) : Fin 4096 → EReal := fun j => v (ValueIdx.ix3 b j (⟨h.val * 128 + d.val, by omega⟩ : Fin 512))

theorem masked_score (b h : Fin 4) (s j : Fin 4096) :
    masked q k (ValueIdx.ix4 b h s j) = score (qAt q b h s) (kAt k b h) s.val j.val := by
  rw [masked_apply, products_apply]
  unfold score
  rw [dif_pos j.isLt]

theorem attend_apply (hq : ∀ x, ∃ r : ℝ, q x = r) (hk : ∀ x, ∃ r : ℝ, k x = r) (b h : Fin 4) (s : Fin 4096) (d : Fin 128) :
    attend q k v (ValueIdx.ix3 b s (⟨h.val * 128 + d.val, by omega⟩ : Fin 512))
      = attention (qAt q b h s) (kAt k b h) (vAt v b h d) s.val := by
  unfold attend attention
  rw [heap_div (value (vAt v b h d)) (score_ne_top (fun _ => hq _) (fun _ _ => hk _) s.val) (by omega : 0 < 4096)
    (score_zero_ne_bot (fun _ => hq _) (fun _ _ => hk _) s.val), mix_apply, Finset.sum_range]
  have hm : maxes (masked q k) (ValueIdx.ix3 b h s) = peak (score (qAt q b h s) (kAt k b h) s.val) 4096 := by
    rw [maxes_apply, ← peak_all]
    simp only [masked_score]
  have ht : totals (weights (masked q k)) (ValueIdx.ix3 b h s)
      = mass (score (qAt q b h s) (kAt k b h) s.val) 4096 (peak (score (qAt q b h s) (kAt k b h) s.val) 4096) := by
    rw [totals_apply]
    unfold mass
    rw [Finset.sum_range]
    exact Finset.sum_congr rfl fun j _ => by rw [weights_apply, hm, masked_score]
  refine Finset.sum_congr rfl fun j _ => ?_
  rw [probs_apply, weights_apply, ht, hm, masked_score, value_apply _ j.isLt]

end Cert.Reference5Ideal.Attn

end
-- ==== Proof.Attn.Row.lean ====
/- A row of the output block of the latent attention's call is the attention of the block's query over the keys and values. -/
module

public import proofs.«01_k».proof.Proof.Attn.Trip
public import proofs.«01_k».proof.Proof.Attn.Score

@[expose] public section

set_option maxRecDepth 16384

noncomputable section

namespace Cert.Kernel5Ideal.Attn

open Idealize.ShloMosaic Idealize.ShloMosaic.TcCoe Idealize.SL.Sem Cert.Attn
open Cert.Kernel5Ideal Cert.Kernel5Ideal.Gen

variable (c : Dev nD) (i : grid0.Coords) (arg3 : Memref sig .tc .vmem S1x256x256 .bf16) (harg3 : arg3.IsWhole) (arg4 : Memref sig .tc .vmem S1x4096x256 .bf16) (harg4 : arg4.IsWhole) (arg5 : Memref sig .tc .vmem S1x4096x128 .bf16) (harg5 : arg5.IsWhole) (arg6 : Memref sig .tc .vmem S1x256x128 .bf16) (harg6 : arg6.IsWhole)
  (x0 : FVec Ideal S1x256x256 .bf16) (x1 : FVec Ideal S1x4096x256 .bf16) (x2 : FVec Ideal S1x4096x128 .bf16)

/-- The block's query at row `r`, its keys and its values at column `d`. -/
abbrev qRow (r : Fin 256) : Fin 256 → EReal := fun e => x0 (ValueIdx.ix3 (0 : Fin 1) r e)
abbrev kRows : Fin 4096 → Fin 256 → EReal := fun j e => x1 (ValueIdx.ix3 (0 : Fin 1) j e)
abbrev vCol (d : Fin 128) : Fin 4096 → EReal := fun j => x2 (ValueIdx.ix3 (0 : Fin 1) j d)

/-- The scores of row `r` of the point's tile. -/
abbrev sc (r : Fin 256) : ℕ → EReal := score (qRow x0 r) (kRows x1) (256 * (i 2).val + r.val)

theorem tile_lt (i : grid0.Coords) : (i 2).val < 16 := (i 2).isLt

/-- A seen key's score is the product of the query with it. -/
theorem sc_seen (r : Fin 256) (j : Fin 4096) (h : j.val / 64 ≤ (256 * (i 2).val + r.val) / 64) (f : Fin 256 → EReal)
    (hf : ∀ e, f e = x1 (ValueIdx.ix3 (0 : Fin 1) j e)) : ∑ e : Fin 256, k0_pay2 (F := Ideal) x0 (ValueIdx.ix2 r e) * f e = sc i x0 x1 r j.val := by
  refine Eq.trans (Finset.sum_congr rfl fun e _ => ?_) (score_seen (qRow x0 r) (kRows x1) j.isLt h).symm
  rw [query_apply, hf]

variable (hx0 : ∀ x, ∃ r : ℝ, x0 x = r) (hx1 : ∀ x, ∃ r : ℝ, x1 x = r)

include hx0 hx1 in
theorem sc_ne_top (r : Fin 256) (j : ℕ) : sc i x0 x1 r j ≠ ⊤ := score_ne_top (fun _ => hx0 _) (fun _ _ => hx1 _) _ j

include hx0 hx1 in
theorem state_apply (r : Fin 256) (n : ℕ) : n ≤ (i 2).val →
    (state c i arg3 harg3 arg4 harg4 arg5 harg5 arg6 harg6 x0 x1 x2 n).1 (ValueIdx.ix2 r (0 : Fin 1)) = peak (sc i x0 x1 r) (256 * n)
    ∧ (state c i arg3 harg3 arg4 harg4 arg5 harg5 arg6 harg6 x0 x1 x2 n).2.1 (ValueIdx.ix2 r (0 : Fin 1)) = mass (sc i x0 x1 r) (256 * n) (peak (sc i x0 x1 r) (256 * n))
    ∧ ∀ d : Fin 128, (state c i arg3 harg3 arg4 harg4 arg5 harg5 arg6 harg6 x0 x1 x2 n).2.2 (ValueIdx.ix2 r d) = heap (sc i x0 x1 r) (value (vCol x2 d)) (256 * n) (peak (sc i x0 x1 r) (256 * n)) := by
  have hi := tile_lt i
  induction n with
  | zero =>
    intro _
    exact ⟨pay6_apply r, pay7_apply r, fun d => pay8_apply r d⟩
  | succ n ih =>
    intro hn
    obtain ⟨hM, hl, ha⟩ := ih (by omega)
    obtain ⟨w, u, hw, hu, e⟩ := state_succ c i arg3 harg3 arg4 harg4 arg5 harg5 arg6 harg6 x0 x1 x2 n (by omega)
    have hs := sc_ne_top i x0 x1 hx0 hx1 r
    have h9 : ∀ b : Fin 256, k0_pay9 (F := Ideal) (k0_pay2 x0) w (ValueIdx.ix2 r b) = sc i x0 x1 r (256 * n + b.val) := fun b => by
      rw [pay9_apply]
      exact sc_seen i x0 x1 r ⟨256 * n + b.val, by omega⟩ (by show (256 * n + b.val) / 64 ≤ _; omega) _ fun e => hw b e _ rfl
    have h10 : k0_pay10 (F := Ideal) (k0_pay2 x0) (state c i arg3 harg3 arg4 harg4 arg5 harg5 arg6 harg6 x0 x1 x2 n).1 w (ValueIdx.ix2 r (0 : Fin 1)) = peak (sc i x0 x1 r) (256 * n + 256) := by
      rw [pay10_apply, hM, ← peak_block]
      simp only [h9]
    rw [e, Nat.mul_succ]
    refine ⟨h10, ?_, fun d => ?_⟩
    · refine (pay13_apply _ _ _ _ r).trans ?_
      rw [h10, hM, hl, ← mass_block hs]
      simp only [h9]
    · refine (pay14_apply _ _ _ _ _ r d).trans ?_
      rw [h10, hM, ha d, ← heap_block _ hs]
      refine congrArg₂ (· + ·) rfl (Finset.sum_congr rfl fun b _ => ?_)
      rw [h9, hu b d ⟨256 * n + b.val, by omega⟩ rfl, Cert.Attn.value_apply _ (by omega : 256 * n + b.val < 4096)]

include hx0 hx1 in
theorem out_apply (r : Fin 256) (d : Fin 128) :
    out0_A_3 (F := Ideal) c i arg3 harg3 arg4 harg4 arg5 harg5 arg6 harg6 x0 x1 x2 (ValueIdx.ix3 (0 : Fin 1) r d)
      = attention (qRow x0 r) (kRows x1) (vCol x2 d) (256 * (i 2).val + r.val) := by
  have hi := tile_lt i
  obtain ⟨w, u, hw, hu, e⟩ := out_eq c i arg3 harg3 arg4 harg4 arg5 harg5 arg6 harg6 x0 x1 x2
  obtain ⟨hM, hl, ha⟩ := state_apply c i arg3 harg3 arg4 harg4 arg5 harg5 arg6 harg6 x0 x1 x2 hx0 hx1 r (i 2).val le_rfl
  have hs := sc_ne_top i x0 x1 hx0 hx1 r
  have hlast : ∀ b : Fin 256, last (k0_pay2 x0) w (ValueIdx.ix2 r b) = sc i x0 x1 r (256 * (i 2).val + b.val) := fun b => by
    rw [last_apply]
    split_ifs with h
    · rw [pay9_apply]
      exact sc_seen i x0 x1 r ⟨256 * (i 2).val + b.val, by omega⟩ (by show (256 * (i 2).val + b.val) / 64 ≤ _; omega) _ fun e => hw b e _ rfl
    · exact (score_unseen _ _ (by omega)).symm
  have htop : top (k0_pay2 x0) (state c i arg3 harg3 arg4 harg4 arg5 harg5 arg6 harg6 x0 x1 x2 (i 2).val).1 w (ValueIdx.ix2 r (0 : Fin 1)) = peak (sc i x0 x1 r) (256 * (i 2).val + 256) := by
    rw [top_apply, hM, ← peak_block]
    simp only [hlast]
  rw [e]
  refine (pay1_apply _ _ _ _ _ _ r d).trans ?_
  rw [pay24_apply, pay26_apply, pay27_apply, htop, hM, hl, ha d]
  refine Eq.trans ?_ (attention_of_seen (qRow x0 r) (kRows x1) (vCol x2 d) (S := 256 * (i 2).val + r.val) (n := 256 * (i 2).val + 256) (by omega) (fun j hj => by omega))
  rw [← mass_block hs, ← heap_block _ hs]
  refine congrArg₂ Ideal.div (congrArg₂ (· + ·) rfl (Finset.sum_congr rfl fun b _ => ?_)) (congrArg₂ (· + ·) rfl (Finset.sum_congr rfl fun b _ => ?_))
  · rw [pay25_apply, htop, hlast, value_apply, hu b d ⟨256 * (i 2).val + b.val, by omega⟩ rfl, Cert.Attn.value_apply _ (by omega : 256 * (i 2).val + b.val < 4096)]
  · rw [hlast]

end Cert.Kernel5Ideal.Attn

end
-- ==== Proof.Attn.Value.lean ====
/- What the latent attention's call leaves in its result array. -/
module

public import proofs.«01_k».proof.Proof.Attn.Row

@[expose] public section

set_option maxRecDepth 16384

noncomputable section

namespace Cert.Kernel5Ideal.Attn

open Idealize.ShloMosaic Idealize.ShloMosaic.TcCoe Idealize.SL.Sem Cert.Attn
open Cert.Kernel5Ideal Cert.Kernel5Ideal.Gen

variable (m : (ℓ : Loc nD τ sig) → Buf (Elt Ideal) ℓ)

abbrev aQ : FVec Ideal S4x4096x1024 .bf16 := m (((0 : Dev nD) : Thread nD τ).loc main_arg0)
abbrev aK : FVec Ideal S4x4096x1024 .bf16 := m (((0 : Dev nD) : Thread nD τ).loc main_arg1)
abbrev aV : FVec Ideal S4x4096x512 .bf16 := m (((0 : Dev nD) : Thread nD τ).loc main_arg2)

theorem blk0 (t : Fin cfg0.N) (r e : Fin 256) :
    (iblk m (0 : Dev nD) 0 t : FVec Ideal S1x256x256 .bf16) (ValueIdx.ix3 (0 : Fin 1) r e)
      = aQ m (ValueIdx.ix3 (batch t) (row t r) (⟨(head t).val * 256 + e.val, by omega⟩ : Fin 1024)) := by
  show V m (0 : Dev nD) main_arg0 (((cfg0.win 0).blk t).view.emb (ValueIdx.ix3 (0 : Fin 1) r e)) = _
  rw [V_main_arg0]
  exact congrArg (aQ m) (tile_ext t r e _ rfl _ rfl rfl rfl)

theorem blk1 (t : Fin cfg0.N) (j : Fin 4096) (e : Fin 256) :
    (iblk m (0 : Dev nD) 1 t : FVec Ideal S1x4096x256 .bf16) (ValueIdx.ix3 (0 : Fin 1) j e)
      = aK m (ValueIdx.ix3 (batch t) j (⟨(head t).val * 256 + e.val, by omega⟩ : Fin 1024)) := by
  show V m (0 : Dev nD) main_arg1 (((cfg0.win 1).blk t).view.emb (ValueIdx.ix3 (0 : Fin 1) j e)) = _
  rw [V_main_arg1]
  exact congrArg (aK m) (head_ext t j e _ rfl _ rfl rfl rfl)

theorem blk2 (t : Fin cfg0.N) (j : Fin 4096) (d : Fin 128) :
    (iblk m (0 : Dev nD) 2 t : FVec Ideal S1x4096x128 .bf16) (ValueIdx.ix3 (0 : Fin 1) j d)
      = aV m (ValueIdx.ix3 (batch t) j (⟨(head t).val * 128 + d.val, by omega⟩ : Fin 512)) := by
  show V m (0 : Dev nD) main_arg2 (((cfg0.win 2).blk t).view.emb (ValueIdx.ix3 (0 : Fin 1) j d)) = _
  rw [V_main_arg2]
  exact congrArg (aV m) (head_ext t j d _ rfl _ rfl rfl rfl)

variable (hq : ∀ x, ∃ r : ℝ, aQ m x = r) (hk : ∀ x, ∃ r : ℝ, aK m x = r)

include hq in
theorem real0 (t : Fin cfg0.N) (x : S1x256x256.Idx) : ∃ r : ℝ, (iblk m (0 : Dev nD) 0 t : FVec Ideal S1x256x256 .bf16) x = (r : EReal) := by
  obtain ⟨r, e, rfl⟩ := tile_idx (D := 256) x
  rw [blk0]
  exact hq _

include hk in
theorem real1 (t : Fin cfg0.N) (x : S1x4096x256.Idx) : ∃ r : ℝ, (iblk m (0 : Dev nD) 1 t : FVec Ideal S1x4096x256 .bf16) x = (r : EReal) := by
  obtain ⟨j, e, rfl⟩ : ∃ (j : Fin 4096) (e : Fin 256), x = ValueIdx.ix3 (0 : Fin 1) j e :=
    ⟨x (1 : Fin 3), x (2 : Fin 3), (ValueIdx.eq_ix3 x).trans (congrArg (fun z => ValueIdx.ix3 z _ _) (Subsingleton.elim (α := Fin 1) _ _))⟩
  rw [blk1]
  exact hk _

include hq hk in
theorem arr3 : (dats m 0 0).arrAt 3 cfg0.N = Cert.Reference5Ideal.Attn.attend (aQ m) (aK m) (aV m) := by
  refine (dats m 0 0).arrAt_eq_of_covers 3 _ (by decide +kernel) fun t hf y => ?_
  obtain ⟨r, d, rfl⟩ := tile_idx (D := 128) y
  refine Eq.trans ?_ (congrArg (Cert.Reference5Ideal.Attn.attend (aQ m) (aK m) (aV m))
    (tile_ext t r d (⟨(head t).val * 128 + d.val, by omega⟩ : Fin 512) rfl _ rfl rfl rfl)).symm
  refine Eq.trans ?_ (Cert.Reference5Ideal.Attn.attend_apply (aQ m) (aK m) (aV m) hq hk (batch t) (head t) (row t r) d).symm
  show (dats m 0 0).after 3 t (ValueIdx.ix3 (0 : Fin 1) r d) = _
  rw [after0_3]
  refine (out_apply 0 (grid0.coords t) (ms0_0 t) (hs0_0 t) (ms0_1 t) (hs0_1 t) (ms0_2 t) (hs0_2 t) (ms0_3 t) (hs0_3 t)
    (iblk m (0 : Dev nD) 0 t) (iblk m (0 : Dev nD) 1 t) (iblk m (0 : Dev nD) 2 t) (real0 m hq t) (real1 m hk t) r d).trans ?_
  have e0 : qRow (iblk m (0 : Dev nD) 0 t) r = Cert.Reference5Ideal.Attn.qAt (aQ m) (batch t) (head t) (row t r) := funext fun e => blk0 m t r e
  have e1 : kRows (iblk m (0 : Dev nD) 1 t) = Cert.Reference5Ideal.Attn.kAt (aK m) (batch t) (head t) := funext fun j => funext fun e => blk1 m t j e
  have e2 : vCol (iblk m (0 : Dev nD) 2 t) d = Cert.Reference5Ideal.Attn.vAt (aV m) (batch t) (head t) d := funext fun j => blk2 m t j d
  have e3 : 256 * (grid0.coords t 2).val + r.val = (row t r).val := by
    have h := (coords_val t).2.2
    show 256 * (grid0.coords t 2).val + r.val = t.val % 16 * 256 + r.val
    rw [show (grid0.coords t 2).val = t.val % 16 from h, Nat.mul_comm]
  rw [e0, e1, e2, e3]

end Cert.Kernel5Ideal.Attn

end
-- ==== Proof.Attn.Finite.lean ====
/- What the precondition of the latent attention's value says: the queries and the keys are reals. -/
module

public import proofs.«01_k».proof.Pre_finite
public import proofs.«01_k».proof.Proof.Gen.Pre_finite
public import Idealize.ShloMosaic.Lib.Claim
public import Idealize.ShloMosaic.Lib.Pointwise
public import Idealize.ShloMosaic.PureOps.Ideal

@[expose] public section

noncomputable section

namespace Cert.Attn

open Idealize.ShloMosaic

theorem both_ones : ∀ p q : BitVec 1, IntOp.andi p q = 1#1 ↔ p = 1#1 ∧ q = 1#1 := by decide

/-- An extended real whose magnitude is below the top is a real. -/
theorem real_of_lt (x : EReal) (h : max x (-x) < ⊤) : ∃ r : ℝ, x = r := by
  induction x using EReal.rec with
  | bot => exact absurd h (by simp)
  | top => exact absurd h (by simp)
  | coe r => exact ⟨r, rfl⟩

/-- The test of one entry. -/
theorem real_of_test (x : Ideal .bf16) (h : FloatOps.cmpf .olt (FloatOps.absf x) (FloatOps.ofBits (F := Ideal) .bf16 0x7F80#16) = 1#1) :
    ∃ r : ℝ, x = (r : EReal) := by
  have e : FloatOps.ofBits (F := Ideal) .bf16 0x7F80#16 = (⊤ : EReal) := by
    show Ideal.ofBits .bf16 0x7F80#16 = ⊤
    simp [Ideal.ofBits, Ideal.ieee]
  rw [e] at h
  refine real_of_lt x ?_
  by_contra hn
  refine absurd h ?_
  show ¬ BitVec.ofBool (decide (max x (-x) < (⊤ : EReal))) = 1#1
  rw [decide_eq_false hn]
  decide

theorem finite_real {q k : FVec Ideal Cert.Pre_finite.S4x4096x1024 .bf16} {v : FVec Ideal Cert.Pre_finite.S4x4096x512 .bf16}
    (h : Cert.Pre_finite.fn (F := Ideal) q k v = fun _ => 1#1) :
    (∀ x, ∃ r : ℝ, q x = (r : EReal)) ∧ ∀ x, ∃ r : ℝ, k x = (r : EReal) := by
  have e : ∀ x, FloatOps.cmpf .olt (FloatOps.absf (q x)) (FloatOps.ofBits (F := Ideal) .bf16 0x7F80#16) = 1#1
      ∧ FloatOps.cmpf .olt (FloatOps.absf (k x)) (FloatOps.ofBits (F := Ideal) .bf16 0x7F80#16) = 1#1 := fun x =>
    (both_ones _ _).mp (congrFun h x)
  exact ⟨fun x => real_of_test _ (e x).1, fun x => real_of_test _ (e x).2⟩

end Cert.Attn

end
-- ==== Proof.Attn.Claims.lean ====
/- The claims about the latent attention: its programs run and leave their arguments and counters, and the kernel's
   result is the reference's in exact arithmetic where the queries and keys are finite. -/
module

public import proofs.«01_k».proof.Defs
public import proofs.«01_k».proof.Proof.Gen.Kernel5.Frame
public import proofs.«01_k».proof.Proof.Attn.Value
public import proofs.«01_k».proof.Proof.Attn.Finite
public import Idealize.ShloMosaic.Adequacy
public import Idealize.ShloMosaic.Init

@[expose] public section

set_option maxRecDepth 16384

noncomputable section

namespace Cert.Attn

open Idealize.ShloMosaic Idealize.SL.Sem

theorem frame_kernel : Cert.quiescent_Kernel5 := fun m g _ => Cert.Kernel5.Gen.frame m g

theorem frame_ideal : Cert.quiescent_Kernel5Ideal := fun m g _ => Cert.Kernel5Ideal.Gen.frame m g

theorem frame_ideal_finite : Cert.quiescent_Kernel5Ideal_pre_finite := fun m g _ => Cert.Kernel5Ideal.Gen.frame m g

theorem frame_reference : Cert.quiescent_Reference5Ideal := fun m g _ =>
  (θ_run _ _ _).mono (fun r h => ⟨fun c => (h c).2, sem_eq_zero_of_no_sems (by decide) r.2⟩)
    (Cert.Reference5Ideal.Value.run m g)

theorem frame_reference_finite : Cert.quiescent_Reference5Ideal_pre_finite := fun m g _ => frame_reference m g trivial

theorem agrees : Cert.algebraic_Kernel5Ideal_Reference5Ideal_pre_finite := by
  intro m g m' g' hpre hargs
  obtain ⟨hq, hk⟩ := finite_real (hpre 0)
  refine ⟨fun _ => Cert.Reference5Ideal.Attn.attend (Cert.Kernel5Ideal.Attn.aQ m) (Cert.Kernel5Ideal.Attn.aK m) (Cert.Kernel5Ideal.Attn.aV m), ?_, ?_⟩
  · refine (θ_run _ _ _).mono (fun r hr c => ?_) (Cert.Kernel5Ideal.Value.run_blocks m g)
    obtain rfl : c = 0 := Subsingleton.elim (α := Fin 1) _ _
    exact ⟨(hr 0).1.trans (Cert.Kernel5Ideal.Attn.arr3 m hq hk), (hr 0).2⟩
  · refine (θ_run _ _ _).mono (fun r hr c => ⟨?_, (hr c).2⟩) (Cert.Reference5Ideal.Value.run m' g')
    obtain rfl : c = 0 := Subsingleton.elim (α := Fin 1) _ _
    obtain ⟨h0, h1, h2⟩ := hargs 0
    refine (hr 0).1.trans ((Cert.Reference5Ideal.Attn.result_eq m' 0).trans ?_)
    rw [h0, h1, h2]

end Cert.Attn

end
-- ==== Proof.Moe.IdealOuts.lean ====
/- What the output window and the carried accumulator hold after each grid point, case by case.
   The text of the derived frame certificate up to the accumulation's equations, whose proofs are written anew. -/
module

public import proofs.«01_k».proof.Proof.Gen.KernelIdeal.Frame.RunF
public import Idealize.ShloMosaic.Lib.Claim

@[expose] public section

-- membership in a rectangle of production extents (`View.cover_of_tiled`): the elaborator's structural look
-- recurses once per coordinate of the long axes
set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-- Case A stores nothing into output 8 (the window is idle at its points and not written back there):
    no pieces — a placeholder (junk read back) that nothing consults, since at these points the window is neither
    written back nor read at the next point (Lib/Pipeline.lean "Idle points"). -/
def out0_A_8 (c : Dev nD) (i : grid0.Coords) (arg4 : Memref sig .tc .vmem S512x2048 .bf16) (harg4 : arg4.IsWhole) (arg5 : Memref sig .tc .vmem S1x2048x256 .f32) (harg5 : arg5.IsWhole) (arg6 : Memref sig .tc .vmem S1x2048x256 .f32) (harg6 : arg6.IsWhole) (arg7 : Memref sig .tc .vmem S1x1x256 .f32) (harg7 : arg7.IsWhole) (arg8 : Memref sig .tc .vmem S1x1x256 .f32) (harg8 : arg8.IsWhole) (arg9 : Memref sig .tc .vmem S1x256x2048 .f32) (harg9 : arg9.IsWhole) (arg10 : Memref sig .tc .vmem S1x1x2048 .f32) (harg10 : arg10.IsWhole) (arg11 : Memref sig .tc .vmem S512x1 .f32) (harg11 : arg11.IsWhole) (arg12 : Memref sig .tc .vmem S512x2048 .f32) (harg12 : arg12.IsWhole) (arg13 : Memref sig .tc .vmem S512x2048 .f32) (harg13 : arg13.IsWhole) (hc0 : cond0_0 i) (hc2 : ¬cond0_2 i)
    (x0 : Vec F S512x2048 .bf16) (x1 : Vec F S1x2048x256 .f32) (x2 : Vec F S1x2048x256 .f32) (x3 : Vec F S1x1x256 .f32) (x4 : Vec F S1x1x256 .f32) (x5 : Vec F S1x256x2048 .f32) (x6 : Vec F S1x1x2048 .f32) (x7 : Vec F S512x1 .f32) (xt0 : TbBuf0 (F := F) c tbM0_0) (xt1 : TbBuf0 (F := F) c tbM0_1) (hc1 : cond0_1 i (tbM0_1.view.readAt (Elt F) (Rect.unit (s := S1) ![0] S1.size inb_S1_S1_0).toLoadRect xt1 (Shape.Idx.first (numel1_S1.symm ▸ Nat.one_pos)))) : Vec F S512x2048 .f32 :=
  VO0_8.read (Elt F) (VO0_8.writes (Elt F) VO0_8.junk (kernelRun0_A c i arg4 harg4 arg5 harg5 arg6 harg6 arg7 harg7 arg8 harg8 arg9 harg9 arg10 harg10 arg11 harg11 arg12 harg12 arg13 harg13 hc0 hc2 x0 x1 x2 x3 x4 x5 x6 x7 xt0 xt1 hc1).1)

/-- Case A's pieces for scratch `arg13`, which the kernel carries between points, cover it: 2 pieces of `S512x2048` tiling it (Lib/Ring.lean `Piece.tiledL`). -/
theorem scover0_A_0 (c : Dev nD) (i : grid0.Coords) (arg4 : Memref sig .tc .vmem S512x2048 .bf16) (harg4 : arg4.IsWhole) (arg5 : Memref sig .tc .vmem S1x2048x256 .f32) (harg5 : arg5.IsWhole) (arg6 : Memref sig .tc .vmem S1x2048x256 .f32) (harg6 : arg6.IsWhole) (arg7 : Memref sig .tc .vmem S1x1x256 .f32) (harg7 : arg7.IsWhole) (arg8 : Memref sig .tc .vmem S1x1x256 .f32) (harg8 : arg8.IsWhole) (arg9 : Memref sig .tc .vmem S1x256x2048 .f32) (harg9 : arg9.IsWhole) (arg10 : Memref sig .tc .vmem S1x1x2048 .f32) (harg10 : arg10.IsWhole) (arg11 : Memref sig .tc .vmem S512x1 .f32) (harg11 : arg11.IsWhole) (arg12 : Memref sig .tc .vmem S512x2048 .f32) (harg12 : arg12.IsWhole) (arg13 : Memref sig .tc .vmem S512x2048 .f32) (harg13 : arg13.IsWhole) (hc0 : cond0_0 i) (hc2 : ¬cond0_2 i)
    (x0 : Vec F S512x2048 .bf16) (x1 : Vec F S1x2048x256 .f32) (x2 : Vec F S1x2048x256 .f32) (x3 : Vec F S1x1x256 .f32) (x4 : Vec F S1x1x256 .f32) (x5 : Vec F S1x256x2048 .f32) (x6 : Vec F S1x1x2048 .f32) (x7 : Vec F S512x1 .f32) (xt0 : TbBuf0 (F := F) c tbM0_0) (xt1 : TbBuf0 (F := F) c tbM0_1) (hc1 : cond0_1 i (tbM0_1.view.readAt (Elt F) (Rect.unit (s := S1) ![0] S1.size inb_S1_S1_0).toLoadRect xt1 (Shape.Idx.first (numel1_S1.symm ▸ Nat.one_pos)))) (y : S512x2048.Idx) :
    ∃ pc ∈ (kernelRun0_A c i arg4 harg4 arg5 harg5 arg6 harg6 arg7 harg7 arg8 harg8 arg9 harg9 arg10 harg10 arg11 harg11 arg12 harg12 arg13 harg13 hc0 hc2 x0 x1 x2 x3 x4 x5 x6 x7 xt0 xt1 hc1).2.1, y ∈ pc.1.set :=
  View.cover_of_tiledL (kernelRun0_A c i arg4 harg4 arg5 harg5 arg6 harg6 arg7 harg7 arg8 harg8 arg9 harg9 arg10 harg10 arg11 harg11 arg12 harg12 arg13 harg13 hc0 hc2 x0 x1 x2 x3 x4 x5 x6 x7 xt0 xt1 hc1).2.1 S512x2048.size (by sl_kernel_rfl) y

/-- What case A leaves in scratch `arg13`: its pieces read back over junk. -/
def sout0_A_0 (c : Dev nD) (i : grid0.Coords) (arg4 : Memref sig .tc .vmem S512x2048 .bf16) (harg4 : arg4.IsWhole) (arg5 : Memref sig .tc .vmem S1x2048x256 .f32) (harg5 : arg5.IsWhole) (arg6 : Memref sig .tc .vmem S1x2048x256 .f32) (harg6 : arg6.IsWhole) (arg7 : Memref sig .tc .vmem S1x1x256 .f32) (harg7 : arg7.IsWhole) (arg8 : Memref sig .tc .vmem S1x1x256 .f32) (harg8 : arg8.IsWhole) (arg9 : Memref sig .tc .vmem S1x256x2048 .f32) (harg9 : arg9.IsWhole) (arg10 : Memref sig .tc .vmem S1x1x2048 .f32) (harg10 : arg10.IsWhole) (arg11 : Memref sig .tc .vmem S512x1 .f32) (harg11 : arg11.IsWhole) (arg12 : Memref sig .tc .vmem S512x2048 .f32) (harg12 : arg12.IsWhole) (arg13 : Memref sig .tc .vmem S512x2048 .f32) (harg13 : arg13.IsWhole) (hc0 : cond0_0 i) (hc2 : ¬cond0_2 i)
    (x0 : Vec F S512x2048 .bf16) (x1 : Vec F S1x2048x256 .f32) (x2 : Vec F S1x2048x256 .f32) (x3 : Vec F S1x1x256 .f32) (x4 : Vec F S1x1x256 .f32) (x5 : Vec F S1x256x2048 .f32) (x6 : Vec F S1x1x2048 .f32) (x7 : Vec F S512x1 .f32) (xt0 : TbBuf0 (F := F) c tbM0_0) (xt1 : TbBuf0 (F := F) c tbM0_1) (hc1 : cond0_1 i (tbM0_1.view.readAt (Elt F) (Rect.unit (s := S1) ![0] S1.size inb_S1_S1_0).toLoadRect xt1 (Shape.Idx.first (numel1_S1.symm ▸ Nat.one_pos)))) : Vec F S512x2048 .f32 :=
  VS0_0.read (Elt F) (VS0_0.writes (Elt F) VS0_0.junk (kernelRun0_A c i arg4 harg4 arg5 harg5 arg6 harg6 arg7 harg7 arg8 harg8 arg9 harg9 arg10 harg10 arg11 harg11 arg12 harg12 arg13 harg13 hc0 hc2 x0 x1 x2 x3 x4 x5 x6 x7 xt0 xt1 hc1).2.1)

/-- Case B stores nothing into output 8 (the window is idle at its points and not written back there):
    no pieces — a placeholder (junk read back) that nothing consults, since at these points the window is neither
    written back nor read at the next point (Lib/Pipeline.lean "Idle points"). -/
def out0_B_8 (c : Dev nD) (i : grid0.Coords) (arg4 : Memref sig .tc .vmem S512x2048 .bf16) (harg4 : arg4.IsWhole) (arg5 : Memref sig .tc .vmem S1x2048x256 .f32) (harg5 : arg5.IsWhole) (arg6 : Memref sig .tc .vmem S1x2048x256 .f32) (harg6 : arg6.IsWhole) (arg7 : Memref sig .tc .vmem S1x1x256 .f32) (harg7 : arg7.IsWhole) (arg8 : Memref sig .tc .vmem S1x1x256 .f32) (harg8 : arg8.IsWhole) (arg9 : Memref sig .tc .vmem S1x256x2048 .f32) (harg9 : arg9.IsWhole) (arg10 : Memref sig .tc .vmem S1x1x2048 .f32) (harg10 : arg10.IsWhole) (arg11 : Memref sig .tc .vmem S512x1 .f32) (harg11 : arg11.IsWhole) (arg12 : Memref sig .tc .vmem S512x2048 .f32) (harg12 : arg12.IsWhole) (arg13 : Memref sig .tc .vmem S512x2048 .f32) (harg13 : arg13.IsWhole) (hc0 : cond0_0 i) (hc2 : ¬cond0_2 i)
    (x0 : Vec F S512x2048 .bf16) (x1 : Vec F S1x2048x256 .f32) (x2 : Vec F S1x2048x256 .f32) (x3 : Vec F S1x1x256 .f32) (x4 : Vec F S1x1x256 .f32) (x5 : Vec F S1x256x2048 .f32) (x6 : Vec F S1x1x2048 .f32) (x7 : Vec F S512x1 .f32) (xt0 : TbBuf0 (F := F) c tbM0_0) (xt1 : TbBuf0 (F := F) c tbM0_1) (hc1 : ¬cond0_1 i (tbM0_1.view.readAt (Elt F) (Rect.unit (s := S1) ![0] S1.size inb_S1_S1_0).toLoadRect xt1 (Shape.Idx.first (numel1_S1.symm ▸ Nat.one_pos)))) : Vec F S512x2048 .f32 :=
  VO0_8.read (Elt F) (VO0_8.writes (Elt F) VO0_8.junk (kernelRun0_B c i arg4 harg4 arg5 harg5 arg6 harg6 arg7 harg7 arg8 harg8 arg9 harg9 arg10 harg10 arg11 harg11 arg12 harg12 arg13 harg13 hc0 hc2 x0 x1 x2 x3 x4 x5 x6 x7 xt0 xt1 hc1).1)

/-- Case B's pieces for scratch `arg13`, which the kernel carries between points, cover it: 1 piece of `S512x2048` tiling it (Lib/Ring.lean `Piece.tiledL`). -/
theorem scover0_B_0 (c : Dev nD) (i : grid0.Coords) (arg4 : Memref sig .tc .vmem S512x2048 .bf16) (harg4 : arg4.IsWhole) (arg5 : Memref sig .tc .vmem S1x2048x256 .f32) (harg5 : arg5.IsWhole) (arg6 : Memref sig .tc .vmem S1x2048x256 .f32) (harg6 : arg6.IsWhole) (arg7 : Memref sig .tc .vmem S1x1x256 .f32) (harg7 : arg7.IsWhole) (arg8 : Memref sig .tc .vmem S1x1x256 .f32) (harg8 : arg8.IsWhole) (arg9 : Memref sig .tc .vmem S1x256x2048 .f32) (harg9 : arg9.IsWhole) (arg10 : Memref sig .tc .vmem S1x1x2048 .f32) (harg10 : arg10.IsWhole) (arg11 : Memref sig .tc .vmem S512x1 .f32) (harg11 : arg11.IsWhole) (arg12 : Memref sig .tc .vmem S512x2048 .f32) (harg12 : arg12.IsWhole) (arg13 : Memref sig .tc .vmem S512x2048 .f32) (harg13 : arg13.IsWhole) (hc0 : cond0_0 i) (hc2 : ¬cond0_2 i)
    (x0 : Vec F S512x2048 .bf16) (x1 : Vec F S1x2048x256 .f32) (x2 : Vec F S1x2048x256 .f32) (x3 : Vec F S1x1x256 .f32) (x4 : Vec F S1x1x256 .f32) (x5 : Vec F S1x256x2048 .f32) (x6 : Vec F S1x1x2048 .f32) (x7 : Vec F S512x1 .f32) (xt0 : TbBuf0 (F := F) c tbM0_0) (xt1 : TbBuf0 (F := F) c tbM0_1) (hc1 : ¬cond0_1 i (tbM0_1.view.readAt (Elt F) (Rect.unit (s := S1) ![0] S1.size inb_S1_S1_0).toLoadRect xt1 (Shape.Idx.first (numel1_S1.symm ▸ Nat.one_pos)))) (y : S512x2048.Idx) :
    ∃ pc ∈ (kernelRun0_B c i arg4 harg4 arg5 harg5 arg6 harg6 arg7 harg7 arg8 harg8 arg9 harg9 arg10 harg10 arg11 harg11 arg12 harg12 arg13 harg13 hc0 hc2 x0 x1 x2 x3 x4 x5 x6 x7 xt0 xt1 hc1).2.1, y ∈ pc.1.set :=
  View.cover_of_tiledL (kernelRun0_B c i arg4 harg4 arg5 harg5 arg6 harg6 arg7 harg7 arg8 harg8 arg9 harg9 arg10 harg10 arg11 harg11 arg12 harg12 arg13 harg13 hc0 hc2 x0 x1 x2 x3 x4 x5 x6 x7 xt0 xt1 hc1).2.1 S512x2048.size (by sl_kernel_rfl) y

/-- What case B leaves in scratch `arg13`: its pieces read back over junk. -/
def sout0_B_0 (c : Dev nD) (i : grid0.Coords) (arg4 : Memref sig .tc .vmem S512x2048 .bf16) (harg4 : arg4.IsWhole) (arg5 : Memref sig .tc .vmem S1x2048x256 .f32) (harg5 : arg5.IsWhole) (arg6 : Memref sig .tc .vmem S1x2048x256 .f32) (harg6 : arg6.IsWhole) (arg7 : Memref sig .tc .vmem S1x1x256 .f32) (harg7 : arg7.IsWhole) (arg8 : Memref sig .tc .vmem S1x1x256 .f32) (harg8 : arg8.IsWhole) (arg9 : Memref sig .tc .vmem S1x256x2048 .f32) (harg9 : arg9.IsWhole) (arg10 : Memref sig .tc .vmem S1x1x2048 .f32) (harg10 : arg10.IsWhole) (arg11 : Memref sig .tc .vmem S512x1 .f32) (harg11 : arg11.IsWhole) (arg12 : Memref sig .tc .vmem S512x2048 .f32) (harg12 : arg12.IsWhole) (arg13 : Memref sig .tc .vmem S512x2048 .f32) (harg13 : arg13.IsWhole) (hc0 : cond0_0 i) (hc2 : ¬cond0_2 i)
    (x0 : Vec F S512x2048 .bf16) (x1 : Vec F S1x2048x256 .f32) (x2 : Vec F S1x2048x256 .f32) (x3 : Vec F S1x1x256 .f32) (x4 : Vec F S1x1x256 .f32) (x5 : Vec F S1x256x2048 .f32) (x6 : Vec F S1x1x2048 .f32) (x7 : Vec F S512x1 .f32) (xt0 : TbBuf0 (F := F) c tbM0_0) (xt1 : TbBuf0 (F := F) c tbM0_1) (hc1 : ¬cond0_1 i (tbM0_1.view.readAt (Elt F) (Rect.unit (s := S1) ![0] S1.size inb_S1_S1_0).toLoadRect xt1 (Shape.Idx.first (numel1_S1.symm ▸ Nat.one_pos)))) : Vec F S512x2048 .f32 :=
  VS0_0.read (Elt F) (VS0_0.writes (Elt F) VS0_0.junk (kernelRun0_B c i arg4 harg4 arg5 harg5 arg6 harg6 arg7 harg7 arg8 harg8 arg9 harg9 arg10 harg10 arg11 harg11 arg12 harg12 arg13 harg13 hc0 hc2 x0 x1 x2 x3 x4 x5 x6 x7 xt0 xt1 hc1).2.1)

/-- Case C stores nothing into output 8 (the window is idle at its points and not written back there):
    no pieces — a placeholder (junk read back) that nothing consults, since at these points the window is neither
    written back nor read at the next point (Lib/Pipeline.lean "Idle points"). -/
def out0_C_8 (c : Dev nD) (i : grid0.Coords) (arg4 : Memref sig .tc .vmem S512x2048 .bf16) (harg4 : arg4.IsWhole) (arg5 : Memref sig .tc .vmem S1x2048x256 .f32) (harg5 : arg5.IsWhole) (arg6 : Memref sig .tc .vmem S1x2048x256 .f32) (harg6 : arg6.IsWhole) (arg7 : Memref sig .tc .vmem S1x1x256 .f32) (harg7 : arg7.IsWhole) (arg8 : Memref sig .tc .vmem S1x1x256 .f32) (harg8 : arg8.IsWhole) (arg9 : Memref sig .tc .vmem S1x256x2048 .f32) (harg9 : arg9.IsWhole) (arg10 : Memref sig .tc .vmem S1x1x2048 .f32) (harg10 : arg10.IsWhole) (arg11 : Memref sig .tc .vmem S512x1 .f32) (harg11 : arg11.IsWhole) (arg12 : Memref sig .tc .vmem S512x2048 .f32) (harg12 : arg12.IsWhole) (arg13 : Memref sig .tc .vmem S512x2048 .f32) (harg13 : arg13.IsWhole) (hc0 : ¬cond0_0 i) (hc2 : ¬cond0_2 i)
    (x0 : Vec F S512x2048 .bf16) (x1 : Vec F S1x2048x256 .f32) (x2 : Vec F S1x2048x256 .f32) (x3 : Vec F S1x1x256 .f32) (x4 : Vec F S1x1x256 .f32) (x5 : Vec F S1x256x2048 .f32) (x6 : Vec F S1x1x2048 .f32) (x7 : Vec F S512x1 .f32) (xt0 : TbBuf0 (F := F) c tbM0_0) (xt1 : TbBuf0 (F := F) c tbM0_1) (xs0 : Vec F S512x2048 .f32) (hc1 : cond0_1 i (tbM0_1.view.readAt (Elt F) (Rect.unit (s := S1) ![0] S1.size inb_S1_S1_0).toLoadRect xt1 (Shape.Idx.first (numel1_S1.symm ▸ Nat.one_pos)))) : Vec F S512x2048 .f32 :=
  VO0_8.read (Elt F) (VO0_8.writes (Elt F) VO0_8.junk (kernelRun0_C c i arg4 harg4 arg5 harg5 arg6 harg6 arg7 harg7 arg8 harg8 arg9 harg9 arg10 harg10 arg11 harg11 arg12 harg12 arg13 harg13 hc0 hc2 x0 x1 x2 x3 x4 x5 x6 x7 xt0 xt1 xs0 hc1).1)

/-- Case C's pieces for scratch `arg13`, which the kernel carries between points, cover it: 1 piece of `S512x2048` tiling it (Lib/Ring.lean `Piece.tiledL`). -/
theorem scover0_C_0 (c : Dev nD) (i : grid0.Coords) (arg4 : Memref sig .tc .vmem S512x2048 .bf16) (harg4 : arg4.IsWhole) (arg5 : Memref sig .tc .vmem S1x2048x256 .f32) (harg5 : arg5.IsWhole) (arg6 : Memref sig .tc .vmem S1x2048x256 .f32) (harg6 : arg6.IsWhole) (arg7 : Memref sig .tc .vmem S1x1x256 .f32) (harg7 : arg7.IsWhole) (arg8 : Memref sig .tc .vmem S1x1x256 .f32) (harg8 : arg8.IsWhole) (arg9 : Memref sig .tc .vmem S1x256x2048 .f32) (harg9 : arg9.IsWhole) (arg10 : Memref sig .tc .vmem S1x1x2048 .f32) (harg10 : arg10.IsWhole) (arg11 : Memref sig .tc .vmem S512x1 .f32) (harg11 : arg11.IsWhole) (arg12 : Memref sig .tc .vmem S512x2048 .f32) (harg12 : arg12.IsWhole) (arg13 : Memref sig .tc .vmem S512x2048 .f32) (harg13 : arg13.IsWhole) (hc0 : ¬cond0_0 i) (hc2 : ¬cond0_2 i)
    (x0 : Vec F S512x2048 .bf16) (x1 : Vec F S1x2048x256 .f32) (x2 : Vec F S1x2048x256 .f32) (x3 : Vec F S1x1x256 .f32) (x4 : Vec F S1x1x256 .f32) (x5 : Vec F S1x256x2048 .f32) (x6 : Vec F S1x1x2048 .f32) (x7 : Vec F S512x1 .f32) (xt0 : TbBuf0 (F := F) c tbM0_0) (xt1 : TbBuf0 (F := F) c tbM0_1) (xs0 : Vec F S512x2048 .f32) (hc1 : cond0_1 i (tbM0_1.view.readAt (Elt F) (Rect.unit (s := S1) ![0] S1.size inb_S1_S1_0).toLoadRect xt1 (Shape.Idx.first (numel1_S1.symm ▸ Nat.one_pos)))) (y : S512x2048.Idx) :
    ∃ pc ∈ (kernelRun0_C c i arg4 harg4 arg5 harg5 arg6 harg6 arg7 harg7 arg8 harg8 arg9 harg9 arg10 harg10 arg11 harg11 arg12 harg12 arg13 harg13 hc0 hc2 x0 x1 x2 x3 x4 x5 x6 x7 xt0 xt1 xs0 hc1).2.1, y ∈ pc.1.set :=
  View.cover_of_tiledL (kernelRun0_C c i arg4 harg4 arg5 harg5 arg6 harg6 arg7 harg7 arg8 harg8 arg9 harg9 arg10 harg10 arg11 harg11 arg12 harg12 arg13 harg13 hc0 hc2 x0 x1 x2 x3 x4 x5 x6 x7 xt0 xt1 xs0 hc1).2.1 S512x2048.size (by sl_kernel_rfl) y

/-- What case C leaves in scratch `arg13`: its pieces read back over junk. -/
def sout0_C_0 (c : Dev nD) (i : grid0.Coords) (arg4 : Memref sig .tc .vmem S512x2048 .bf16) (harg4 : arg4.IsWhole) (arg5 : Memref sig .tc .vmem S1x2048x256 .f32) (harg5 : arg5.IsWhole) (arg6 : Memref sig .tc .vmem S1x2048x256 .f32) (harg6 : arg6.IsWhole) (arg7 : Memref sig .tc .vmem S1x1x256 .f32) (harg7 : arg7.IsWhole) (arg8 : Memref sig .tc .vmem S1x1x256 .f32) (harg8 : arg8.IsWhole) (arg9 : Memref sig .tc .vmem S1x256x2048 .f32) (harg9 : arg9.IsWhole) (arg10 : Memref sig .tc .vmem S1x1x2048 .f32) (harg10 : arg10.IsWhole) (arg11 : Memref sig .tc .vmem S512x1 .f32) (harg11 : arg11.IsWhole) (arg12 : Memref sig .tc .vmem S512x2048 .f32) (harg12 : arg12.IsWhole) (arg13 : Memref sig .tc .vmem S512x2048 .f32) (harg13 : arg13.IsWhole) (hc0 : ¬cond0_0 i) (hc2 : ¬cond0_2 i)
    (x0 : Vec F S512x2048 .bf16) (x1 : Vec F S1x2048x256 .f32) (x2 : Vec F S1x2048x256 .f32) (x3 : Vec F S1x1x256 .f32) (x4 : Vec F S1x1x256 .f32) (x5 : Vec F S1x256x2048 .f32) (x6 : Vec F S1x1x2048 .f32) (x7 : Vec F S512x1 .f32) (xt0 : TbBuf0 (F := F) c tbM0_0) (xt1 : TbBuf0 (F := F) c tbM0_1) (xs0 : Vec F S512x2048 .f32) (hc1 : cond0_1 i (tbM0_1.view.readAt (Elt F) (Rect.unit (s := S1) ![0] S1.size inb_S1_S1_0).toLoadRect xt1 (Shape.Idx.first (numel1_S1.symm ▸ Nat.one_pos)))) : Vec F S512x2048 .f32 :=
  VS0_0.read (Elt F) (VS0_0.writes (Elt F) VS0_0.junk (kernelRun0_C c i arg4 harg4 arg5 harg5 arg6 harg6 arg7 harg7 arg8 harg8 arg9 harg9 arg10 harg10 arg11 harg11 arg12 harg12 arg13 harg13 hc0 hc2 x0 x1 x2 x3 x4 x5 x6 x7 xt0 xt1 xs0 hc1).2.1)

/-- Case D stores nothing into output 8 (the window is idle at its points and not written back there):
    no pieces — a placeholder (junk read back) that nothing consults, since at these points the window is neither
    written back nor read at the next point (Lib/Pipeline.lean "Idle points"). -/
def out0_D_8 (c : Dev nD) (i : grid0.Coords) (arg4 : Memref sig .tc .vmem S512x2048 .bf16) (harg4 : arg4.IsWhole) (arg5 : Memref sig .tc .vmem S1x2048x256 .f32) (harg5 : arg5.IsWhole) (arg6 : Memref sig .tc .vmem S1x2048x256 .f32) (harg6 : arg6.IsWhole) (arg7 : Memref sig .tc .vmem S1x1x256 .f32) (harg7 : arg7.IsWhole) (arg8 : Memref sig .tc .vmem S1x1x256 .f32) (harg8 : arg8.IsWhole) (arg9 : Memref sig .tc .vmem S1x256x2048 .f32) (harg9 : arg9.IsWhole) (arg10 : Memref sig .tc .vmem S1x1x2048 .f32) (harg10 : arg10.IsWhole) (arg11 : Memref sig .tc .vmem S512x1 .f32) (harg11 : arg11.IsWhole) (arg12 : Memref sig .tc .vmem S512x2048 .f32) (harg12 : arg12.IsWhole) (arg13 : Memref sig .tc .vmem S512x2048 .f32) (harg13 : arg13.IsWhole) (hc0 : ¬cond0_0 i) (hc2 : ¬cond0_2 i)
    (x0 : Vec F S512x2048 .bf16) (x1 : Vec F S1x2048x256 .f32) (x2 : Vec F S1x2048x256 .f32) (x3 : Vec F S1x1x256 .f32) (x4 : Vec F S1x1x256 .f32) (x5 : Vec F S1x256x2048 .f32) (x6 : Vec F S1x1x2048 .f32) (x7 : Vec F S512x1 .f32) (xt0 : TbBuf0 (F := F) c tbM0_0) (xt1 : TbBuf0 (F := F) c tbM0_1) (xs0 : Vec F S512x2048 .f32) (hc1 : ¬cond0_1 i (tbM0_1.view.readAt (Elt F) (Rect.unit (s := S1) ![0] S1.size inb_S1_S1_0).toLoadRect xt1 (Shape.Idx.first (numel1_S1.symm ▸ Nat.one_pos)))) : Vec F S512x2048 .f32 :=
  VO0_8.read (Elt F) (VO0_8.writes (Elt F) VO0_8.junk (kernelRun0_D c i arg4 harg4 arg5 harg5 arg6 harg6 arg7 harg7 arg8 harg8 arg9 harg9 arg10 harg10 arg11 harg11 arg12 harg12 arg13 harg13 hc0 hc2 x0 x1 x2 x3 x4 x5 x6 x7 xt0 xt1 xs0 hc1).1)

/-- Case D stores nothing into scratch `arg13`: it holds what the point before left. -/
def sout0_D_0 (c : Dev nD) (i : grid0.Coords) (arg4 : Memref sig .tc .vmem S512x2048 .bf16) (harg4 : arg4.IsWhole) (arg5 : Memref sig .tc .vmem S1x2048x256 .f32) (harg5 : arg5.IsWhole) (arg6 : Memref sig .tc .vmem S1x2048x256 .f32) (harg6 : arg6.IsWhole) (arg7 : Memref sig .tc .vmem S1x1x256 .f32) (harg7 : arg7.IsWhole) (arg8 : Memref sig .tc .vmem S1x1x256 .f32) (harg8 : arg8.IsWhole) (arg9 : Memref sig .tc .vmem S1x256x2048 .f32) (harg9 : arg9.IsWhole) (arg10 : Memref sig .tc .vmem S1x1x2048 .f32) (harg10 : arg10.IsWhole) (arg11 : Memref sig .tc .vmem S512x1 .f32) (harg11 : arg11.IsWhole) (arg12 : Memref sig .tc .vmem S512x2048 .f32) (harg12 : arg12.IsWhole) (arg13 : Memref sig .tc .vmem S512x2048 .f32) (harg13 : arg13.IsWhole) (hc0 : ¬cond0_0 i) (hc2 : ¬cond0_2 i)
    (x0 : Vec F S512x2048 .bf16) (x1 : Vec F S1x2048x256 .f32) (x2 : Vec F S1x2048x256 .f32) (x3 : Vec F S1x1x256 .f32) (x4 : Vec F S1x1x256 .f32) (x5 : Vec F S1x256x2048 .f32) (x6 : Vec F S1x1x2048 .f32) (x7 : Vec F S512x1 .f32) (xt0 : TbBuf0 (F := F) c tbM0_0) (xt1 : TbBuf0 (F := F) c tbM0_1) (xs0 : Vec F S512x2048 .f32) (hc1 : ¬cond0_1 i (tbM0_1.view.readAt (Elt F) (Rect.unit (s := S1) ![0] S1.size inb_S1_S1_0).toLoadRect xt1 (Shape.Idx.first (numel1_S1.symm ▸ Nat.one_pos)))) : Vec F S512x2048 .f32 := xs0

/-- Case E's pieces for output 8 tile its block (1 store of `S512x2048`, checked by the kernel's evaluation: Lib/Ring.lean `Piece.tiledL`, linear in the pieces, through a loop's `@[irreducible]` trip theorem too), so they cover it. -/
theorem cover0_E_8 (c : Dev nD) (i : grid0.Coords) (arg4 : Memref sig .tc .vmem S512x2048 .bf16) (harg4 : arg4.IsWhole) (arg5 : Memref sig .tc .vmem S1x2048x256 .f32) (harg5 : arg5.IsWhole) (arg6 : Memref sig .tc .vmem S1x2048x256 .f32) (harg6 : arg6.IsWhole) (arg7 : Memref sig .tc .vmem S1x1x256 .f32) (harg7 : arg7.IsWhole) (arg8 : Memref sig .tc .vmem S1x1x256 .f32) (harg8 : arg8.IsWhole) (arg9 : Memref sig .tc .vmem S1x256x2048 .f32) (harg9 : arg9.IsWhole) (arg10 : Memref sig .tc .vmem S1x1x2048 .f32) (harg10 : arg10.IsWhole) (arg11 : Memref sig .tc .vmem S512x1 .f32) (harg11 : arg11.IsWhole) (arg12 : Memref sig .tc .vmem S512x2048 .f32) (harg12 : arg12.IsWhole) (arg13 : Memref sig .tc .vmem S512x2048 .f32) (harg13 : arg13.IsWhole) (hc0 : ¬cond0_0 i) (hc2 : cond0_2 i)
    (x0 : Vec F S512x2048 .bf16) (x1 : Vec F S1x2048x256 .f32) (x2 : Vec F S1x2048x256 .f32) (x3 : Vec F S1x1x256 .f32) (x4 : Vec F S1x1x256 .f32) (x5 : Vec F S1x256x2048 .f32) (x6 : Vec F S1x1x2048 .f32) (x7 : Vec F S512x1 .f32) (xt0 : TbBuf0 (F := F) c tbM0_0) (xt1 : TbBuf0 (F := F) c tbM0_1) (xs0 : Vec F S512x2048 .f32) (hc1 : cond0_1 i (tbM0_1.view.readAt (Elt F) (Rect.unit (s := S1) ![0] S1.size inb_S1_S1_0).toLoadRect xt1 (Shape.Idx.first (numel1_S1.symm ▸ Nat.one_pos)))) (y : S512x2048.Idx) :
    ∃ pc ∈ (kernelRun0_E c i arg4 harg4 arg5 harg5 arg6 harg6 arg7 harg7 arg8 harg8 arg9 harg9 arg10 harg10 arg11 harg11 arg12 harg12 arg13 harg13 hc0 hc2 x0 x1 x2 x3 x4 x5 x6 x7 xt0 xt1 xs0 hc1).1, y ∈ pc.1.set :=
  View.cover_of_tiledL (kernelRun0_E c i arg4 harg4 arg5 harg5 arg6 harg6 arg7 harg7 arg8 harg8 arg9 harg9 arg10 harg10 arg11 harg11 arg12 harg12 arg13 harg13 hc0 hc2 x0 x1 x2 x3 x4 x5 x6 x7 xt0 xt1 xs0 hc1).1 S512x2048.size (by sl_kernel_rfl) y

/-- What case E leaves in output 8's staging buffer: its pieces read back over junk. -/
def out0_E_8 (c : Dev nD) (i : grid0.Coords) (arg4 : Memref sig .tc .vmem S512x2048 .bf16) (harg4 : arg4.IsWhole) (arg5 : Memref sig .tc .vmem S1x2048x256 .f32) (harg5 : arg5.IsWhole) (arg6 : Memref sig .tc .vmem S1x2048x256 .f32) (harg6 : arg6.IsWhole) (arg7 : Memref sig .tc .vmem S1x1x256 .f32) (harg7 : arg7.IsWhole) (arg8 : Memref sig .tc .vmem S1x1x256 .f32) (harg8 : arg8.IsWhole) (arg9 : Memref sig .tc .vmem S1x256x2048 .f32) (harg9 : arg9.IsWhole) (arg10 : Memref sig .tc .vmem S1x1x2048 .f32) (harg10 : arg10.IsWhole) (arg11 : Memref sig .tc .vmem S512x1 .f32) (harg11 : arg11.IsWhole) (arg12 : Memref sig .tc .vmem S512x2048 .f32) (harg12 : arg12.IsWhole) (arg13 : Memref sig .tc .vmem S512x2048 .f32) (harg13 : arg13.IsWhole) (hc0 : ¬cond0_0 i) (hc2 : cond0_2 i)
    (x0 : Vec F S512x2048 .bf16) (x1 : Vec F S1x2048x256 .f32) (x2 : Vec F S1x2048x256 .f32) (x3 : Vec F S1x1x256 .f32) (x4 : Vec F S1x1x256 .f32) (x5 : Vec F S1x256x2048 .f32) (x6 : Vec F S1x1x2048 .f32) (x7 : Vec F S512x1 .f32) (xt0 : TbBuf0 (F := F) c tbM0_0) (xt1 : TbBuf0 (F := F) c tbM0_1) (xs0 : Vec F S512x2048 .f32) (hc1 : cond0_1 i (tbM0_1.view.readAt (Elt F) (Rect.unit (s := S1) ![0] S1.size inb_S1_S1_0).toLoadRect xt1 (Shape.Idx.first (numel1_S1.symm ▸ Nat.one_pos)))) : Vec F S512x2048 .f32 :=
  VO0_8.read (Elt F) (VO0_8.writes (Elt F) VO0_8.junk (kernelRun0_E c i arg4 harg4 arg5 harg5 arg6 harg6 arg7 harg7 arg8 harg8 arg9 harg9 arg10 harg10 arg11 harg11 arg12 harg12 arg13 harg13 hc0 hc2 x0 x1 x2 x3 x4 x5 x6 x7 xt0 xt1 xs0 hc1).1)

/-- Case E's pieces for scratch `arg13`, which the kernel carries between points, cover it: 1 piece of `S512x2048` tiling it (Lib/Ring.lean `Piece.tiledL`). -/
theorem scover0_E_0 (c : Dev nD) (i : grid0.Coords) (arg4 : Memref sig .tc .vmem S512x2048 .bf16) (harg4 : arg4.IsWhole) (arg5 : Memref sig .tc .vmem S1x2048x256 .f32) (harg5 : arg5.IsWhole) (arg6 : Memref sig .tc .vmem S1x2048x256 .f32) (harg6 : arg6.IsWhole) (arg7 : Memref sig .tc .vmem S1x1x256 .f32) (harg7 : arg7.IsWhole) (arg8 : Memref sig .tc .vmem S1x1x256 .f32) (harg8 : arg8.IsWhole) (arg9 : Memref sig .tc .vmem S1x256x2048 .f32) (harg9 : arg9.IsWhole) (arg10 : Memref sig .tc .vmem S1x1x2048 .f32) (harg10 : arg10.IsWhole) (arg11 : Memref sig .tc .vmem S512x1 .f32) (harg11 : arg11.IsWhole) (arg12 : Memref sig .tc .vmem S512x2048 .f32) (harg12 : arg12.IsWhole) (arg13 : Memref sig .tc .vmem S512x2048 .f32) (harg13 : arg13.IsWhole) (hc0 : ¬cond0_0 i) (hc2 : cond0_2 i)
    (x0 : Vec F S512x2048 .bf16) (x1 : Vec F S1x2048x256 .f32) (x2 : Vec F S1x2048x256 .f32) (x3 : Vec F S1x1x256 .f32) (x4 : Vec F S1x1x256 .f32) (x5 : Vec F S1x256x2048 .f32) (x6 : Vec F S1x1x2048 .f32) (x7 : Vec F S512x1 .f32) (xt0 : TbBuf0 (F := F) c tbM0_0) (xt1 : TbBuf0 (F := F) c tbM0_1) (xs0 : Vec F S512x2048 .f32) (hc1 : cond0_1 i (tbM0_1.view.readAt (Elt F) (Rect.unit (s := S1) ![0] S1.size inb_S1_S1_0).toLoadRect xt1 (Shape.Idx.first (numel1_S1.symm ▸ Nat.one_pos)))) (y : S512x2048.Idx) :
    ∃ pc ∈ (kernelRun0_E c i arg4 harg4 arg5 harg5 arg6 harg6 arg7 harg7 arg8 harg8 arg9 harg9 arg10 harg10 arg11 harg11 arg12 harg12 arg13 harg13 hc0 hc2 x0 x1 x2 x3 x4 x5 x6 x7 xt0 xt1 xs0 hc1).2.1, y ∈ pc.1.set :=
  View.cover_of_tiledL (kernelRun0_E c i arg4 harg4 arg5 harg5 arg6 harg6 arg7 harg7 arg8 harg8 arg9 harg9 arg10 harg10 arg11 harg11 arg12 harg12 arg13 harg13 hc0 hc2 x0 x1 x2 x3 x4 x5 x6 x7 xt0 xt1 xs0 hc1).2.1 S512x2048.size (by sl_kernel_rfl) y

/-- What case E leaves in scratch `arg13`: its pieces read back over junk. -/
def sout0_E_0 (c : Dev nD) (i : grid0.Coords) (arg4 : Memref sig .tc .vmem S512x2048 .bf16) (harg4 : arg4.IsWhole) (arg5 : Memref sig .tc .vmem S1x2048x256 .f32) (harg5 : arg5.IsWhole) (arg6 : Memref sig .tc .vmem S1x2048x256 .f32) (harg6 : arg6.IsWhole) (arg7 : Memref sig .tc .vmem S1x1x256 .f32) (harg7 : arg7.IsWhole) (arg8 : Memref sig .tc .vmem S1x1x256 .f32) (harg8 : arg8.IsWhole) (arg9 : Memref sig .tc .vmem S1x256x2048 .f32) (harg9 : arg9.IsWhole) (arg10 : Memref sig .tc .vmem S1x1x2048 .f32) (harg10 : arg10.IsWhole) (arg11 : Memref sig .tc .vmem S512x1 .f32) (harg11 : arg11.IsWhole) (arg12 : Memref sig .tc .vmem S512x2048 .f32) (harg12 : arg12.IsWhole) (arg13 : Memref sig .tc .vmem S512x2048 .f32) (harg13 : arg13.IsWhole) (hc0 : ¬cond0_0 i) (hc2 : cond0_2 i)
    (x0 : Vec F S512x2048 .bf16) (x1 : Vec F S1x2048x256 .f32) (x2 : Vec F S1x2048x256 .f32) (x3 : Vec F S1x1x256 .f32) (x4 : Vec F S1x1x256 .f32) (x5 : Vec F S1x256x2048 .f32) (x6 : Vec F S1x1x2048 .f32) (x7 : Vec F S512x1 .f32) (xt0 : TbBuf0 (F := F) c tbM0_0) (xt1 : TbBuf0 (F := F) c tbM0_1) (xs0 : Vec F S512x2048 .f32) (hc1 : cond0_1 i (tbM0_1.view.readAt (Elt F) (Rect.unit (s := S1) ![0] S1.size inb_S1_S1_0).toLoadRect xt1 (Shape.Idx.first (numel1_S1.symm ▸ Nat.one_pos)))) : Vec F S512x2048 .f32 :=
  VS0_0.read (Elt F) (VS0_0.writes (Elt F) VS0_0.junk (kernelRun0_E c i arg4 harg4 arg5 harg5 arg6 harg6 arg7 harg7 arg8 harg8 arg9 harg9 arg10 harg10 arg11 harg11 arg12 harg12 arg13 harg13 hc0 hc2 x0 x1 x2 x3 x4 x5 x6 x7 xt0 xt1 xs0 hc1).2.1)

/-- Case F's pieces for output 8 tile its block (1 store of `S512x2048`, checked by the kernel's evaluation: Lib/Ring.lean `Piece.tiledL`, linear in the pieces, through a loop's `@[irreducible]` trip theorem too), so they cover it. -/
theorem cover0_F_8 (c : Dev nD) (i : grid0.Coords) (arg4 : Memref sig .tc .vmem S512x2048 .bf16) (harg4 : arg4.IsWhole) (arg5 : Memref sig .tc .vmem S1x2048x256 .f32) (harg5 : arg5.IsWhole) (arg6 : Memref sig .tc .vmem S1x2048x256 .f32) (harg6 : arg6.IsWhole) (arg7 : Memref sig .tc .vmem S1x1x256 .f32) (harg7 : arg7.IsWhole) (arg8 : Memref sig .tc .vmem S1x1x256 .f32) (harg8 : arg8.IsWhole) (arg9 : Memref sig .tc .vmem S1x256x2048 .f32) (harg9 : arg9.IsWhole) (arg10 : Memref sig .tc .vmem S1x1x2048 .f32) (harg10 : arg10.IsWhole) (arg11 : Memref sig .tc .vmem S512x1 .f32) (harg11 : arg11.IsWhole) (arg12 : Memref sig .tc .vmem S512x2048 .f32) (harg12 : arg12.IsWhole) (arg13 : Memref sig .tc .vmem S512x2048 .f32) (harg13 : arg13.IsWhole) (hc0 : ¬cond0_0 i) (hc2 : cond0_2 i)
    (x0 : Vec F S512x2048 .bf16) (x1 : Vec F S1x2048x256 .f32) (x2 : Vec F S1x2048x256 .f32) (x3 : Vec F S1x1x256 .f32) (x4 : Vec F S1x1x256 .f32) (x5 : Vec F S1x256x2048 .f32) (x6 : Vec F S1x1x2048 .f32) (x7 : Vec F S512x1 .f32) (xt0 : TbBuf0 (F := F) c tbM0_0) (xt1 : TbBuf0 (F := F) c tbM0_1) (xs0 : Vec F S512x2048 .f32) (hc1 : ¬cond0_1 i (tbM0_1.view.readAt (Elt F) (Rect.unit (s := S1) ![0] S1.size inb_S1_S1_0).toLoadRect xt1 (Shape.Idx.first (numel1_S1.symm ▸ Nat.one_pos)))) (y : S512x2048.Idx) :
    ∃ pc ∈ (kernelRun0_F c i arg4 harg4 arg5 harg5 arg6 harg6 arg7 harg7 arg8 harg8 arg9 harg9 arg10 harg10 arg11 harg11 arg12 harg12 arg13 harg13 hc0 hc2 x0 x1 x2 x3 x4 x5 x6 x7 xt0 xt1 xs0 hc1).1, y ∈ pc.1.set :=
  View.cover_of_tiledL (kernelRun0_F c i arg4 harg4 arg5 harg5 arg6 harg6 arg7 harg7 arg8 harg8 arg9 harg9 arg10 harg10 arg11 harg11 arg12 harg12 arg13 harg13 hc0 hc2 x0 x1 x2 x3 x4 x5 x6 x7 xt0 xt1 xs0 hc1).1 S512x2048.size (by sl_kernel_rfl) y

/-- What case F leaves in output 8's staging buffer: its pieces read back over junk. -/
def out0_F_8 (c : Dev nD) (i : grid0.Coords) (arg4 : Memref sig .tc .vmem S512x2048 .bf16) (harg4 : arg4.IsWhole) (arg5 : Memref sig .tc .vmem S1x2048x256 .f32) (harg5 : arg5.IsWhole) (arg6 : Memref sig .tc .vmem S1x2048x256 .f32) (harg6 : arg6.IsWhole) (arg7 : Memref sig .tc .vmem S1x1x256 .f32) (harg7 : arg7.IsWhole) (arg8 : Memref sig .tc .vmem S1x1x256 .f32) (harg8 : arg8.IsWhole) (arg9 : Memref sig .tc .vmem S1x256x2048 .f32) (harg9 : arg9.IsWhole) (arg10 : Memref sig .tc .vmem S1x1x2048 .f32) (harg10 : arg10.IsWhole) (arg11 : Memref sig .tc .vmem S512x1 .f32) (harg11 : arg11.IsWhole) (arg12 : Memref sig .tc .vmem S512x2048 .f32) (harg12 : arg12.IsWhole) (arg13 : Memref sig .tc .vmem S512x2048 .f32) (harg13 : arg13.IsWhole) (hc0 : ¬cond0_0 i) (hc2 : cond0_2 i)
    (x0 : Vec F S512x2048 .bf16) (x1 : Vec F S1x2048x256 .f32) (x2 : Vec F S1x2048x256 .f32) (x3 : Vec F S1x1x256 .f32) (x4 : Vec F S1x1x256 .f32) (x5 : Vec F S1x256x2048 .f32) (x6 : Vec F S1x1x2048 .f32) (x7 : Vec F S512x1 .f32) (xt0 : TbBuf0 (F := F) c tbM0_0) (xt1 : TbBuf0 (F := F) c tbM0_1) (xs0 : Vec F S512x2048 .f32) (hc1 : ¬cond0_1 i (tbM0_1.view.readAt (Elt F) (Rect.unit (s := S1) ![0] S1.size inb_S1_S1_0).toLoadRect xt1 (Shape.Idx.first (numel1_S1.symm ▸ Nat.one_pos)))) : Vec F S512x2048 .f32 :=
  VO0_8.read (Elt F) (VO0_8.writes (Elt F) VO0_8.junk (kernelRun0_F c i arg4 harg4 arg5 harg5 arg6 harg6 arg7 harg7 arg8 harg8 arg9 harg9 arg10 harg10 arg11 harg11 arg12 harg12 arg13 harg13 hc0 hc2 x0 x1 x2 x3 x4 x5 x6 x7 xt0 xt1 xs0 hc1).1)

/-- Case F stores nothing into scratch `arg13`: it holds what the point before left. -/
def sout0_F_0 (c : Dev nD) (i : grid0.Coords) (arg4 : Memref sig .tc .vmem S512x2048 .bf16) (harg4 : arg4.IsWhole) (arg5 : Memref sig .tc .vmem S1x2048x256 .f32) (harg5 : arg5.IsWhole) (arg6 : Memref sig .tc .vmem S1x2048x256 .f32) (harg6 : arg6.IsWhole) (arg7 : Memref sig .tc .vmem S1x1x256 .f32) (harg7 : arg7.IsWhole) (arg8 : Memref sig .tc .vmem S1x1x256 .f32) (harg8 : arg8.IsWhole) (arg9 : Memref sig .tc .vmem S1x256x2048 .f32) (harg9 : arg9.IsWhole) (arg10 : Memref sig .tc .vmem S1x1x2048 .f32) (harg10 : arg10.IsWhole) (arg11 : Memref sig .tc .vmem S512x1 .f32) (harg11 : arg11.IsWhole) (arg12 : Memref sig .tc .vmem S512x2048 .f32) (harg12 : arg12.IsWhole) (arg13 : Memref sig .tc .vmem S512x2048 .f32) (harg13 : arg13.IsWhole) (hc0 : ¬cond0_0 i) (hc2 : cond0_2 i)
    (x0 : Vec F S512x2048 .bf16) (x1 : Vec F S1x2048x256 .f32) (x2 : Vec F S1x2048x256 .f32) (x3 : Vec F S1x1x256 .f32) (x4 : Vec F S1x1x256 .f32) (x5 : Vec F S1x256x2048 .f32) (x6 : Vec F S1x1x2048 .f32) (x7 : Vec F S512x1 .f32) (xt0 : TbBuf0 (F := F) c tbM0_0) (xt1 : TbBuf0 (F := F) c tbM0_1) (xs0 : Vec F S512x2048 .f32) (hc1 : ¬cond0_1 i (tbM0_1.view.readAt (Elt F) (Rect.unit (s := S1) ![0] S1.size inb_S1_S1_0).toLoadRect xt1 (Shape.Idx.first (numel1_S1.symm ▸ Nat.one_pos)))) : Vec F S512x2048 .f32 := xs0

/-! ## What the outputs hold after each point -/

/-- THE ACCUMULATION. What the outputs' staging buffers and the scratch the kernel carries between points hold after the body at position `n` (a tuple: the outputs in window order, then the scratch):
    the case the closed forms and the word conditions select at `n`, run at the point's memrefs and input blocks, an output it reads before covering
    at what this leaves at `n - 1` (its buffer is not written back between: `before0_W_κ`). An assignment of the conditions no point meets is no case (`False.elim`). -/
def outsAt0 (hO : Ok m) (c : Dev nD) : (n : ℕ) → n < (cfgM m hO).N → Vec F S512x2048 .f32 × Vec F S512x2048 .f32
  | 0, hn => if h1 : cond0_1 (grid0.coords ⟨0, hn⟩) (tbM0_1.view.readAt (Elt F) (Rect.unit (s := S1) ![0] S1.size inb_S1_S1_0).toLoadRect (tbl m 1) (Shape.Idx.first (numel1_S1.symm ▸ Nat.one_pos))) then
      (out0_A_8 c (grid0.coords ⟨0, hn⟩) (ms0_0 m hO ⟨0, hn⟩) (hs0_0 m hO ⟨0, hn⟩) (ms0_1 m hO ⟨0, hn⟩) (hs0_1 m hO ⟨0, hn⟩) (ms0_2 m hO ⟨0, hn⟩) (hs0_2 m hO ⟨0, hn⟩) (ms0_3 m hO ⟨0, hn⟩) (hs0_3 m hO ⟨0, hn⟩) (ms0_4 m hO ⟨0, hn⟩) (hs0_4 m hO ⟨0, hn⟩) (ms0_5 m hO ⟨0, hn⟩) (hs0_5 m hO ⟨0, hn⟩) (ms0_6 m hO ⟨0, hn⟩) (hs0_6 m hO ⟨0, hn⟩) (ms0_7 m hO ⟨0, hn⟩) (hs0_7 m hO ⟨0, hn⟩) (ms0_8 m hO ⟨0, hn⟩) (hs0_8 m hO ⟨0, hn⟩) scM0_0 (Memref.isWhole_whole _) ((hcond0_0 ⟨0, hn⟩).mpr (Nat.zero_mod _)) (fun h => (fun h => by (try dsimp only at h); omega) ((hcond0_2 ⟨0, hn⟩).mp h)) (iblk m hO c 0 ⟨0, hn⟩) (iblk m hO c 1 ⟨0, hn⟩) (iblk m hO c 2 ⟨0, hn⟩) (iblk m hO c 3 ⟨0, hn⟩) (iblk m hO c 4 ⟨0, hn⟩) (iblk m hO c 5 ⟨0, hn⟩) (iblk m hO c 6 ⟨0, hn⟩) (iblk m hO c 7 ⟨0, hn⟩) (tbl m 0) (tbl m 1) h1, sout0_A_0 c (grid0.coords ⟨0, hn⟩) (ms0_0 m hO ⟨0, hn⟩) (hs0_0 m hO ⟨0, hn⟩) (ms0_1 m hO ⟨0, hn⟩) (hs0_1 m hO ⟨0, hn⟩) (ms0_2 m hO ⟨0, hn⟩) (hs0_2 m hO ⟨0, hn⟩) (ms0_3 m hO ⟨0, hn⟩) (hs0_3 m hO ⟨0, hn⟩) (ms0_4 m hO ⟨0, hn⟩) (hs0_4 m hO ⟨0, hn⟩) (ms0_5 m hO ⟨0, hn⟩) (hs0_5 m hO ⟨0, hn⟩) (ms0_6 m hO ⟨0, hn⟩) (hs0_6 m hO ⟨0, hn⟩) (ms0_7 m hO ⟨0, hn⟩) (hs0_7 m hO ⟨0, hn⟩) (ms0_8 m hO ⟨0, hn⟩) (hs0_8 m hO ⟨0, hn⟩) scM0_0 (Memref.isWhole_whole _) ((hcond0_0 ⟨0, hn⟩).mpr (Nat.zero_mod _)) (fun h => (fun h => by (try dsimp only at h); omega) ((hcond0_2 ⟨0, hn⟩).mp h)) (iblk m hO c 0 ⟨0, hn⟩) (iblk m hO c 1 ⟨0, hn⟩) (iblk m hO c 2 ⟨0, hn⟩) (iblk m hO c 3 ⟨0, hn⟩) (iblk m hO c 4 ⟨0, hn⟩) (iblk m hO c 5 ⟨0, hn⟩) (iblk m hO c 6 ⟨0, hn⟩) (iblk m hO c 7 ⟨0, hn⟩) (tbl m 0) (tbl m 1) h1)
    else
      (out0_B_8 c (grid0.coords ⟨0, hn⟩) (ms0_0 m hO ⟨0, hn⟩) (hs0_0 m hO ⟨0, hn⟩) (ms0_1 m hO ⟨0, hn⟩) (hs0_1 m hO ⟨0, hn⟩) (ms0_2 m hO ⟨0, hn⟩) (hs0_2 m hO ⟨0, hn⟩) (ms0_3 m hO ⟨0, hn⟩) (hs0_3 m hO ⟨0, hn⟩) (ms0_4 m hO ⟨0, hn⟩) (hs0_4 m hO ⟨0, hn⟩) (ms0_5 m hO ⟨0, hn⟩) (hs0_5 m hO ⟨0, hn⟩) (ms0_6 m hO ⟨0, hn⟩) (hs0_6 m hO ⟨0, hn⟩) (ms0_7 m hO ⟨0, hn⟩) (hs0_7 m hO ⟨0, hn⟩) (ms0_8 m hO ⟨0, hn⟩) (hs0_8 m hO ⟨0, hn⟩) scM0_0 (Memref.isWhole_whole _) ((hcond0_0 ⟨0, hn⟩).mpr (Nat.zero_mod _)) (fun h => (fun h => by (try dsimp only at h); omega) ((hcond0_2 ⟨0, hn⟩).mp h)) (iblk m hO c 0 ⟨0, hn⟩) (iblk m hO c 1 ⟨0, hn⟩) (iblk m hO c 2 ⟨0, hn⟩) (iblk m hO c 3 ⟨0, hn⟩) (iblk m hO c 4 ⟨0, hn⟩) (iblk m hO c 5 ⟨0, hn⟩) (iblk m hO c 6 ⟨0, hn⟩) (iblk m hO c 7 ⟨0, hn⟩) (tbl m 0) (tbl m 1) h1, sout0_B_0 c (grid0.coords ⟨0, hn⟩) (ms0_0 m hO ⟨0, hn⟩) (hs0_0 m hO ⟨0, hn⟩) (ms0_1 m hO ⟨0, hn⟩) (hs0_1 m hO ⟨0, hn⟩) (ms0_2 m hO ⟨0, hn⟩) (hs0_2 m hO ⟨0, hn⟩) (ms0_3 m hO ⟨0, hn⟩) (hs0_3 m hO ⟨0, hn⟩) (ms0_4 m hO ⟨0, hn⟩) (hs0_4 m hO ⟨0, hn⟩) (ms0_5 m hO ⟨0, hn⟩) (hs0_5 m hO ⟨0, hn⟩) (ms0_6 m hO ⟨0, hn⟩) (hs0_6 m hO ⟨0, hn⟩) (ms0_7 m hO ⟨0, hn⟩) (hs0_7 m hO ⟨0, hn⟩) (ms0_8 m hO ⟨0, hn⟩) (hs0_8 m hO ⟨0, hn⟩) scM0_0 (Memref.isWhole_whole _) ((hcond0_0 ⟨0, hn⟩).mpr (Nat.zero_mod _)) (fun h => (fun h => by (try dsimp only at h); omega) ((hcond0_2 ⟨0, hn⟩).mp h)) (iblk m hO c 0 ⟨0, hn⟩) (iblk m hO c 1 ⟨0, hn⟩) (iblk m hO c 2 ⟨0, hn⟩) (iblk m hO c 3 ⟨0, hn⟩) (iblk m hO c 4 ⟨0, hn⟩) (iblk m hO c 5 ⟨0, hn⟩) (iblk m hO c 6 ⟨0, hn⟩) (iblk m hO c 7 ⟨0, hn⟩) (tbl m 0) (tbl m 1) h1)
  | n + 1, hn =>
    if h1 : cond0_1 (grid0.coords ⟨n + 1, hn⟩) (tbM0_1.view.readAt (Elt F) (Rect.unit (s := S1) ![0] S1.size inb_S1_S1_0).toLoadRect (tbl m 1) (Shape.Idx.first (numel1_S1.symm ▸ Nat.one_pos))) then
      if h0 : (n + 1) % 8 = 0 then
        if h2 : (n + 1) % 8 = 7 then
          False.elim (by have hN : n + 1 < 1280 := lt_of_lt_of_eq hn (show (cfgM m hO).N = 1280 from N_0); omega)
        else
          (out0_A_8 c (grid0.coords ⟨n + 1, hn⟩) (ms0_0 m hO ⟨n + 1, hn⟩) (hs0_0 m hO ⟨n + 1, hn⟩) (ms0_1 m hO ⟨n + 1, hn⟩) (hs0_1 m hO ⟨n + 1, hn⟩) (ms0_2 m hO ⟨n + 1, hn⟩) (hs0_2 m hO ⟨n + 1, hn⟩) (ms0_3 m hO ⟨n + 1, hn⟩) (hs0_3 m hO ⟨n + 1, hn⟩) (ms0_4 m hO ⟨n + 1, hn⟩) (hs0_4 m hO ⟨n + 1, hn⟩) (ms0_5 m hO ⟨n + 1, hn⟩) (hs0_5 m hO ⟨n + 1, hn⟩) (ms0_6 m hO ⟨n + 1, hn⟩) (hs0_6 m hO ⟨n + 1, hn⟩) (ms0_7 m hO ⟨n + 1, hn⟩) (hs0_7 m hO ⟨n + 1, hn⟩) (ms0_8 m hO ⟨n + 1, hn⟩) (hs0_8 m hO ⟨n + 1, hn⟩) scM0_0 (Memref.isWhole_whole _) ((hcond0_0 ⟨n + 1, hn⟩).mpr h0) (fun h => h2 ((hcond0_2 ⟨n + 1, hn⟩).mp h)) (iblk m hO c 0 ⟨n + 1, hn⟩) (iblk m hO c 1 ⟨n + 1, hn⟩) (iblk m hO c 2 ⟨n + 1, hn⟩) (iblk m hO c 3 ⟨n + 1, hn⟩) (iblk m hO c 4 ⟨n + 1, hn⟩) (iblk m hO c 5 ⟨n + 1, hn⟩) (iblk m hO c 6 ⟨n + 1, hn⟩) (iblk m hO c 7 ⟨n + 1, hn⟩) (tbl m 0) (tbl m 1) h1, sout0_A_0 c (grid0.coords ⟨n + 1, hn⟩) (ms0_0 m hO ⟨n + 1, hn⟩) (hs0_0 m hO ⟨n + 1, hn⟩) (ms0_1 m hO ⟨n + 1, hn⟩) (hs0_1 m hO ⟨n + 1, hn⟩) (ms0_2 m hO ⟨n + 1, hn⟩) (hs0_2 m hO ⟨n + 1, hn⟩) (ms0_3 m hO ⟨n + 1, hn⟩) (hs0_3 m hO ⟨n + 1, hn⟩) (ms0_4 m hO ⟨n + 1, hn⟩) (hs0_4 m hO ⟨n + 1, hn⟩) (ms0_5 m hO ⟨n + 1, hn⟩) (hs0_5 m hO ⟨n + 1, hn⟩) (ms0_6 m hO ⟨n + 1, hn⟩) (hs0_6 m hO ⟨n + 1, hn⟩) (ms0_7 m hO ⟨n + 1, hn⟩) (hs0_7 m hO ⟨n + 1, hn⟩) (ms0_8 m hO ⟨n + 1, hn⟩) (hs0_8 m hO ⟨n + 1, hn⟩) scM0_0 (Memref.isWhole_whole _) ((hcond0_0 ⟨n + 1, hn⟩).mpr h0) (fun h => h2 ((hcond0_2 ⟨n + 1, hn⟩).mp h)) (iblk m hO c 0 ⟨n + 1, hn⟩) (iblk m hO c 1 ⟨n + 1, hn⟩) (iblk m hO c 2 ⟨n + 1, hn⟩) (iblk m hO c 3 ⟨n + 1, hn⟩) (iblk m hO c 4 ⟨n + 1, hn⟩) (iblk m hO c 5 ⟨n + 1, hn⟩) (iblk m hO c 6 ⟨n + 1, hn⟩) (iblk m hO c 7 ⟨n + 1, hn⟩) (tbl m 0) (tbl m 1) h1)
      else
        if h2 : (n + 1) % 8 = 7 then
          (out0_E_8 c (grid0.coords ⟨n + 1, hn⟩) (ms0_0 m hO ⟨n + 1, hn⟩) (hs0_0 m hO ⟨n + 1, hn⟩) (ms0_1 m hO ⟨n + 1, hn⟩) (hs0_1 m hO ⟨n + 1, hn⟩) (ms0_2 m hO ⟨n + 1, hn⟩) (hs0_2 m hO ⟨n + 1, hn⟩) (ms0_3 m hO ⟨n + 1, hn⟩) (hs0_3 m hO ⟨n + 1, hn⟩) (ms0_4 m hO ⟨n + 1, hn⟩) (hs0_4 m hO ⟨n + 1, hn⟩) (ms0_5 m hO ⟨n + 1, hn⟩) (hs0_5 m hO ⟨n + 1, hn⟩) (ms0_6 m hO ⟨n + 1, hn⟩) (hs0_6 m hO ⟨n + 1, hn⟩) (ms0_7 m hO ⟨n + 1, hn⟩) (hs0_7 m hO ⟨n + 1, hn⟩) (ms0_8 m hO ⟨n + 1, hn⟩) (hs0_8 m hO ⟨n + 1, hn⟩) scM0_0 (Memref.isWhole_whole _) (fun h => h0 ((hcond0_0 ⟨n + 1, hn⟩).mp h)) ((hcond0_2 ⟨n + 1, hn⟩).mpr h2) (iblk m hO c 0 ⟨n + 1, hn⟩) (iblk m hO c 1 ⟨n + 1, hn⟩) (iblk m hO c 2 ⟨n + 1, hn⟩) (iblk m hO c 3 ⟨n + 1, hn⟩) (iblk m hO c 4 ⟨n + 1, hn⟩) (iblk m hO c 5 ⟨n + 1, hn⟩) (iblk m hO c 6 ⟨n + 1, hn⟩) (iblk m hO c 7 ⟨n + 1, hn⟩) (tbl m 0) (tbl m 1) (outsAt0 hO c n (Nat.lt_of_succ_lt hn)).2 h1, sout0_E_0 c (grid0.coords ⟨n + 1, hn⟩) (ms0_0 m hO ⟨n + 1, hn⟩) (hs0_0 m hO ⟨n + 1, hn⟩) (ms0_1 m hO ⟨n + 1, hn⟩) (hs0_1 m hO ⟨n + 1, hn⟩) (ms0_2 m hO ⟨n + 1, hn⟩) (hs0_2 m hO ⟨n + 1, hn⟩) (ms0_3 m hO ⟨n + 1, hn⟩) (hs0_3 m hO ⟨n + 1, hn⟩) (ms0_4 m hO ⟨n + 1, hn⟩) (hs0_4 m hO ⟨n + 1, hn⟩) (ms0_5 m hO ⟨n + 1, hn⟩) (hs0_5 m hO ⟨n + 1, hn⟩) (ms0_6 m hO ⟨n + 1, hn⟩) (hs0_6 m hO ⟨n + 1, hn⟩) (ms0_7 m hO ⟨n + 1, hn⟩) (hs0_7 m hO ⟨n + 1, hn⟩) (ms0_8 m hO ⟨n + 1, hn⟩) (hs0_8 m hO ⟨n + 1, hn⟩) scM0_0 (Memref.isWhole_whole _) (fun h => h0 ((hcond0_0 ⟨n + 1, hn⟩).mp h)) ((hcond0_2 ⟨n + 1, hn⟩).mpr h2) (iblk m hO c 0 ⟨n + 1, hn⟩) (iblk m hO c 1 ⟨n + 1, hn⟩) (iblk m hO c 2 ⟨n + 1, hn⟩) (iblk m hO c 3 ⟨n + 1, hn⟩) (iblk m hO c 4 ⟨n + 1, hn⟩) (iblk m hO c 5 ⟨n + 1, hn⟩) (iblk m hO c 6 ⟨n + 1, hn⟩) (iblk m hO c 7 ⟨n + 1, hn⟩) (tbl m 0) (tbl m 1) (outsAt0 hO c n (Nat.lt_of_succ_lt hn)).2 h1)
        else
          (out0_C_8 c (grid0.coords ⟨n + 1, hn⟩) (ms0_0 m hO ⟨n + 1, hn⟩) (hs0_0 m hO ⟨n + 1, hn⟩) (ms0_1 m hO ⟨n + 1, hn⟩) (hs0_1 m hO ⟨n + 1, hn⟩) (ms0_2 m hO ⟨n + 1, hn⟩) (hs0_2 m hO ⟨n + 1, hn⟩) (ms0_3 m hO ⟨n + 1, hn⟩) (hs0_3 m hO ⟨n + 1, hn⟩) (ms0_4 m hO ⟨n + 1, hn⟩) (hs0_4 m hO ⟨n + 1, hn⟩) (ms0_5 m hO ⟨n + 1, hn⟩) (hs0_5 m hO ⟨n + 1, hn⟩) (ms0_6 m hO ⟨n + 1, hn⟩) (hs0_6 m hO ⟨n + 1, hn⟩) (ms0_7 m hO ⟨n + 1, hn⟩) (hs0_7 m hO ⟨n + 1, hn⟩) (ms0_8 m hO ⟨n + 1, hn⟩) (hs0_8 m hO ⟨n + 1, hn⟩) scM0_0 (Memref.isWhole_whole _) (fun h => h0 ((hcond0_0 ⟨n + 1, hn⟩).mp h)) (fun h => h2 ((hcond0_2 ⟨n + 1, hn⟩).mp h)) (iblk m hO c 0 ⟨n + 1, hn⟩) (iblk m hO c 1 ⟨n + 1, hn⟩) (iblk m hO c 2 ⟨n + 1, hn⟩) (iblk m hO c 3 ⟨n + 1, hn⟩) (iblk m hO c 4 ⟨n + 1, hn⟩) (iblk m hO c 5 ⟨n + 1, hn⟩) (iblk m hO c 6 ⟨n + 1, hn⟩) (iblk m hO c 7 ⟨n + 1, hn⟩) (tbl m 0) (tbl m 1) (outsAt0 hO c n (Nat.lt_of_succ_lt hn)).2 h1, sout0_C_0 c (grid0.coords ⟨n + 1, hn⟩) (ms0_0 m hO ⟨n + 1, hn⟩) (hs0_0 m hO ⟨n + 1, hn⟩) (ms0_1 m hO ⟨n + 1, hn⟩) (hs0_1 m hO ⟨n + 1, hn⟩) (ms0_2 m hO ⟨n + 1, hn⟩) (hs0_2 m hO ⟨n + 1, hn⟩) (ms0_3 m hO ⟨n + 1, hn⟩) (hs0_3 m hO ⟨n + 1, hn⟩) (ms0_4 m hO ⟨n + 1, hn⟩) (hs0_4 m hO ⟨n + 1, hn⟩) (ms0_5 m hO ⟨n + 1, hn⟩) (hs0_5 m hO ⟨n + 1, hn⟩) (ms0_6 m hO ⟨n + 1, hn⟩) (hs0_6 m hO ⟨n + 1, hn⟩) (ms0_7 m hO ⟨n + 1, hn⟩) (hs0_7 m hO ⟨n + 1, hn⟩) (ms0_8 m hO ⟨n + 1, hn⟩) (hs0_8 m hO ⟨n + 1, hn⟩) scM0_0 (Memref.isWhole_whole _) (fun h => h0 ((hcond0_0 ⟨n + 1, hn⟩).mp h)) (fun h => h2 ((hcond0_2 ⟨n + 1, hn⟩).mp h)) (iblk m hO c 0 ⟨n + 1, hn⟩) (iblk m hO c 1 ⟨n + 1, hn⟩) (iblk m hO c 2 ⟨n + 1, hn⟩) (iblk m hO c 3 ⟨n + 1, hn⟩) (iblk m hO c 4 ⟨n + 1, hn⟩) (iblk m hO c 5 ⟨n + 1, hn⟩) (iblk m hO c 6 ⟨n + 1, hn⟩) (iblk m hO c 7 ⟨n + 1, hn⟩) (tbl m 0) (tbl m 1) (outsAt0 hO c n (Nat.lt_of_succ_lt hn)).2 h1)
    else
      if h0 : (n + 1) % 8 = 0 then
        if h2 : (n + 1) % 8 = 7 then
          False.elim (by have hN : n + 1 < 1280 := lt_of_lt_of_eq hn (show (cfgM m hO).N = 1280 from N_0); omega)
        else
          (out0_B_8 c (grid0.coords ⟨n + 1, hn⟩) (ms0_0 m hO ⟨n + 1, hn⟩) (hs0_0 m hO ⟨n + 1, hn⟩) (ms0_1 m hO ⟨n + 1, hn⟩) (hs0_1 m hO ⟨n + 1, hn⟩) (ms0_2 m hO ⟨n + 1, hn⟩) (hs0_2 m hO ⟨n + 1, hn⟩) (ms0_3 m hO ⟨n + 1, hn⟩) (hs0_3 m hO ⟨n + 1, hn⟩) (ms0_4 m hO ⟨n + 1, hn⟩) (hs0_4 m hO ⟨n + 1, hn⟩) (ms0_5 m hO ⟨n + 1, hn⟩) (hs0_5 m hO ⟨n + 1, hn⟩) (ms0_6 m hO ⟨n + 1, hn⟩) (hs0_6 m hO ⟨n + 1, hn⟩) (ms0_7 m hO ⟨n + 1, hn⟩) (hs0_7 m hO ⟨n + 1, hn⟩) (ms0_8 m hO ⟨n + 1, hn⟩) (hs0_8 m hO ⟨n + 1, hn⟩) scM0_0 (Memref.isWhole_whole _) ((hcond0_0 ⟨n + 1, hn⟩).mpr h0) (fun h => h2 ((hcond0_2 ⟨n + 1, hn⟩).mp h)) (iblk m hO c 0 ⟨n + 1, hn⟩) (iblk m hO c 1 ⟨n + 1, hn⟩) (iblk m hO c 2 ⟨n + 1, hn⟩) (iblk m hO c 3 ⟨n + 1, hn⟩) (iblk m hO c 4 ⟨n + 1, hn⟩) (iblk m hO c 5 ⟨n + 1, hn⟩) (iblk m hO c 6 ⟨n + 1, hn⟩) (iblk m hO c 7 ⟨n + 1, hn⟩) (tbl m 0) (tbl m 1) h1, sout0_B_0 c (grid0.coords ⟨n + 1, hn⟩) (ms0_0 m hO ⟨n + 1, hn⟩) (hs0_0 m hO ⟨n + 1, hn⟩) (ms0_1 m hO ⟨n + 1, hn⟩) (hs0_1 m hO ⟨n + 1, hn⟩) (ms0_2 m hO ⟨n + 1, hn⟩) (hs0_2 m hO ⟨n + 1, hn⟩) (ms0_3 m hO ⟨n + 1, hn⟩) (hs0_3 m hO ⟨n + 1, hn⟩) (ms0_4 m hO ⟨n + 1, hn⟩) (hs0_4 m hO ⟨n + 1, hn⟩) (ms0_5 m hO ⟨n + 1, hn⟩) (hs0_5 m hO ⟨n + 1, hn⟩) (ms0_6 m hO ⟨n + 1, hn⟩) (hs0_6 m hO ⟨n + 1, hn⟩) (ms0_7 m hO ⟨n + 1, hn⟩) (hs0_7 m hO ⟨n + 1, hn⟩) (ms0_8 m hO ⟨n + 1, hn⟩) (hs0_8 m hO ⟨n + 1, hn⟩) scM0_0 (Memref.isWhole_whole _) ((hcond0_0 ⟨n + 1, hn⟩).mpr h0) (fun h => h2 ((hcond0_2 ⟨n + 1, hn⟩).mp h)) (iblk m hO c 0 ⟨n + 1, hn⟩) (iblk m hO c 1 ⟨n + 1, hn⟩) (iblk m hO c 2 ⟨n + 1, hn⟩) (iblk m hO c 3 ⟨n + 1, hn⟩) (iblk m hO c 4 ⟨n + 1, hn⟩) (iblk m hO c 5 ⟨n + 1, hn⟩) (iblk m hO c 6 ⟨n + 1, hn⟩) (iblk m hO c 7 ⟨n + 1, hn⟩) (tbl m 0) (tbl m 1) h1)
      else
        if h2 : (n + 1) % 8 = 7 then
          (out0_F_8 c (grid0.coords ⟨n + 1, hn⟩) (ms0_0 m hO ⟨n + 1, hn⟩) (hs0_0 m hO ⟨n + 1, hn⟩) (ms0_1 m hO ⟨n + 1, hn⟩) (hs0_1 m hO ⟨n + 1, hn⟩) (ms0_2 m hO ⟨n + 1, hn⟩) (hs0_2 m hO ⟨n + 1, hn⟩) (ms0_3 m hO ⟨n + 1, hn⟩) (hs0_3 m hO ⟨n + 1, hn⟩) (ms0_4 m hO ⟨n + 1, hn⟩) (hs0_4 m hO ⟨n + 1, hn⟩) (ms0_5 m hO ⟨n + 1, hn⟩) (hs0_5 m hO ⟨n + 1, hn⟩) (ms0_6 m hO ⟨n + 1, hn⟩) (hs0_6 m hO ⟨n + 1, hn⟩) (ms0_7 m hO ⟨n + 1, hn⟩) (hs0_7 m hO ⟨n + 1, hn⟩) (ms0_8 m hO ⟨n + 1, hn⟩) (hs0_8 m hO ⟨n + 1, hn⟩) scM0_0 (Memref.isWhole_whole _) (fun h => h0 ((hcond0_0 ⟨n + 1, hn⟩).mp h)) ((hcond0_2 ⟨n + 1, hn⟩).mpr h2) (iblk m hO c 0 ⟨n + 1, hn⟩) (iblk m hO c 1 ⟨n + 1, hn⟩) (iblk m hO c 2 ⟨n + 1, hn⟩) (iblk m hO c 3 ⟨n + 1, hn⟩) (iblk m hO c 4 ⟨n + 1, hn⟩) (iblk m hO c 5 ⟨n + 1, hn⟩) (iblk m hO c 6 ⟨n + 1, hn⟩) (iblk m hO c 7 ⟨n + 1, hn⟩) (tbl m 0) (tbl m 1) (outsAt0 hO c n (Nat.lt_of_succ_lt hn)).2 h1, sout0_F_0 c (grid0.coords ⟨n + 1, hn⟩) (ms0_0 m hO ⟨n + 1, hn⟩) (hs0_0 m hO ⟨n + 1, hn⟩) (ms0_1 m hO ⟨n + 1, hn⟩) (hs0_1 m hO ⟨n + 1, hn⟩) (ms0_2 m hO ⟨n + 1, hn⟩) (hs0_2 m hO ⟨n + 1, hn⟩) (ms0_3 m hO ⟨n + 1, hn⟩) (hs0_3 m hO ⟨n + 1, hn⟩) (ms0_4 m hO ⟨n + 1, hn⟩) (hs0_4 m hO ⟨n + 1, hn⟩) (ms0_5 m hO ⟨n + 1, hn⟩) (hs0_5 m hO ⟨n + 1, hn⟩) (ms0_6 m hO ⟨n + 1, hn⟩) (hs0_6 m hO ⟨n + 1, hn⟩) (ms0_7 m hO ⟨n + 1, hn⟩) (hs0_7 m hO ⟨n + 1, hn⟩) (ms0_8 m hO ⟨n + 1, hn⟩) (hs0_8 m hO ⟨n + 1, hn⟩) scM0_0 (Memref.isWhole_whole _) (fun h => h0 ((hcond0_0 ⟨n + 1, hn⟩).mp h)) ((hcond0_2 ⟨n + 1, hn⟩).mpr h2) (iblk m hO c 0 ⟨n + 1, hn⟩) (iblk m hO c 1 ⟨n + 1, hn⟩) (iblk m hO c 2 ⟨n + 1, hn⟩) (iblk m hO c 3 ⟨n + 1, hn⟩) (iblk m hO c 4 ⟨n + 1, hn⟩) (iblk m hO c 5 ⟨n + 1, hn⟩) (iblk m hO c 6 ⟨n + 1, hn⟩) (iblk m hO c 7 ⟨n + 1, hn⟩) (tbl m 0) (tbl m 1) (outsAt0 hO c n (Nat.lt_of_succ_lt hn)).2 h1)
        else
          (out0_D_8 c (grid0.coords ⟨n + 1, hn⟩) (ms0_0 m hO ⟨n + 1, hn⟩) (hs0_0 m hO ⟨n + 1, hn⟩) (ms0_1 m hO ⟨n + 1, hn⟩) (hs0_1 m hO ⟨n + 1, hn⟩) (ms0_2 m hO ⟨n + 1, hn⟩) (hs0_2 m hO ⟨n + 1, hn⟩) (ms0_3 m hO ⟨n + 1, hn⟩) (hs0_3 m hO ⟨n + 1, hn⟩) (ms0_4 m hO ⟨n + 1, hn⟩) (hs0_4 m hO ⟨n + 1, hn⟩) (ms0_5 m hO ⟨n + 1, hn⟩) (hs0_5 m hO ⟨n + 1, hn⟩) (ms0_6 m hO ⟨n + 1, hn⟩) (hs0_6 m hO ⟨n + 1, hn⟩) (ms0_7 m hO ⟨n + 1, hn⟩) (hs0_7 m hO ⟨n + 1, hn⟩) (ms0_8 m hO ⟨n + 1, hn⟩) (hs0_8 m hO ⟨n + 1, hn⟩) scM0_0 (Memref.isWhole_whole _) (fun h => h0 ((hcond0_0 ⟨n + 1, hn⟩).mp h)) (fun h => h2 ((hcond0_2 ⟨n + 1, hn⟩).mp h)) (iblk m hO c 0 ⟨n + 1, hn⟩) (iblk m hO c 1 ⟨n + 1, hn⟩) (iblk m hO c 2 ⟨n + 1, hn⟩) (iblk m hO c 3 ⟨n + 1, hn⟩) (iblk m hO c 4 ⟨n + 1, hn⟩) (iblk m hO c 5 ⟨n + 1, hn⟩) (iblk m hO c 6 ⟨n + 1, hn⟩) (iblk m hO c 7 ⟨n + 1, hn⟩) (tbl m 0) (tbl m 1) (outsAt0 hO c n (Nat.lt_of_succ_lt hn)).2 h1, sout0_D_0 c (grid0.coords ⟨n + 1, hn⟩) (ms0_0 m hO ⟨n + 1, hn⟩) (hs0_0 m hO ⟨n + 1, hn⟩) (ms0_1 m hO ⟨n + 1, hn⟩) (hs0_1 m hO ⟨n + 1, hn⟩) (ms0_2 m hO ⟨n + 1, hn⟩) (hs0_2 m hO ⟨n + 1, hn⟩) (ms0_3 m hO ⟨n + 1, hn⟩) (hs0_3 m hO ⟨n + 1, hn⟩) (ms0_4 m hO ⟨n + 1, hn⟩) (hs0_4 m hO ⟨n + 1, hn⟩) (ms0_5 m hO ⟨n + 1, hn⟩) (hs0_5 m hO ⟨n + 1, hn⟩) (ms0_6 m hO ⟨n + 1, hn⟩) (hs0_6 m hO ⟨n + 1, hn⟩) (ms0_7 m hO ⟨n + 1, hn⟩) (hs0_7 m hO ⟨n + 1, hn⟩) (ms0_8 m hO ⟨n + 1, hn⟩) (hs0_8 m hO ⟨n + 1, hn⟩) scM0_0 (Memref.isWhole_whole _) (fun h => h0 ((hcond0_0 ⟨n + 1, hn⟩).mp h)) (fun h => h2 ((hcond0_2 ⟨n + 1, hn⟩).mp h)) (iblk m hO c 0 ⟨n + 1, hn⟩) (iblk m hO c 1 ⟨n + 1, hn⟩) (iblk m hO c 2 ⟨n + 1, hn⟩) (iblk m hO c 3 ⟨n + 1, hn⟩) (iblk m hO c 4 ⟨n + 1, hn⟩) (iblk m hO c 5 ⟨n + 1, hn⟩) (iblk m hO c 6 ⟨n + 1, hn⟩) (iblk m hO c 7 ⟨n + 1, hn⟩) (tbl m 0) (tbl m 1) (outsAt0 hO c n (Nat.lt_of_succ_lt hn)).2 h1)

/-- `outsAt0` at a point of case A: that case's contents. -/
theorem outsAt0_A (hO : Ok m) (c : Dev nD) (t : Fin (cfgM m hO).N) (h0 : t.val % 8 = 0) (h1 : cond0_1 (grid0.coords t) (tbM0_1.view.readAt (Elt F) (Rect.unit (s := S1) ![0] S1.size inb_S1_S1_0).toLoadRect (tbl m 1) (Shape.Idx.first (numel1_S1.symm ▸ Nat.one_pos)))) (h2 : ¬t.val % 8 = 7) :
    outsAt0 m hO c t.val t.isLt = (out0_A_8 c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) (ms0_7 m hO t) (hs0_7 m hO t) (ms0_8 m hO t) (hs0_8 m hO t) scM0_0 (Memref.isWhole_whole _) ((hcond0_0 t).mpr h0) (fun h => h2 ((hcond0_2 t).mp h)) (iblk m hO c 0 t) (iblk m hO c 1 t) (iblk m hO c 2 t) (iblk m hO c 3 t) (iblk m hO c 4 t) (iblk m hO c 5 t) (iblk m hO c 6 t) (iblk m hO c 7 t) (tbl m 0) (tbl m 1) h1, sout0_A_0 c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) (ms0_7 m hO t) (hs0_7 m hO t) (ms0_8 m hO t) (hs0_8 m hO t) scM0_0 (Memref.isWhole_whole _) ((hcond0_0 t).mpr h0) (fun h => h2 ((hcond0_2 t).mp h)) (iblk m hO c 0 t) (iblk m hO c 1 t) (iblk m hO c 2 t) (iblk m hO c 3 t) (iblk m hO c 4 t) (iblk m hO c 5 t) (iblk m hO c 6 t) (iblk m hO c 7 t) (tbl m 0) (tbl m 1) h1) := by
  obtain ⟨n, hn⟩ := t
  cases n with
  | zero => exact dif_pos h1
  | succ n =>
    refine (outsAt0.eq_2 m hO c n hn).trans ?_
    rw [dif_pos h1, dif_pos h0, dif_neg h2]

/-- `outsAt0` at a point of case B: that case's contents. -/
theorem outsAt0_B (hO : Ok m) (c : Dev nD) (t : Fin (cfgM m hO).N) (h0 : t.val % 8 = 0) (h1 : ¬cond0_1 (grid0.coords t) (tbM0_1.view.readAt (Elt F) (Rect.unit (s := S1) ![0] S1.size inb_S1_S1_0).toLoadRect (tbl m 1) (Shape.Idx.first (numel1_S1.symm ▸ Nat.one_pos)))) (h2 : ¬t.val % 8 = 7) :
    outsAt0 m hO c t.val t.isLt = (out0_B_8 c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) (ms0_7 m hO t) (hs0_7 m hO t) (ms0_8 m hO t) (hs0_8 m hO t) scM0_0 (Memref.isWhole_whole _) ((hcond0_0 t).mpr h0) (fun h => h2 ((hcond0_2 t).mp h)) (iblk m hO c 0 t) (iblk m hO c 1 t) (iblk m hO c 2 t) (iblk m hO c 3 t) (iblk m hO c 4 t) (iblk m hO c 5 t) (iblk m hO c 6 t) (iblk m hO c 7 t) (tbl m 0) (tbl m 1) h1, sout0_B_0 c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) (ms0_7 m hO t) (hs0_7 m hO t) (ms0_8 m hO t) (hs0_8 m hO t) scM0_0 (Memref.isWhole_whole _) ((hcond0_0 t).mpr h0) (fun h => h2 ((hcond0_2 t).mp h)) (iblk m hO c 0 t) (iblk m hO c 1 t) (iblk m hO c 2 t) (iblk m hO c 3 t) (iblk m hO c 4 t) (iblk m hO c 5 t) (iblk m hO c 6 t) (iblk m hO c 7 t) (tbl m 0) (tbl m 1) h1) := by
  obtain ⟨n, hn⟩ := t
  cases n with
  | zero => exact dif_neg h1
  | succ n =>
    refine (outsAt0.eq_2 m hO c n hn).trans ?_
    rw [dif_neg h1, dif_pos h0, dif_neg h2]

/-- `outsAt0` at a point of case C: that case's contents, over what the point before left. -/
theorem outsAt0_C (hO : Ok m) (c : Dev nD) (t : Fin (cfgM m hO).N) (h0 : ¬t.val % 8 = 0) (h1 : cond0_1 (grid0.coords t) (tbM0_1.view.readAt (Elt F) (Rect.unit (s := S1) ![0] S1.size inb_S1_S1_0).toLoadRect (tbl m 1) (Shape.Idx.first (numel1_S1.symm ▸ Nat.one_pos)))) (h2 : ¬t.val % 8 = 7) :
    outsAt0 m hO c t.val t.isLt = (out0_C_8 c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) (ms0_7 m hO t) (hs0_7 m hO t) (ms0_8 m hO t) (hs0_8 m hO t) scM0_0 (Memref.isWhole_whole _) (fun h => h0 ((hcond0_0 t).mp h)) (fun h => h2 ((hcond0_2 t).mp h)) (iblk m hO c 0 t) (iblk m hO c 1 t) (iblk m hO c 2 t) (iblk m hO c 3 t) (iblk m hO c 4 t) (iblk m hO c 5 t) (iblk m hO c 6 t) (iblk m hO c 7 t) (tbl m 0) (tbl m 1) (outsAt0 m hO c (t.val - 1) (Nat.lt_of_le_of_lt (Nat.sub_le _ _) t.isLt)).2 h1, sout0_C_0 c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) (ms0_7 m hO t) (hs0_7 m hO t) (ms0_8 m hO t) (hs0_8 m hO t) scM0_0 (Memref.isWhole_whole _) (fun h => h0 ((hcond0_0 t).mp h)) (fun h => h2 ((hcond0_2 t).mp h)) (iblk m hO c 0 t) (iblk m hO c 1 t) (iblk m hO c 2 t) (iblk m hO c 3 t) (iblk m hO c 4 t) (iblk m hO c 5 t) (iblk m hO c 6 t) (iblk m hO c 7 t) (tbl m 0) (tbl m 1) (outsAt0 m hO c (t.val - 1) (Nat.lt_of_le_of_lt (Nat.sub_le _ _) t.isLt)).2 h1) := by
  obtain ⟨n, hn⟩ := t
  cases n with
  | zero => exact absurd (Nat.zero_mod _) h0
  | succ n =>
    refine (outsAt0.eq_2 m hO c n hn).trans ?_
    rw [dif_pos h1, dif_neg h0, dif_neg h2]
    simp only [Nat.add_sub_cancel]

/-- `outsAt0` at a point of case D: that case's contents, over what the point before left. -/
theorem outsAt0_D (hO : Ok m) (c : Dev nD) (t : Fin (cfgM m hO).N) (h0 : ¬t.val % 8 = 0) (h1 : ¬cond0_1 (grid0.coords t) (tbM0_1.view.readAt (Elt F) (Rect.unit (s := S1) ![0] S1.size inb_S1_S1_0).toLoadRect (tbl m 1) (Shape.Idx.first (numel1_S1.symm ▸ Nat.one_pos)))) (h2 : ¬t.val % 8 = 7) :
    outsAt0 m hO c t.val t.isLt = (out0_D_8 c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) (ms0_7 m hO t) (hs0_7 m hO t) (ms0_8 m hO t) (hs0_8 m hO t) scM0_0 (Memref.isWhole_whole _) (fun h => h0 ((hcond0_0 t).mp h)) (fun h => h2 ((hcond0_2 t).mp h)) (iblk m hO c 0 t) (iblk m hO c 1 t) (iblk m hO c 2 t) (iblk m hO c 3 t) (iblk m hO c 4 t) (iblk m hO c 5 t) (iblk m hO c 6 t) (iblk m hO c 7 t) (tbl m 0) (tbl m 1) (outsAt0 m hO c (t.val - 1) (Nat.lt_of_le_of_lt (Nat.sub_le _ _) t.isLt)).2 h1, sout0_D_0 c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) (ms0_7 m hO t) (hs0_7 m hO t) (ms0_8 m hO t) (hs0_8 m hO t) scM0_0 (Memref.isWhole_whole _) (fun h => h0 ((hcond0_0 t).mp h)) (fun h => h2 ((hcond0_2 t).mp h)) (iblk m hO c 0 t) (iblk m hO c 1 t) (iblk m hO c 2 t) (iblk m hO c 3 t) (iblk m hO c 4 t) (iblk m hO c 5 t) (iblk m hO c 6 t) (iblk m hO c 7 t) (tbl m 0) (tbl m 1) (outsAt0 m hO c (t.val - 1) (Nat.lt_of_le_of_lt (Nat.sub_le _ _) t.isLt)).2 h1) := by
  obtain ⟨n, hn⟩ := t
  cases n with
  | zero => exact absurd (Nat.zero_mod _) h0
  | succ n =>
    refine (outsAt0.eq_2 m hO c n hn).trans ?_
    rw [dif_neg h1, dif_neg h0, dif_neg h2]
    simp only [Nat.add_sub_cancel]

/-- `outsAt0` at a point of case E: that case's contents, over what the point before left. -/
theorem outsAt0_E (hO : Ok m) (c : Dev nD) (t : Fin (cfgM m hO).N) (h0 : ¬t.val % 8 = 0) (h1 : cond0_1 (grid0.coords t) (tbM0_1.view.readAt (Elt F) (Rect.unit (s := S1) ![0] S1.size inb_S1_S1_0).toLoadRect (tbl m 1) (Shape.Idx.first (numel1_S1.symm ▸ Nat.one_pos)))) (h2 : t.val % 8 = 7) :
    outsAt0 m hO c t.val t.isLt = (out0_E_8 c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) (ms0_7 m hO t) (hs0_7 m hO t) (ms0_8 m hO t) (hs0_8 m hO t) scM0_0 (Memref.isWhole_whole _) (fun h => h0 ((hcond0_0 t).mp h)) ((hcond0_2 t).mpr h2) (iblk m hO c 0 t) (iblk m hO c 1 t) (iblk m hO c 2 t) (iblk m hO c 3 t) (iblk m hO c 4 t) (iblk m hO c 5 t) (iblk m hO c 6 t) (iblk m hO c 7 t) (tbl m 0) (tbl m 1) (outsAt0 m hO c (t.val - 1) (Nat.lt_of_le_of_lt (Nat.sub_le _ _) t.isLt)).2 h1, sout0_E_0 c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) (ms0_7 m hO t) (hs0_7 m hO t) (ms0_8 m hO t) (hs0_8 m hO t) scM0_0 (Memref.isWhole_whole _) (fun h => h0 ((hcond0_0 t).mp h)) ((hcond0_2 t).mpr h2) (iblk m hO c 0 t) (iblk m hO c 1 t) (iblk m hO c 2 t) (iblk m hO c 3 t) (iblk m hO c 4 t) (iblk m hO c 5 t) (iblk m hO c 6 t) (iblk m hO c 7 t) (tbl m 0) (tbl m 1) (outsAt0 m hO c (t.val - 1) (Nat.lt_of_le_of_lt (Nat.sub_le _ _) t.isLt)).2 h1) := by
  obtain ⟨n, hn⟩ := t
  cases n with
  | zero => exact absurd (Nat.zero_mod _) h0
  | succ n =>
    refine (outsAt0.eq_2 m hO c n hn).trans ?_
    rw [dif_pos h1, dif_neg h0, dif_pos h2]
    simp only [Nat.add_sub_cancel]

/-- `outsAt0` at a point of case F: that case's contents, over what the point before left. -/
theorem outsAt0_F (hO : Ok m) (c : Dev nD) (t : Fin (cfgM m hO).N) (h0 : ¬t.val % 8 = 0) (h1 : ¬cond0_1 (grid0.coords t) (tbM0_1.view.readAt (Elt F) (Rect.unit (s := S1) ![0] S1.size inb_S1_S1_0).toLoadRect (tbl m 1) (Shape.Idx.first (numel1_S1.symm ▸ Nat.one_pos)))) (h2 : t.val % 8 = 7) :
    outsAt0 m hO c t.val t.isLt = (out0_F_8 c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) (ms0_7 m hO t) (hs0_7 m hO t) (ms0_8 m hO t) (hs0_8 m hO t) scM0_0 (Memref.isWhole_whole _) (fun h => h0 ((hcond0_0 t).mp h)) ((hcond0_2 t).mpr h2) (iblk m hO c 0 t) (iblk m hO c 1 t) (iblk m hO c 2 t) (iblk m hO c 3 t) (iblk m hO c 4 t) (iblk m hO c 5 t) (iblk m hO c 6 t) (iblk m hO c 7 t) (tbl m 0) (tbl m 1) (outsAt0 m hO c (t.val - 1) (Nat.lt_of_le_of_lt (Nat.sub_le _ _) t.isLt)).2 h1, sout0_F_0 c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) (ms0_7 m hO t) (hs0_7 m hO t) (ms0_8 m hO t) (hs0_8 m hO t) scM0_0 (Memref.isWhole_whole _) (fun h => h0 ((hcond0_0 t).mp h)) ((hcond0_2 t).mpr h2) (iblk m hO c 0 t) (iblk m hO c 1 t) (iblk m hO c 2 t) (iblk m hO c 3 t) (iblk m hO c 4 t) (iblk m hO c 5 t) (iblk m hO c 6 t) (iblk m hO c 7 t) (tbl m 0) (tbl m 1) (outsAt0 m hO c (t.val - 1) (Nat.lt_of_le_of_lt (Nat.sub_le _ _) t.isLt)).2 h1) := by
  obtain ⟨n, hn⟩ := t
  cases n with
  | zero => exact absurd (Nat.zero_mod _) h0
  | succ n =>
    refine (outsAt0.eq_2 m hO c n hn).trans ?_
    rw [dif_neg h1, dif_neg h0, dif_pos h2]
    simp only [Nat.add_sub_cancel]

/-- The region invariant before position `n` with a scratch the kernel CARRIES between points: before the first point the
    class's (Lib/Pipeline/Frame.lean `ΦA`: every scratch at anything); afterwards the scoped rest with each carried scratch
    at what the point before left in it (`outsAt0`'s scratch components), the others at anything, and the generator register
    at some state. -/
def PhiS (hO : Ok m) (c : Dev nD) : (n : ℕ) → n ≤ (cfgM m hO).N → sProp 𝕄
  | 0, _ => iprop(Pipeline.ΦA spec0 c ∗ Pipeline.ΦT pre0 (tbl m) c)
  | n + 1, hn => iprop(iprop(iprop(owns (c : Thread nD τ) scM0_0 fullShare ((outsAt0 m hO c n hn).2)) ∗ (∃ r, prngReg c r)) ∗ Pipeline.ΦT pre0 (tbl m) c)

theorem PhiS_zero (hO : Ok m) (c : Dev nD) (n : ℕ) (h : n ≤ (cfgM m hO).N) (hz : n = 0) : PhiS m hO c n h = iprop(Pipeline.ΦA spec0 c ∗ Pipeline.ΦT pre0 (tbl m) c) := by
  subst hz; rfl

/-- After point `n` (before point `n + 1`): the carried scratch at that point's contents. -/
theorem PhiS_succ (hO : Ok m) (c : Dev nD) (n : ℕ) (hn : n < (cfgM m hO).N) :
    PhiS m hO c (n + 1) hn = iprop(iprop(iprop(owns (c : Thread nD τ) scM0_0 fullShare ((outsAt0 m hO c n hn).2)) ∗ (∃ r, prngReg c r)) ∗ Pipeline.ΦT pre0 (tbl m) c) := rfl

/-- Before a point that is not the first: the carried scratch at what the point before left. -/
theorem PhiS_pos (hO : Ok m) (c : Dev nD) (n : ℕ) (h : n ≤ (cfgM m hO).N) (hz : n ≠ 0) :
    PhiS m hO c n h = iprop(iprop(iprop(owns (c : Thread nD τ) scM0_0 fullShare ((outsAt0 m hO c (n - 1) (by omega)).2)) ∗ (∃ r, prngReg c r)) ∗ Pipeline.ΦT pre0 (tbl m) c) := by
  cases n with
  | zero => exact absurd rfl hz
  | succ n => rfl
end Cert.KernelIdeal.Gen

end
-- ==== Proof.Moe.IdealFrame.lean ====
/- The frame certificate of the idealized kernel over the accumulation of `IdealOuts`: the pipeline's proof data, the
 body obligation and the run, from the derived text. -/
module

public import proofs.«01_k».proof.Proof.Moe.IdealOuts
public import Idealize.ShloMosaic.Lib.Claim

@[expose] public section

-- membership in a rectangle of production extents (`View.cover_of_tiled`): the elaborator's structural look
-- recurses once per coordinate of the long axes
set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The pipeline's proof data -/

/-- The proof data of the one pipeline on core `c`: the arrays as the region finds them (`V`); after the body at
    point `t` each input's buffer at its block and the outputs' at `outsAt0`; the invariant the class's
    (Lib/Pipeline/Frame.lean `ΦA`: the scoped rest and the generator register) and the tables' halves (`ΦT`); nothing owed;
    each input's share of its array
    (`Pipeline.shareOf`: the full share of an array several windows stage, dealt among them). -/
def dats (hO : Ok m) (_ : Fin 1) (c : Dev nD) : Dat τ (Elt F) Unit ℕ (UR sig nD τ) ℕ (cfgM m hO) c where
  A w := V m c (Pipeline.arrRef spec0 w)
  after w t := match w with
    | ⟨0, _⟩ => iblk m hO c 0 t
    | ⟨1, _⟩ => iblk m hO c 1 t
    | ⟨2, _⟩ => iblk m hO c 2 t
    | ⟨3, _⟩ => iblk m hO c 3 t
    | ⟨4, _⟩ => iblk m hO c 4 t
    | ⟨5, _⟩ => iblk m hO c 5 t
    | ⟨6, _⟩ => iblk m hO c 6 t
    | ⟨7, _⟩ => iblk m hO c 7 t
    | ⟨8, _⟩ => (outsAt0 m hO c t.val t.isLt).1
  Φ t := PhiS m hO c t.val (Nat.le_of_lt_succ t.isLt)
  q w := Pipeline.shareOf spec0 w
  owed _ := 0

/-- The proof data's arrays are the region-entry contents: the proof data's definition projected (`dsimp`), so that
    `V` — a fold over @main's host prefix, long for some programs — is never unfolded to check it. -/
theorem A_eq (hO : Ok m) (c : Dev nD) (w : Fin (cfgM m hO).W) : (dats m hO 0 c).A w = V m c (Pipeline.arrRef spec0 w) := by
  dsimp only [dats]

/-- The invariant at a point's start (the proof data at `t.castSucc`), restated at `t.val`. -/
theorem PhiS_castSucc (hO : Ok m) (c : Dev nD) (t : Fin (cfgM m hO).N) :
    (dats m hO 0 c).Φ t.castSucc = PhiS m hO c t.val (Nat.le_of_lt t.isLt) := by
  dsimp only [dats]; exact Pipeline.Dat.Φ_castSucc (PhiS m hO c) t

/-- What the body leaves, window by window (the proof data's `match` reduced by `dsimp`). -/
theorem after0_0 (hO : Ok m) (c : Dev nD) (t : Fin (cfgM m hO).N) : (dats m hO 0 c).after 0 t = iblk m hO c 0 t := by dsimp only [dats]; try rfl
theorem after0_1 (hO : Ok m) (c : Dev nD) (t : Fin (cfgM m hO).N) : (dats m hO 0 c).after 1 t = iblk m hO c 1 t := by dsimp only [dats]; try rfl
theorem after0_2 (hO : Ok m) (c : Dev nD) (t : Fin (cfgM m hO).N) : (dats m hO 0 c).after 2 t = iblk m hO c 2 t := by dsimp only [dats]; try rfl
theorem after0_3 (hO : Ok m) (c : Dev nD) (t : Fin (cfgM m hO).N) : (dats m hO 0 c).after 3 t = iblk m hO c 3 t := by dsimp only [dats]; try rfl
theorem after0_4 (hO : Ok m) (c : Dev nD) (t : Fin (cfgM m hO).N) : (dats m hO 0 c).after 4 t = iblk m hO c 4 t := by dsimp only [dats]; try rfl
theorem after0_5 (hO : Ok m) (c : Dev nD) (t : Fin (cfgM m hO).N) : (dats m hO 0 c).after 5 t = iblk m hO c 5 t := by dsimp only [dats]; try rfl
theorem after0_6 (hO : Ok m) (c : Dev nD) (t : Fin (cfgM m hO).N) : (dats m hO 0 c).after 6 t = iblk m hO c 6 t := by dsimp only [dats]; try rfl
theorem after0_7 (hO : Ok m) (c : Dev nD) (t : Fin (cfgM m hO).N) : (dats m hO 0 c).after 7 t = iblk m hO c 7 t := by dsimp only [dats]; try rfl
theorem after0_8 (hO : Ok m) (c : Dev nD) (t : Fin (cfgM m hO).N) : (dats m hO 0 c).after 8 t = (outsAt0 m hO c t.val t.isLt).1 := by dsimp only [dats]; try rfl

/-- Each input's current staging buffer holds its block at every point, fetched there or not (`beforeK_W_of`). -/
theorem before0_0 (hO : Ok m) (c : Dev nD) (t : Fin (cfgM m hO).N) (d) : (dats m hO 0 c).before 0 t d = iblk m hO c 0 t :=
  before0_0_of m hO (dats m hO 0 c) (A_eq m hO c 0) (after0_0 m hO c) t d
theorem before0_1 (hO : Ok m) (c : Dev nD) (t : Fin (cfgM m hO).N) (d) : (dats m hO 0 c).before 1 t d = iblk m hO c 1 t :=
  before0_1_of m hO (dats m hO 0 c) (A_eq m hO c 1) (after0_1 m hO c) t d
theorem before0_2 (hO : Ok m) (c : Dev nD) (t : Fin (cfgM m hO).N) (d) : (dats m hO 0 c).before 2 t d = iblk m hO c 2 t :=
  before0_2_of m hO (dats m hO 0 c) (A_eq m hO c 2) (after0_2 m hO c) t d
theorem before0_3 (hO : Ok m) (c : Dev nD) (t : Fin (cfgM m hO).N) (d) : (dats m hO 0 c).before 3 t d = iblk m hO c 3 t :=
  before0_3_of m hO (dats m hO 0 c) (A_eq m hO c 3) (after0_3 m hO c) t d
theorem before0_4 (hO : Ok m) (c : Dev nD) (t : Fin (cfgM m hO).N) (d) : (dats m hO 0 c).before 4 t d = iblk m hO c 4 t :=
  before0_4_of m hO (dats m hO 0 c) (A_eq m hO c 4) (after0_4 m hO c) t d
theorem before0_5 (hO : Ok m) (c : Dev nD) (t : Fin (cfgM m hO).N) (d) : (dats m hO 0 c).before 5 t d = iblk m hO c 5 t :=
  before0_5_of m hO (dats m hO 0 c) (A_eq m hO c 5) (after0_5 m hO c) t d
theorem before0_6 (hO : Ok m) (c : Dev nD) (t : Fin (cfgM m hO).N) (d) : (dats m hO 0 c).before 6 t d = iblk m hO c 6 t :=
  before0_6_of m hO (dats m hO 0 c) (A_eq m hO c 6) (after0_6 m hO c) t d
theorem before0_7 (hO : Ok m) (c : Dev nD) (t : Fin (cfgM m hO).N) (d) : (dats m hO 0 c).before 7 t d = iblk m hO c 7 t :=
  before0_7_of m hO (dats m hO 0 c) (A_eq m hO c 7) (after0_7 m hO c) t d

/-! ## The body obligation, at a generic point -/

/-- What the body is called with at point `t` (Lib/Pipeline.lean `BodyObligation`'s precondition, the windows one by one), -/
def bodyPre (hO : Ok m) (c : Dev nD) (t : Fin (cfgM m hO).N) : sProp 𝕄 :=
  iprop((dats m hO 0 c).Φ t.castSucc ∗ (dats m hO 0 c).owesAt () t.castSucc
    ∗ (∃ d, owns (c : Thread nD τ) (ms0_0 m hO t) fullShare ((dats m hO 0 c).before 0 t d))
    ∗ (∃ d, owns (c : Thread nD τ) (ms0_1 m hO t) fullShare ((dats m hO 0 c).before 1 t d))
    ∗ (∃ d, owns (c : Thread nD τ) (ms0_2 m hO t) fullShare ((dats m hO 0 c).before 2 t d))
    ∗ (∃ d, owns (c : Thread nD τ) (ms0_3 m hO t) fullShare ((dats m hO 0 c).before 3 t d))
    ∗ (∃ d, owns (c : Thread nD τ) (ms0_4 m hO t) fullShare ((dats m hO 0 c).before 4 t d))
    ∗ (∃ d, owns (c : Thread nD τ) (ms0_5 m hO t) fullShare ((dats m hO 0 c).before 5 t d))
    ∗ (∃ d, owns (c : Thread nD τ) (ms0_6 m hO t) fullShare ((dats m hO 0 c).before 6 t d))
    ∗ (∃ d, owns (c : Thread nD τ) (ms0_7 m hO t) fullShare ((dats m hO 0 c).before 7 t d))
    ∗ (∃ d, owns (c : Thread nD τ) (ms0_8 m hO t) fullShare ((dats m hO 0 c).before 8 t d)))

/-- and what it returns. -/
def bodyPost (hO : Ok m) (c : Dev nD) (t : Fin (cfgM m hO).N) : sProp 𝕄 :=
  iprop((dats m hO 0 c).Φ t.succ ∗ (dats m hO 0 c).owesAt () t.succ
    ∗ (dats m hO 0 c).leavesExact 0 t
    ∗ (dats m hO 0 c).leavesExact 1 t
    ∗ (dats m hO 0 c).leavesExact 2 t
    ∗ (dats m hO 0 c).leavesExact 3 t
    ∗ (dats m hO 0 c).leavesExact 4 t
    ∗ (dats m hO 0 c).leavesExact 5 t
    ∗ (dats m hO 0 c).leavesExact 6 t
    ∗ (dats m hO 0 c).leavesExact 7 t
    ∗ (dats m hO 0 c).leavesExact 8 t)

set_option maxHeartbeats 19200000 in
/-- The body at any point: the inputs' memrefs hold their blocks (`before0_W`); the closed forms say which case the point is in (`by_cases`), an output the case reads before covering holds what the point before left (`before0_W_κ`); so the
    run applies; the invariant hands the body the carried scratch at what the point before left (`PhiS_pos`; at anything at the first point, `PhiS_zero`), the other scratch buffers and the generator register at some state, and takes the carried scratch back at this point's contents (`PhiS_succ`, by `scoverK_κ_N`); the core owes nothing throughout. -/
theorem sound_body (hO : Ok m) (c : Dev nD) (t : Fin (cfgM m hO).N) :
    bodyPre m hO c t ⊢ wp frame (wpE (defs₀ (F := F)) Variants.none c none) Set.univ (bodyAt0 (adm m hO) t) (fun _ => bodyPost m hO c t) := by
  unfold bodyPre bodyPost bodyAt0
  simp only [before0_0, before0_1, before0_2, before0_3, before0_4, before0_5, before0_6, before0_7]
  rw [show (dats m hO 0 c).owesAt () t.succ = (dats m hO 0 c).owesAt () t.castSucc from rfl]
  rw [show (dats m hO 0 c).Φ t.succ = PhiS m hO c (t.val + 1) t.isLt from rfl, PhiS_succ, PhiT0_eq]
  have hN : t.val < 1280 := lt_of_lt_of_eq t.isLt (show (cfgM m hO).N = 1280 from N_0)
  by_cases h0 : t.val % 8 = 0
  · by_cases h1 : cond0_1 (grid0.coords t) (tbM0_1.view.readAt (Elt F) (Rect.unit (s := S1) ![0] S1.size inb_S1_S1_0).toLoadRect (tbl m 1) (Shape.Idx.first (numel1_S1.symm ▸ Nat.one_pos)))
    · by_cases h2 : t.val % 8 = 7
      · exfalso; omega
      · rw [show (dats m hO 0 c).leavesExact 0 t = owns (c : Thread nD τ) (ms0_0 m hO t) fullShare ((dats m hO 0 c).after 0 t) from by
      unfold Dat.leavesExact; rw [liveAt0_0 m hO t]; try rfl, after0_0]
        rw [show (dats m hO 0 c).leavesExact 1 t = owns (c : Thread nD τ) (ms0_1 m hO t) fullShare ((dats m hO 0 c).after 1 t) from by
      unfold Dat.leavesExact; rw [liveAt0_1 m hO t]; try rfl, after0_1]
        rw [show (dats m hO 0 c).leavesExact 2 t = owns (c : Thread nD τ) (ms0_2 m hO t) fullShare ((dats m hO 0 c).after 2 t) from by
      unfold Dat.leavesExact; rw [liveAt0_2 m hO t]; try rfl, after0_2]
        rw [show (dats m hO 0 c).leavesExact 3 t = owns (c : Thread nD τ) (ms0_3 m hO t) fullShare ((dats m hO 0 c).after 3 t) from by
      unfold Dat.leavesExact; rw [liveAt0_3 m hO t]; try rfl, after0_3]
        rw [show (dats m hO 0 c).leavesExact 4 t = owns (c : Thread nD τ) (ms0_4 m hO t) fullShare ((dats m hO 0 c).after 4 t) from by
      unfold Dat.leavesExact; rw [liveAt0_4 m hO t]; try rfl, after0_4]
        rw [show (dats m hO 0 c).leavesExact 5 t = owns (c : Thread nD τ) (ms0_5 m hO t) fullShare ((dats m hO 0 c).after 5 t) from by
      unfold Dat.leavesExact; rw [liveAt0_5 m hO t]; try rfl, after0_5]
        rw [show (dats m hO 0 c).leavesExact 6 t = owns (c : Thread nD τ) (ms0_6 m hO t) fullShare ((dats m hO 0 c).after 6 t) from by
      unfold Dat.leavesExact; rw [liveAt0_6 m hO t]; try rfl, after0_6]
        rw [show (dats m hO 0 c).leavesExact 7 t = owns (c : Thread nD τ) (ms0_7 m hO t) fullShare ((dats m hO 0 c).after 7 t) from by
      unfold Dat.leavesExact; rw [liveAt0_7 m hO t]; try rfl, after0_7]
        rw [Dat.leavesExact_idle (dats m hO 0 c) 8 t (idleAt0_8_A m hO t ((hcond0_0 t).mpr h0) (fun h => h2 ((hcond0_2 t).mp h))) (noFlush0_8_A m hO t ((hcond0_0 t).mpr h0) (fun h => h2 ((hcond0_2 t).mp h)))]
        by_cases hz : t.val = 0
        · rw [PhiS_castSucc m hO c t, PhiS_zero m hO c _ _ hz, PhiT0_eq, PhiA0_eq]
          rw [outsAt0_A m hO c t h0 h1 h2]
          unfold sout0_A_0; (try dsimp only)
          iintro ⟨⟨⟨HS0, Hg⟩, ⟨HT0, HT1⟩⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
          iapply ((kernelRun0_A c (grid0.coords t) _ _ _ _ _ _ _ _ _ _ _ _ _ _ _ _ _ _ _ _ ((hcond0_0 t).mpr h0) (fun h => h2 ((hcond0_2 t).mp h)) (iblk m hO c 0 t) (iblk m hO c 1 t) (iblk m hO c 2 t) (iblk m hO c 3 t) (iblk m hO c 4 t) (iblk m hO c 5 t) (iblk m hO c 6 t) (iblk m hO c 7 t) (tbl m 0) (tbl m 1) h1).2.2 _ Set.univ _)
          isplitl [H0]; · iexact H0
          isplitl [H1]; · iexact H1
          isplitl [H2]; · iexact H2
          isplitl [H3]; · iexact H3
          isplitl [H4]; · iexact H4
          isplitl [H5]; · iexact H5
          isplitl [H6]; · iexact H6
          isplitl [H7]; · iexact H7
          isplitl [H8]; · iexact H8
          isplitl [HS0]; · iexact HS0
          isplitl [HT0]; · iexact HT0
          isplitl [HT1]; · iexact HT1
          iintro ⟨H0, H1, H2, H3, H4, H5, H6, H7, H8, ⟨%es0, HS0⟩, HT0, HT1⟩
          isplitl [HS0 Hg HT0 HT1]
          · isplitl [HS0 Hg]
            · isplitl [HS0]
              · unfold owns; iexists _; isplitr
                swap; · iexact HS0
                ipureintro; exact View.read_writes_of_cover _ _ _ _ _ (scover0_A_0 c _ _ _ _ _ _ _ _ _ _ _ _ _ _ _ _ _ _ _ _ _ _ _ _ _ _ _ _ _ _ _ _ _ _)
              iexact Hg
            isplitl [HT0]; · iexact HT0
            iexact HT1
          isplitl [Ho]; · iexact Ho
          isplitl [H0]; · iexact H0
          isplitl [H1]; · iexact H1
          isplitl [H2]; · iexact H2
          isplitl [H3]; · iexact H3
          isplitl [H4]; · iexact H4
          isplitl [H5]; · iexact H5
          isplitl [H6]; · iexact H6
          isplitl [H7]; · iexact H7
          iexists _; iexact H8
        · rw [PhiS_castSucc m hO c t, PhiS_pos m hO c _ _ hz, PhiT0_eq]
          rw [outsAt0_A m hO c t h0 h1 h2]
          unfold sout0_A_0; (try dsimp only)
          iintro ⟨⟨⟨HS0, Hg⟩, ⟨HT0, HT1⟩⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
          iapply ((kernelRun0_A c (grid0.coords t) _ _ _ _ _ _ _ _ _ _ _ _ _ _ _ _ _ _ _ _ ((hcond0_0 t).mpr h0) (fun h => h2 ((hcond0_2 t).mp h)) (iblk m hO c 0 t) (iblk m hO c 1 t) (iblk m hO c 2 t) (iblk m hO c 3 t) (iblk m hO c 4 t) (iblk m hO c 5 t) (iblk m hO c 6 t) (iblk m hO c 7 t) (tbl m 0) (tbl m 1) h1).2.2 _ Set.univ _)
          isplitl [H0]; · iexact H0
          isplitl [H1]; · iexact H1
          isplitl [H2]; · iexact H2
          isplitl [H3]; · iexact H3
          isplitl [H4]; · iexact H4
          isplitl [H5]; · iexact H5
          isplitl [H6]; · iexact H6
          isplitl [H7]; · iexact H7
          isplitl [H8]; · iexact H8
          isplitl [HS0]; · iexists _; iexact HS0
          isplitl [HT0]; · iexact HT0
          isplitl [HT1]; · iexact HT1
          iintro ⟨H0, H1, H2, H3, H4, H5, H6, H7, H8, ⟨%es0, HS0⟩, HT0, HT1⟩
          isplitl [HS0 Hg HT0 HT1]
          · isplitl [HS0 Hg]
            · isplitl [HS0]
              · unfold owns; iexists _; isplitr
                swap; · iexact HS0
                ipureintro; exact View.read_writes_of_cover _ _ _ _ _ (scover0_A_0 c _ _ _ _ _ _ _ _ _ _ _ _ _ _ _ _ _ _ _ _ _ _ _ _ _ _ _ _ _ _ _ _ _ _)
              iexact Hg
            isplitl [HT0]; · iexact HT0
            iexact HT1
          isplitl [Ho]; · iexact Ho
          isplitl [H0]; · iexact H0
          isplitl [H1]; · iexact H1
          isplitl [H2]; · iexact H2
          isplitl [H3]; · iexact H3
          isplitl [H4]; · iexact H4
          isplitl [H5]; · iexact H5
          isplitl [H6]; · iexact H6
          isplitl [H7]; · iexact H7
          iexists _; iexact H8
    · by_cases h2 : t.val % 8 = 7
      · exfalso; omega
      · rw [show (dats m hO 0 c).leavesExact 0 t = owns (c : Thread nD τ) (ms0_0 m hO t) fullShare ((dats m hO 0 c).after 0 t) from by
      unfold Dat.leavesExact; rw [liveAt0_0 m hO t]; try rfl, after0_0]
        rw [show (dats m hO 0 c).leavesExact 1 t = owns (c : Thread nD τ) (ms0_1 m hO t) fullShare ((dats m hO 0 c).after 1 t) from by
      unfold Dat.leavesExact; rw [liveAt0_1 m hO t]; try rfl, after0_1]
        rw [show (dats m hO 0 c).leavesExact 2 t = owns (c : Thread nD τ) (ms0_2 m hO t) fullShare ((dats m hO 0 c).after 2 t) from by
      unfold Dat.leavesExact; rw [liveAt0_2 m hO t]; try rfl, after0_2]
        rw [show (dats m hO 0 c).leavesExact 3 t = owns (c : Thread nD τ) (ms0_3 m hO t) fullShare ((dats m hO 0 c).after 3 t) from by
      unfold Dat.leavesExact; rw [liveAt0_3 m hO t]; try rfl, after0_3]
        rw [show (dats m hO 0 c).leavesExact 4 t = owns (c : Thread nD τ) (ms0_4 m hO t) fullShare ((dats m hO 0 c).after 4 t) from by
      unfold Dat.leavesExact; rw [liveAt0_4 m hO t]; try rfl, after0_4]
        rw [show (dats m hO 0 c).leavesExact 5 t = owns (c : Thread nD τ) (ms0_5 m hO t) fullShare ((dats m hO 0 c).after 5 t) from by
      unfold Dat.leavesExact; rw [liveAt0_5 m hO t]; try rfl, after0_5]
        rw [show (dats m hO 0 c).leavesExact 6 t = owns (c : Thread nD τ) (ms0_6 m hO t) fullShare ((dats m hO 0 c).after 6 t) from by
      unfold Dat.leavesExact; rw [liveAt0_6 m hO t]; try rfl, after0_6]
        rw [show (dats m hO 0 c).leavesExact 7 t = owns (c : Thread nD τ) (ms0_7 m hO t) fullShare ((dats m hO 0 c).after 7 t) from by
      unfold Dat.leavesExact; rw [liveAt0_7 m hO t]; try rfl, after0_7]
        rw [Dat.leavesExact_idle (dats m hO 0 c) 8 t (idleAt0_8_B m hO t ((hcond0_0 t).mpr h0) (fun h => h2 ((hcond0_2 t).mp h))) (noFlush0_8_B m hO t ((hcond0_0 t).mpr h0) (fun h => h2 ((hcond0_2 t).mp h)))]
        by_cases hz : t.val = 0
        · rw [PhiS_castSucc m hO c t, PhiS_zero m hO c _ _ hz, PhiT0_eq, PhiA0_eq]
          rw [outsAt0_B m hO c t h0 h1 h2]
          unfold sout0_B_0; (try dsimp only)
          iintro ⟨⟨⟨HS0, Hg⟩, ⟨HT0, HT1⟩⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
          iapply ((kernelRun0_B c (grid0.coords t) _ _ _ _ _ _ _ _ _ _ _ _ _ _ _ _ _ _ _ _ ((hcond0_0 t).mpr h0) (fun h => h2 ((hcond0_2 t).mp h)) (iblk m hO c 0 t) (iblk m hO c 1 t) (iblk m hO c 2 t) (iblk m hO c 3 t) (iblk m hO c 4 t) (iblk m hO c 5 t) (iblk m hO c 6 t) (iblk m hO c 7 t) (tbl m 0) (tbl m 1) h1).2.2 _ Set.univ _)
          isplitl [H0]; · iexact H0
          isplitl [H1]; · iexact H1
          isplitl [H2]; · iexact H2
          isplitl [H3]; · iexact H3
          isplitl [H4]; · iexact H4
          isplitl [H5]; · iexact H5
          isplitl [H6]; · iexact H6
          isplitl [H7]; · iexact H7
          isplitl [H8]; · iexact H8
          isplitl [HS0]; · iexact HS0
          isplitl [HT0]; · iexact HT0
          isplitl [HT1]; · iexact HT1
          iintro ⟨H0, H1, H2, H3, H4, H5, H6, H7, H8, ⟨%es0, HS0⟩, HT0, HT1⟩
          isplitl [HS0 Hg HT0 HT1]
          · isplitl [HS0 Hg]
            · isplitl [HS0]
              · unfold owns; iexists _; isplitr
                swap; · iexact HS0
                ipureintro; exact View.read_writes_of_cover _ _ _ _ _ (scover0_B_0 c _ _ _ _ _ _ _ _ _ _ _ _ _ _ _ _ _ _ _ _ _ _ _ _ _ _ _ _ _ _ _ _ _ _)
              iexact Hg
            isplitl [HT0]; · iexact HT0
            iexact HT1
          isplitl [Ho]; · iexact Ho
          isplitl [H0]; · iexact H0
          isplitl [H1]; · iexact H1
          isplitl [H2]; · iexact H2
          isplitl [H3]; · iexact H3
          isplitl [H4]; · iexact H4
          isplitl [H5]; · iexact H5
          isplitl [H6]; · iexact H6
          isplitl [H7]; · iexact H7
          iexists _; iexact H8
        · rw [PhiS_castSucc m hO c t, PhiS_pos m hO c _ _ hz, PhiT0_eq]
          rw [outsAt0_B m hO c t h0 h1 h2]
          unfold sout0_B_0; (try dsimp only)
          iintro ⟨⟨⟨HS0, Hg⟩, ⟨HT0, HT1⟩⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
          iapply ((kernelRun0_B c (grid0.coords t) _ _ _ _ _ _ _ _ _ _ _ _ _ _ _ _ _ _ _ _ ((hcond0_0 t).mpr h0) (fun h => h2 ((hcond0_2 t).mp h)) (iblk m hO c 0 t) (iblk m hO c 1 t) (iblk m hO c 2 t) (iblk m hO c 3 t) (iblk m hO c 4 t) (iblk m hO c 5 t) (iblk m hO c 6 t) (iblk m hO c 7 t) (tbl m 0) (tbl m 1) h1).2.2 _ Set.univ _)
          isplitl [H0]; · iexact H0
          isplitl [H1]; · iexact H1
          isplitl [H2]; · iexact H2
          isplitl [H3]; · iexact H3
          isplitl [H4]; · iexact H4
          isplitl [H5]; · iexact H5
          isplitl [H6]; · iexact H6
          isplitl [H7]; · iexact H7
          isplitl [H8]; · iexact H8
          isplitl [HS0]; · iexists _; iexact HS0
          isplitl [HT0]; · iexact HT0
          isplitl [HT1]; · iexact HT1
          iintro ⟨H0, H1, H2, H3, H4, H5, H6, H7, H8, ⟨%es0, HS0⟩, HT0, HT1⟩
          isplitl [HS0 Hg HT0 HT1]
          · isplitl [HS0 Hg]
            · isplitl [HS0]
              · unfold owns; iexists _; isplitr
                swap; · iexact HS0
                ipureintro; exact View.read_writes_of_cover _ _ _ _ _ (scover0_B_0 c _ _ _ _ _ _ _ _ _ _ _ _ _ _ _ _ _ _ _ _ _ _ _ _ _ _ _ _ _ _ _ _ _ _)
              iexact Hg
            isplitl [HT0]; · iexact HT0
            iexact HT1
          isplitl [Ho]; · iexact Ho
          isplitl [H0]; · iexact H0
          isplitl [H1]; · iexact H1
          isplitl [H2]; · iexact H2
          isplitl [H3]; · iexact H3
          isplitl [H4]; · iexact H4
          isplitl [H5]; · iexact H5
          isplitl [H6]; · iexact H6
          isplitl [H7]; · iexact H7
          iexists _; iexact H8
  · by_cases h1 : cond0_1 (grid0.coords t) (tbM0_1.view.readAt (Elt F) (Rect.unit (s := S1) ![0] S1.size inb_S1_S1_0).toLoadRect (tbl m 1) (Shape.Idx.first (numel1_S1.symm ▸ Nat.one_pos)))
    · by_cases h2 : t.val % 8 = 7
      · rw [show (dats m hO 0 c).leavesExact 0 t = owns (c : Thread nD τ) (ms0_0 m hO t) fullShare ((dats m hO 0 c).after 0 t) from by
      unfold Dat.leavesExact; rw [liveAt0_0 m hO t]; try rfl, after0_0]
        rw [show (dats m hO 0 c).leavesExact 1 t = owns (c : Thread nD τ) (ms0_1 m hO t) fullShare ((dats m hO 0 c).after 1 t) from by
      unfold Dat.leavesExact; rw [liveAt0_1 m hO t]; try rfl, after0_1]
        rw [show (dats m hO 0 c).leavesExact 2 t = owns (c : Thread nD τ) (ms0_2 m hO t) fullShare ((dats m hO 0 c).after 2 t) from by
      unfold Dat.leavesExact; rw [liveAt0_2 m hO t]; try rfl, after0_2]
        rw [show (dats m hO 0 c).leavesExact 3 t = owns (c : Thread nD τ) (ms0_3 m hO t) fullShare ((dats m hO 0 c).after 3 t) from by
      unfold Dat.leavesExact; rw [liveAt0_3 m hO t]; try rfl, after0_3]
        rw [show (dats m hO 0 c).leavesExact 4 t = owns (c : Thread nD τ) (ms0_4 m hO t) fullShare ((dats m hO 0 c).after 4 t) from by
      unfold Dat.leavesExact; rw [liveAt0_4 m hO t]; try rfl, after0_4]
        rw [show (dats m hO 0 c).leavesExact 5 t = owns (c : Thread nD τ) (ms0_5 m hO t) fullShare ((dats m hO 0 c).after 5 t) from by
      unfold Dat.leavesExact; rw [liveAt0_5 m hO t]; try rfl, after0_5]
        rw [show (dats m hO 0 c).leavesExact 6 t = owns (c : Thread nD τ) (ms0_6 m hO t) fullShare ((dats m hO 0 c).after 6 t) from by
      unfold Dat.leavesExact; rw [liveAt0_6 m hO t]; try rfl, after0_6]
        rw [show (dats m hO 0 c).leavesExact 7 t = owns (c : Thread nD τ) (ms0_7 m hO t) fullShare ((dats m hO 0 c).after 7 t) from by
      unfold Dat.leavesExact; rw [liveAt0_7 m hO t]; try rfl, after0_7]
        rw [show (dats m hO 0 c).leavesExact 8 t = owns (c : Thread nD τ) (ms0_8 m hO t) fullShare ((dats m hO 0 c).after 8 t) from by
      unfold Dat.leavesExact; rw [liveAt0_8_E m hO t (fun h => h0 ((hcond0_0 t).mp h)) ((hcond0_2 t).mpr h2)]; try rfl, after0_8]
        by_cases hz : t.val = 0
        · exfalso; have hN : t.val < 1280 := lt_of_lt_of_eq t.isLt (show (cfgM m hO).N = 1280 from N_0); omega
        · rw [PhiS_castSucc m hO c t, PhiS_pos m hO c _ _ hz, PhiT0_eq]
          rw [outsAt0_E m hO c t h0 h1 h2]
          unfold out0_E_8 sout0_E_0; (try dsimp only)
          iintro ⟨⟨⟨HS0, Hg⟩, ⟨HT0, HT1⟩⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
          iapply ((kernelRun0_E c (grid0.coords t) _ _ _ _ _ _ _ _ _ _ _ _ _ _ _ _ _ _ _ _ (fun h => h0 ((hcond0_0 t).mp h)) ((hcond0_2 t).mpr h2) (iblk m hO c 0 t) (iblk m hO c 1 t) (iblk m hO c 2 t) (iblk m hO c 3 t) (iblk m hO c 4 t) (iblk m hO c 5 t) (iblk m hO c 6 t) (iblk m hO c 7 t) (tbl m 0) (tbl m 1) _ h1).2.2 Set.univ _)
          isplitl [H0]; · iexact H0
          isplitl [H1]; · iexact H1
          isplitl [H2]; · iexact H2
          isplitl [H3]; · iexact H3
          isplitl [H4]; · iexact H4
          isplitl [H5]; · iexact H5
          isplitl [H6]; · iexact H6
          isplitl [H7]; · iexact H7
          isplitl [H8]; · iexists _; iexact H8
          isplitl [HS0]; · iexact HS0
          isplitl [HT0]; · iexact HT0
          isplitl [HT1]; · iexact HT1
          iintro ⟨H0, H1, H2, H3, H4, H5, H6, H7, ⟨%e8, H8⟩, ⟨%es0, HS0⟩, HT0, HT1⟩
          isplitl [HS0 Hg HT0 HT1]
          · isplitl [HS0 Hg]
            · isplitl [HS0]
              · unfold owns; iexists _; isplitr
                swap; · iexact HS0
                ipureintro; exact View.read_writes_of_cover _ _ _ _ _ (scover0_E_0 c _ _ _ _ _ _ _ _ _ _ _ _ _ _ _ _ _ _ _ _ _ _ _ _ _ _ _ _ _ _ _ _ _ _ _)
              iexact Hg
            isplitl [HT0]; · iexact HT0
            iexact HT1
          isplitl [Ho]; · iexact Ho
          isplitl [H0]; · iexact H0
          isplitl [H1]; · iexact H1
          isplitl [H2]; · iexact H2
          isplitl [H3]; · iexact H3
          isplitl [H4]; · iexact H4
          isplitl [H5]; · iexact H5
          isplitl [H6]; · iexact H6
          isplitl [H7]; · iexact H7
          unfold owns; iexists _; isplitr
          swap; · iexact H8
          ipureintro; exact View.read_writes_of_cover _ _ _ _ _ (cover0_E_8 c _ _ _ _ _ _ _ _ _ _ _ _ _ _ _ _ _ _ _ _ _ _ _ _ _ _ _ _ _ _ _ _ _ _ _)
      · rw [show (dats m hO 0 c).leavesExact 0 t = owns (c : Thread nD τ) (ms0_0 m hO t) fullShare ((dats m hO 0 c).after 0 t) from by
      unfold Dat.leavesExact; rw [liveAt0_0 m hO t]; try rfl, after0_0]
        rw [show (dats m hO 0 c).leavesExact 1 t = owns (c : Thread nD τ) (ms0_1 m hO t) fullShare ((dats m hO 0 c).after 1 t) from by
      unfold Dat.leavesExact; rw [liveAt0_1 m hO t]; try rfl, after0_1]
        rw [show (dats m hO 0 c).leavesExact 2 t = owns (c : Thread nD τ) (ms0_2 m hO t) fullShare ((dats m hO 0 c).after 2 t) from by
      unfold Dat.leavesExact; rw [liveAt0_2 m hO t]; try rfl, after0_2]
        rw [show (dats m hO 0 c).leavesExact 3 t = owns (c : Thread nD τ) (ms0_3 m hO t) fullShare ((dats m hO 0 c).after 3 t) from by
      unfold Dat.leavesExact; rw [liveAt0_3 m hO t]; try rfl, after0_3]
        rw [show (dats m hO 0 c).leavesExact 4 t = owns (c : Thread nD τ) (ms0_4 m hO t) fullShare ((dats m hO 0 c).after 4 t) from by
      unfold Dat.leavesExact; rw [liveAt0_4 m hO t]; try rfl, after0_4]
        rw [show (dats m hO 0 c).leavesExact 5 t = owns (c : Thread nD τ) (ms0_5 m hO t) fullShare ((dats m hO 0 c).after 5 t) from by
      unfold Dat.leavesExact; rw [liveAt0_5 m hO t]; try rfl, after0_5]
        rw [show (dats m hO 0 c).leavesExact 6 t = owns (c : Thread nD τ) (ms0_6 m hO t) fullShare ((dats m hO 0 c).after 6 t) from by
      unfold Dat.leavesExact; rw [liveAt0_6 m hO t]; try rfl, after0_6]
        rw [show (dats m hO 0 c).leavesExact 7 t = owns (c : Thread nD τ) (ms0_7 m hO t) fullShare ((dats m hO 0 c).after 7 t) from by
      unfold Dat.leavesExact; rw [liveAt0_7 m hO t]; try rfl, after0_7]
        rw [Dat.leavesExact_idle (dats m hO 0 c) 8 t (idleAt0_8_C m hO t (fun h => h0 ((hcond0_0 t).mp h)) (fun h => h2 ((hcond0_2 t).mp h))) (noFlush0_8_C m hO t (fun h => h0 ((hcond0_0 t).mp h)) (fun h => h2 ((hcond0_2 t).mp h)))]
        by_cases hz : t.val = 0
        · exfalso; have hN : t.val < 1280 := lt_of_lt_of_eq t.isLt (show (cfgM m hO).N = 1280 from N_0); omega
        · rw [PhiS_castSucc m hO c t, PhiS_pos m hO c _ _ hz, PhiT0_eq]
          rw [outsAt0_C m hO c t h0 h1 h2]
          unfold sout0_C_0; (try dsimp only)
          iintro ⟨⟨⟨HS0, Hg⟩, ⟨HT0, HT1⟩⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
          iapply ((kernelRun0_C c (grid0.coords t) _ _ _ _ _ _ _ _ _ _ _ _ _ _ _ _ _ _ _ _ (fun h => h0 ((hcond0_0 t).mp h)) (fun h => h2 ((hcond0_2 t).mp h)) (iblk m hO c 0 t) (iblk m hO c 1 t) (iblk m hO c 2 t) (iblk m hO c 3 t) (iblk m hO c 4 t) (iblk m hO c 5 t) (iblk m hO c 6 t) (iblk m hO c 7 t) (tbl m 0) (tbl m 1) _ h1).2.2 _ Set.univ _)
          isplitl [H0]; · iexact H0
          isplitl [H1]; · iexact H1
          isplitl [H2]; · iexact H2
          isplitl [H3]; · iexact H3
          isplitl [H4]; · iexact H4
          isplitl [H5]; · iexact H5
          isplitl [H6]; · iexact H6
          isplitl [H7]; · iexact H7
          isplitl [H8]; · iexact H8
          isplitl [HS0]; · iexact HS0
          isplitl [HT0]; · iexact HT0
          isplitl [HT1]; · iexact HT1
          iintro ⟨H0, H1, H2, H3, H4, H5, H6, H7, H8, ⟨%es0, HS0⟩, HT0, HT1⟩
          isplitl [HS0 Hg HT0 HT1]
          · isplitl [HS0 Hg]
            · isplitl [HS0]
              · unfold owns; iexists _; isplitr
                swap; · iexact HS0
                ipureintro; exact View.read_writes_of_cover _ _ _ _ _ (scover0_C_0 c _ _ _ _ _ _ _ _ _ _ _ _ _ _ _ _ _ _ _ _ _ _ _ _ _ _ _ _ _ _ _ _ _ _ _)
              iexact Hg
            isplitl [HT0]; · iexact HT0
            iexact HT1
          isplitl [Ho]; · iexact Ho
          isplitl [H0]; · iexact H0
          isplitl [H1]; · iexact H1
          isplitl [H2]; · iexact H2
          isplitl [H3]; · iexact H3
          isplitl [H4]; · iexact H4
          isplitl [H5]; · iexact H5
          isplitl [H6]; · iexact H6
          isplitl [H7]; · iexact H7
          iexists _; iexact H8
    · by_cases h2 : t.val % 8 = 7
      · rw [show (dats m hO 0 c).leavesExact 0 t = owns (c : Thread nD τ) (ms0_0 m hO t) fullShare ((dats m hO 0 c).after 0 t) from by
      unfold Dat.leavesExact; rw [liveAt0_0 m hO t]; try rfl, after0_0]
        rw [show (dats m hO 0 c).leavesExact 1 t = owns (c : Thread nD τ) (ms0_1 m hO t) fullShare ((dats m hO 0 c).after 1 t) from by
      unfold Dat.leavesExact; rw [liveAt0_1 m hO t]; try rfl, after0_1]
        rw [show (dats m hO 0 c).leavesExact 2 t = owns (c : Thread nD τ) (ms0_2 m hO t) fullShare ((dats m hO 0 c).after 2 t) from by
      unfold Dat.leavesExact; rw [liveAt0_2 m hO t]; try rfl, after0_2]
        rw [show (dats m hO 0 c).leavesExact 3 t = owns (c : Thread nD τ) (ms0_3 m hO t) fullShare ((dats m hO 0 c).after 3 t) from by
      unfold Dat.leavesExact; rw [liveAt0_3 m hO t]; try rfl, after0_3]
        rw [show (dats m hO 0 c).leavesExact 4 t = owns (c : Thread nD τ) (ms0_4 m hO t) fullShare ((dats m hO 0 c).after 4 t) from by
      unfold Dat.leavesExact; rw [liveAt0_4 m hO t]; try rfl, after0_4]
        rw [show (dats m hO 0 c).leavesExact 5 t = owns (c : Thread nD τ) (ms0_5 m hO t) fullShare ((dats m hO 0 c).after 5 t) from by
      unfold Dat.leavesExact; rw [liveAt0_5 m hO t]; try rfl, after0_5]
        rw [show (dats m hO 0 c).leavesExact 6 t = owns (c : Thread nD τ) (ms0_6 m hO t) fullShare ((dats m hO 0 c).after 6 t) from by
      unfold Dat.leavesExact; rw [liveAt0_6 m hO t]; try rfl, after0_6]
        rw [show (dats m hO 0 c).leavesExact 7 t = owns (c : Thread nD τ) (ms0_7 m hO t) fullShare ((dats m hO 0 c).after 7 t) from by
      unfold Dat.leavesExact; rw [liveAt0_7 m hO t]; try rfl, after0_7]
        rw [show (dats m hO 0 c).leavesExact 8 t = owns (c : Thread nD τ) (ms0_8 m hO t) fullShare ((dats m hO 0 c).after 8 t) from by
      unfold Dat.leavesExact; rw [liveAt0_8_F m hO t (fun h => h0 ((hcond0_0 t).mp h)) ((hcond0_2 t).mpr h2)]; try rfl, after0_8]
        by_cases hz : t.val = 0
        · exfalso; have hN : t.val < 1280 := lt_of_lt_of_eq t.isLt (show (cfgM m hO).N = 1280 from N_0); omega
        · rw [PhiS_castSucc m hO c t, PhiS_pos m hO c _ _ hz, PhiT0_eq]
          rw [outsAt0_F m hO c t h0 h1 h2]
          unfold out0_F_8 sout0_F_0; (try dsimp only)
          iintro ⟨⟨⟨HS0, Hg⟩, ⟨HT0, HT1⟩⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
          iapply ((kernelRun0_F c (grid0.coords t) _ _ _ _ _ _ _ _ _ _ _ _ _ _ _ _ _ _ _ _ (fun h => h0 ((hcond0_0 t).mp h)) ((hcond0_2 t).mpr h2) (iblk m hO c 0 t) (iblk m hO c 1 t) (iblk m hO c 2 t) (iblk m hO c 3 t) (iblk m hO c 4 t) (iblk m hO c 5 t) (iblk m hO c 6 t) (iblk m hO c 7 t) (tbl m 0) (tbl m 1) _ h1).2.2 Set.univ _)
          isplitl [H0]; · iexact H0
          isplitl [H1]; · iexact H1
          isplitl [H2]; · iexact H2
          isplitl [H3]; · iexact H3
          isplitl [H4]; · iexact H4
          isplitl [H5]; · iexact H5
          isplitl [H6]; · iexact H6
          isplitl [H7]; · iexact H7
          isplitl [H8]; · iexists _; iexact H8
          isplitl [HS0]; · iexact HS0
          isplitl [HT0]; · iexact HT0
          isplitl [HT1]; · iexact HT1
          iintro ⟨H0, H1, H2, H3, H4, H5, H6, H7, ⟨%e8, H8⟩, HS0, HT0, HT1⟩
          isplitl [HS0 Hg HT0 HT1]
          · isplitl [HS0 Hg]
            · isplitl [HS0]
              · iexact HS0
              iexact Hg
            isplitl [HT0]; · iexact HT0
            iexact HT1
          isplitl [Ho]; · iexact Ho
          isplitl [H0]; · iexact H0
          isplitl [H1]; · iexact H1
          isplitl [H2]; · iexact H2
          isplitl [H3]; · iexact H3
          isplitl [H4]; · iexact H4
          isplitl [H5]; · iexact H5
          isplitl [H6]; · iexact H6
          isplitl [H7]; · iexact H7
          unfold owns; iexists _; isplitr
          swap; · iexact H8
          ipureintro; exact View.read_writes_of_cover _ _ _ _ _ (cover0_F_8 c _ _ _ _ _ _ _ _ _ _ _ _ _ _ _ _ _ _ _ _ _ _ _ _ _ _ _ _ _ _ _ _ _ _ _)
      · rw [show (dats m hO 0 c).leavesExact 0 t = owns (c : Thread nD τ) (ms0_0 m hO t) fullShare ((dats m hO 0 c).after 0 t) from by
      unfold Dat.leavesExact; rw [liveAt0_0 m hO t]; try rfl, after0_0]
        rw [show (dats m hO 0 c).leavesExact 1 t = owns (c : Thread nD τ) (ms0_1 m hO t) fullShare ((dats m hO 0 c).after 1 t) from by
      unfold Dat.leavesExact; rw [liveAt0_1 m hO t]; try rfl, after0_1]
        rw [show (dats m hO 0 c).leavesExact 2 t = owns (c : Thread nD τ) (ms0_2 m hO t) fullShare ((dats m hO 0 c).after 2 t) from by
      unfold Dat.leavesExact; rw [liveAt0_2 m hO t]; try rfl, after0_2]
        rw [show (dats m hO 0 c).leavesExact 3 t = owns (c : Thread nD τ) (ms0_3 m hO t) fullShare ((dats m hO 0 c).after 3 t) from by
      unfold Dat.leavesExact; rw [liveAt0_3 m hO t]; try rfl, after0_3]
        rw [show (dats m hO 0 c).leavesExact 4 t = owns (c : Thread nD τ) (ms0_4 m hO t) fullShare ((dats m hO 0 c).after 4 t) from by
      unfold Dat.leavesExact; rw [liveAt0_4 m hO t]; try rfl, after0_4]
        rw [show (dats m hO 0 c).leavesExact 5 t = owns (c : Thread nD τ) (ms0_5 m hO t) fullShare ((dats m hO 0 c).after 5 t) from by
      unfold Dat.leavesExact; rw [liveAt0_5 m hO t]; try rfl, after0_5]
        rw [show (dats m hO 0 c).leavesExact 6 t = owns (c : Thread nD τ) (ms0_6 m hO t) fullShare ((dats m hO 0 c).after 6 t) from by
      unfold Dat.leavesExact; rw [liveAt0_6 m hO t]; try rfl, after0_6]
        rw [show (dats m hO 0 c).leavesExact 7 t = owns (c : Thread nD τ) (ms0_7 m hO t) fullShare ((dats m hO 0 c).after 7 t) from by
      unfold Dat.leavesExact; rw [liveAt0_7 m hO t]; try rfl, after0_7]
        rw [Dat.leavesExact_idle (dats m hO 0 c) 8 t (idleAt0_8_D m hO t (fun h => h0 ((hcond0_0 t).mp h)) (fun h => h2 ((hcond0_2 t).mp h))) (noFlush0_8_D m hO t (fun h => h0 ((hcond0_0 t).mp h)) (fun h => h2 ((hcond0_2 t).mp h)))]
        by_cases hz : t.val = 0
        · exfalso; have hN : t.val < 1280 := lt_of_lt_of_eq t.isLt (show (cfgM m hO).N = 1280 from N_0); omega
        · rw [PhiS_castSucc m hO c t, PhiS_pos m hO c _ _ hz, PhiT0_eq]
          rw [outsAt0_D m hO c t h0 h1 h2]
          unfold sout0_D_0; (try dsimp only)
          iintro ⟨⟨⟨HS0, Hg⟩, ⟨HT0, HT1⟩⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
          iapply ((kernelRun0_D c (grid0.coords t) _ _ _ _ _ _ _ _ _ _ _ _ _ _ _ _ _ _ _ _ (fun h => h0 ((hcond0_0 t).mp h)) (fun h => h2 ((hcond0_2 t).mp h)) (iblk m hO c 0 t) (iblk m hO c 1 t) (iblk m hO c 2 t) (iblk m hO c 3 t) (iblk m hO c 4 t) (iblk m hO c 5 t) (iblk m hO c 6 t) (iblk m hO c 7 t) (tbl m 0) (tbl m 1) _ h1).2.2 _ Set.univ _)
          isplitl [H0]; · iexact H0
          isplitl [H1]; · iexact H1
          isplitl [H2]; · iexact H2
          isplitl [H3]; · iexact H3
          isplitl [H4]; · iexact H4
          isplitl [H5]; · iexact H5
          isplitl [H6]; · iexact H6
          isplitl [H7]; · iexact H7
          isplitl [H8]; · iexact H8
          isplitl [HS0]; · iexact HS0
          isplitl [HT0]; · iexact HT0
          isplitl [HT1]; · iexact HT1
          iintro ⟨H0, H1, H2, H3, H4, H5, H6, H7, H8, HS0, HT0, HT1⟩
          isplitl [HS0 Hg HT0 HT1]
          · isplitl [HS0 Hg]
            · isplitl [HS0]
              · iexact HS0
              iexact Hg
            isplitl [HT0]; · iexact HT0
            iexact HT1
          isplitl [Ho]; · iexact Ho
          isplitl [H0]; · iexact H0
          isplitl [H1]; · iexact H1
          isplitl [H2]; · iexact H2
          isplitl [H3]; · iexact H3
          isplitl [H4]; · iexact H4
          isplitl [H5]; · iexact H5
          isplitl [H6]; · iexact H6
          isplitl [H7]; · iexact H7
          iexists _; iexact H8

/-- The body table's row at point `t`'s slots is the body as `bodyAt0` spells it. -/
theorem defs₀_row (hO : Ok m) (t : Fin (cfgM m hO).N) :
    defs₀ (F := F) .tc (cfgM m hO).body ((cfgM m hO).bodyArgs t ((cfgM m hO).slots t)) = bodyAt0 (adm m hO) t := by
  unfold defs₀; rw [Defs.onTc_tc]

/-- The library's body obligation, at every point: the body's triple restated (Lib/Pipeline/FrameBody.lean `triple_restated`). -/
theorem body_obligation (hO : Ok m) (c : Dev nD) : BodyObligation (dats (F := F) m hO 0 c) (defs₀ (F := F)) Variants.none () Set.univ := fun t => by
  rw [bigSep_W0, bigSep_W0, defs₀_row m hO]
  exact triple_restated (sound_body m hO c t) rfl .rfl fun _ => .rfl

/-- What the launch hands the region (`ΦA`, the tables beside it) is the invariant before the first point. -/
theorem hin (hO : Ok m) (c : Dev nD) : iprop(Pipeline.ΦA spec0 c ∗ Pipeline.ΦT pre0 (tbl m) c) ⊢ (dats m hO 0 c).Φ 0 := by
  rw [show (dats m hO 0 c).Φ 0 = PhiS m hO c 0 (Nat.zero_le _) from rfl, PhiS_zero m hO c 0 _ rfl]
  try exact Idealize.SL.BI.Entails.refl _

/-- After any point but the first the invariant gives `ΦA` back: the carried scratch's named contents are forgotten (and the tables' halves dropped). -/
theorem Phi_out (hO : Ok m) (c : Dev nD) (t : Fin ((cfgM m hO).N + 1)) (ht : t.val ≠ 0) : (dats m hO 0 c).Φ t ⊢ Pipeline.ΦA spec0 c := by
  rw [show (dats m hO 0 c).Φ t = PhiS m hO c t.val (Nat.le_of_lt_succ t.isLt) from rfl, PhiS_pos m hO c _ _ ht, PhiA0_eq]
  iintro ⟨⟨HS0, Hg⟩, -⟩
  isplitl [HS0]
  · iexists _; iexact HS0
  iexact Hg

/-- The same after the last point. -/
theorem hout (hO : Ok m) (c : Dev nD) : (dats m hO 0 c).Φ (Fin.last (cfgM m hO).N) ⊢ Pipeline.ΦA spec0 c :=
  Phi_out m hO c _ (by rw [Fin.val_last]; have : (cfgM m hO).N = 1280 := N_0; omega)

/-! ## The run and the frame -/

-- `θ_run_frameP_track_shared`'s implicit arguments are found by unifying its conclusion with this one, which takes unfolding plain
-- definitions in a metavariable's type
set_option backward.isDefEq.respectTransparency.types false in
/-- THE LAUNCH: `run_main`'s statement, and every semaphore counter of the machine at zero at every final state. -/
theorem run_main_quiescent (hO : Ok m) : θ_run defs (onTc (τ := τ) (main (F := F))) (s₀ m ρ) (fun r => (Pipeline.FramePost (Pipeline.pin pcfgs fun _ => adm m hO) (dats m hO) 0 (V m)) r ∧ r.2.sem = fun _ => 0) :=
  Pipeline.θ_run_frameP_track_shared (Q' := _) pcfgs (fun _ => adm m hO) (dats m hO) (0 : Fin 1) launch₀0 defs₀ Variants.none m ρ main
    (hbody := fun c => (body_obligation m hO c).loose) (hq := fun _ _ _ => rfl)
    (howed := fun _ _ => rfl) (V := V m) (hmain := hmain m Variants.none) (hA := A_eq m hO) (hpf := V_pre m)
    (hin := hin m hO) (hout := hout m hO)

/-- At the compiled mesh, for any values, from any memory with zero counters: every weakly fair execution of @main on the
    TensorCores terminates, and every final state has every array of the pipeline at what the library computes from the
    proof data and every other unscoped buffer as the region found it (Lib/Pipeline/Frame.lean `FramePost`). -/
theorem run_main (hO : Ok m) : θ_run defs (onTc (τ := τ) (main (F := F))) (s₀ m ρ) (Pipeline.FramePost (Pipeline.pin pcfgs fun _ => adm m hO) (dats m hO) 0 (V m)) :=
  (θ_run defs _ _).mono (fun _ h => h.1) (run_main_quiescent m ρ hO)

/-- `frame` without the counters: the argument arrays end unchanged. -/
theorem unchanged (hO : Ok m) : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  frame_of m ρ hO (dats m hO) (A_eq m hO) (run_main m ρ hO)

/-- THE FRAME: `Cert.quiescent_KernelIdeal`'s statement (Defs.lean) at any `F` — Proof.lean cites it at `Bits`:
    `theorem Cert.Proof.claim : Cert.Claim := ⟨Cert.KernelIdeal.Gen.facts, fun m ρ _ => Cert.KernelIdeal.Gen.frame m ρ⟩`; here for every contents of the PREFETCHED TABLES, UNDER `Gen.Ok m` (the pipeline's side condition of
    them), which Proof.lean proves from the precondition: `⟨…, fun m ρ h => Cert.KernelIdeal.Gen.frame m ρ (ok_of_pre m h)⟩`. -/
theorem frame (hO : Ok m) : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7))
      ∧ r.2.sem = fun _ => 0) :=
  θ_run_and (unchanged m ρ hO) ((θ_run defs _ _).mono (fun _ h => h.2) (run_main_quiescent m ρ hO))

end Cert.KernelIdeal.Gen

end
-- ==== Proof.Moe.IdealWords.lean ====
/- The prefetched tables of `KernelIdeal`, in closed form: the first table holds the expert of each tile moved on by 32
   (the second layer's experts), the second the number of live tiles. With every tile's expert in [0, 32) each window
   whose index map reads a table stays inside its array. -/
module

public import proofs.«01_k».proof.Defs
public import proofs.«01_k».proof.Proof.Moe.IdealFrame
public import Idealize.ShloMosaic.Lib.Pipeline.ValueKit
public import Idealize.ShloMosaic.Lib.Claim
public import Idealize.ShloMosaic.Lib.Pointwise

@[expose] public section

set_option maxRecDepth 16384

noncomputable section

namespace Cert.KernelIdeal.Moe

open Idealize.ShloMosaic Idealize.ShloMosaic.TcCoe
open Cert.KernelIdeal Cert.KernelIdeal.Gen

variable {F : FTy → Type} [FloatOps F]
variable (m : (ℓ : Loc nD τ sig) → Buf (Elt F) ℓ)

/-- The experts of the tiles, as the launch memory holds them. -/
abbrev words : IVec S160 32 := m (((0 : Dev nD) : Thread nD τ).loc main_arg0)
/-- The number of live tiles. -/
abbrev nlive : IVec S1 32 := m (((0 : Dev nD) : Thread nD τ).loc main_arg1)

/-- The first table is the tiles' experts, 32 further on. -/
theorem tbl0_eq (x : S160.Idx) : tbl m 0 x = words m x + 32#32 := by
  show V m (0 : Dev nD) main_v5 x = _
  entry_read
  pointwise
  rfl

/-- The second table is the live count. -/
theorem tbl1_eq : tbl m 1 = nlive m :=
  V_main_arg1 m 0

/-- The word the index maps read off the first table at a grid point is the tile's. -/
theorem point_tile (i : grid0.Coords) :
    (Rect.unit (s := S160) ![(Scalar.indexCast (BitVec.ofNat 32 (i 0).val) : Index).toNat] S1.size (Gen.k0_off1_inb i)).point Gen.numel1_S1
      = ValueIdx.ix1 (⟨(i 0).val, (i 0).isLt⟩ : Fin 160) := by
  have h0 : (i 0).val < 160 := (i 0).isLt
  funext a
  obtain rfl : a = 0 := Subsingleton.elim _ _
  apply Fin.ext
  show (BitVec.ofNat 32 (i 0).val).toNat + 1 * 0 = (i 0).val
  rw [BitVec.toNat_ofNat]
  omega

/-- The word they read off the second is its only one. -/
theorem point_live :
    (Rect.unit (s := S1) ![0] S1.size Gen.inb_S1_S1_0).point Gen.numel1_S1 = ValueIdx.ix1 (0 : Fin 1) := by
  funext a
  obtain rfl : a = 0 := Subsingleton.elim _ _
  apply Fin.ext
  rfl

/-- Whether the tile of a grid point is live, as the index maps decide it. -/
abbrev liveBit (pf : pre0.Contents (Elt F)) (i : grid0.Coords) : BitVec 1 :=
  Scalar.cmpi .slt (BitVec.ofNat 32 (i 0).val) (pf 1 (ValueIdx.ix1 (0 : Fin 1) : S1.Idx) : BitVec 32)
/-- The tile's table word. -/
abbrev tword (pf : pre0.Contents (Elt F)) (i : grid0.Coords) : BitVec 32 :=
  pf 0 (ValueIdx.ix1 (⟨(i 0).val, (i 0).isLt⟩ : Fin 160) : S160.Idx)
/-- The hidden block of a grid point: its second coordinate, and the last block at a tile that is not live. -/
abbrev hblk (pf : pre0.Contents (Elt F)) (i : grid0.Coords) : BitVec 32 :=
  Scalar.select (liveBit pf i) (BitVec.ofNat 32 (i 1).val) 7#32

theorem at_tile (pf : pre0.Contents (Elt F)) (i : grid0.Coords) :
    pf.at 0 (Rect.unit (s := S160) ![(Scalar.indexCast (BitVec.ofNat 32 (i 0).val) : Index).toNat] S1.size (Gen.k0_off1_inb i)) Gen.numel1_S1
      = tword pf i :=
  congrArg (pf 0) (point_tile i)
theorem at_live (pf : pre0.Contents (Elt F)) :
    pf.at 1 (Rect.unit (s := S1) ![0] S1.size Gen.inb_S1_S1_0) Gen.numel1_S1 = pf 1 (ValueIdx.ix1 (0 : Fin 1) : S1.Idx) :=
  congrArg (pf 1) point_live

theorem tr1 (pf : pre0.Contents (Elt F)) (i : grid0.Coords) :
    cc0_transform_1 Gen.k0_off1_inb Gen.numel1_S1 Gen.inb_S1_S1_0 pf i = ![(tword pf i).toNat, 0, (hblk pf i).toNat] := by
  unfold hblk liveBit
  rw [← at_tile pf i, ← at_live pf]; rfl
theorem tr2 (pf : pre0.Contents (Elt F)) (i : grid0.Coords) :
    cc0_transform_2 Gen.k0_off1_inb Gen.numel1_S1 Gen.inb_S1_S1_0 pf i = ![(tword pf i).toNat, 0, (8#32 + hblk pf i).toNat] := by
  unfold hblk liveBit
  rw [← at_tile pf i, ← at_live pf]; rfl
theorem tr3 (pf : pre0.Contents (Elt F)) (i : grid0.Coords) :
    cc0_transform_3 Gen.k0_off1_inb Gen.numel1_S1 Gen.inb_S1_S1_0 pf i = ![(tword pf i).toNat, 0, (hblk pf i).toNat] := by
  unfold hblk liveBit
  rw [← at_tile pf i, ← at_live pf]; rfl
theorem tr4 (pf : pre0.Contents (Elt F)) (i : grid0.Coords) :
    cc0_transform_4 Gen.k0_off1_inb Gen.numel1_S1 Gen.inb_S1_S1_0 pf i = ![(tword pf i).toNat, 0, (8#32 + hblk pf i).toNat] := by
  unfold hblk liveBit
  rw [← at_tile pf i, ← at_live pf]; rfl
theorem tr5 (pf : pre0.Contents (Elt F)) (i : grid0.Coords) :
    cc0_transform_5 Gen.k0_off1_inb Gen.numel1_S1 Gen.inb_S1_S1_0 pf i = ![(tword pf i).toNat, (hblk pf i).toNat, 0] := by
  unfold hblk liveBit
  rw [← at_tile pf i, ← at_live pf]; rfl
theorem tr6 (pf : pre0.Contents (Elt F)) (i : grid0.Coords) :
    cc0_transform_6 Gen.k0_off1_inb Gen.numel1_S1 pf i = ![(tword pf i).toNat, 0, 0] := by
  rw [← at_tile pf i]; rfl

theorem hblk_lt (pf : pre0.Contents (Elt F)) (i : grid0.Coords) : (hblk pf i).toNat < 8 := by
  have h1 : (i 1).val < 8 := (i 1).isLt
  unfold hblk Scalar.select
  split
  · rw [BitVec.toNat_ofNat]; omega
  · decide

theorem hblk8 (pf : pre0.Contents (Elt F)) (i : grid0.Coords) : (8#32 + hblk pf i).toNat = 8 + (hblk pf i).toNat := by
  have := hblk_lt pf i
  rw [BitVec.toNat_add]
  show (8 + _) % 2 ^ 32 = _
  omega

/-- Table words below 64 keep each of the windows inside its array. -/
theorem ok_of_lt (pf : pre0.Contents (Elt F)) (h : ∀ x : S160.Idx, (pf 0 x : BitVec 32).toNat < 64) : ok0 pf := by
  refine ⟨fun i => ⟨fun a => ?_, .inl rfl⟩, fun i => ⟨fun a => ?_, .inl rfl⟩, fun i => ⟨fun a => ?_, .inl rfl⟩,
    fun i => ⟨fun a => ?_, .inl rfl⟩, fun i => ⟨fun a => ?_, .inl rfl⟩, fun i => ⟨fun a => ?_, .inl rfl⟩⟩
  · have h1 : (tword pf i).toNat < 64 := h _; have h2 := hblk_lt pf i
    rw [tr1]
    fin_cases a
    · show ((tword pf i).toNat + 1) * 1 ≤ 64; omega
    · show (0 + 1) * 2048 ≤ 2048; omega
    · show ((hblk pf i).toNat + 1) * 256 ≤ 4096; omega
  · have h1 : (tword pf i).toNat < 64 := h _; have h2 := hblk_lt pf i
    rw [tr2, hblk8]
    fin_cases a
    · show ((tword pf i).toNat + 1) * 1 ≤ 64; omega
    · show (0 + 1) * 2048 ≤ 2048; omega
    · show (8 + (hblk pf i).toNat + 1) * 256 ≤ 4096; omega
  · have h1 : (tword pf i).toNat < 64 := h _; have h2 := hblk_lt pf i
    rw [tr3]
    fin_cases a
    · show ((tword pf i).toNat + 1) * 1 ≤ 64; omega
    · show (0 + 1) * 1 ≤ 1; omega
    · show ((hblk pf i).toNat + 1) * 256 ≤ 4096; omega
  · have h1 : (tword pf i).toNat < 64 := h _; have h2 := hblk_lt pf i
    rw [tr4, hblk8]
    fin_cases a
    · show ((tword pf i).toNat + 1) * 1 ≤ 64; omega
    · show (0 + 1) * 1 ≤ 1; omega
    · show (8 + (hblk pf i).toNat + 1) * 256 ≤ 4096; omega
  · have h1 : (tword pf i).toNat < 64 := h _; have h2 := hblk_lt pf i
    rw [tr5]
    fin_cases a
    · show ((tword pf i).toNat + 1) * 1 ≤ 64; omega
    · show ((hblk pf i).toNat + 1) * 256 ≤ 2048; omega
    · show (0 + 1) * 2048 ≤ 2048; omega
  · have h1 : (tword pf i).toNat < 64 := h _
    rw [tr6]
    fin_cases a
    · show ((tword pf i).toNat + 1) * 1 ≤ 64; omega
    · show (0 + 1) * 1 ≤ 1; omega
    · show (0 + 1) * 2048 ≤ 2048; omega

/-- A tile's table word is its expert's number plus 32. -/
theorem tword_toNat (h : ∀ x, (words m x).toNat < 32) (x : S160.Idx) : (tbl m 0 x : BitVec 32).toNat = (words m x).toNat + 32 := by
  rw [tbl0_eq, BitVec.toNat_add]
  have := h x
  show (_ + 32) % 2 ^ 32 = _
  omega

/-- Experts below 32 make the tables admissible. -/
theorem ok_of_words (h : ∀ x, (words m x).toNat < 32) : Ok m :=
  ok_of_lt _ fun x => by
    have := h x
    rw [tword_toNat m h]
    omega

end Cert.KernelIdeal.Moe

end
-- ==== Proof.Moe.Routed.lean ====
/- What the two preconditions say, read at an index: every tile's expert is one of the 32, and (the stronger one) a tile
   past the live count carries slot weights that are zero. -/
module

public import proofs.«01_k».proof.Pre_routed
public import proofs.«01_k».proof.Pre_routed_padded
public import proofs.«01_k».proof.Proof.Gen.Pre_routed
public import proofs.«01_k».proof.Proof.Gen.Pre_routed_padded
public import Idealize.ShloMosaic.Lib.Claim
public import Idealize.ShloMosaic.Lib.Pointwise

@[expose] public section

noncomputable section

namespace Cert.Moe

open Idealize.ShloMosaic

theorem andi_ofBool (p q : Bool) : IntOp.andi (BitVec.ofBool p) (BitVec.ofBool q) = BitVec.ofBool (p && q) := by
  cases p <;> cases q <;> decide
theorem ofBool_eq_one (p : Bool) : (BitVec.ofBool p = 1#1) ↔ p = true := by cases p <;> decide

theorem andi_eq_one : ∀ p q : BitVec 1, IntOp.andi p q = 1#1 ↔ p = 1#1 ∧ q = 1#1 := by decide
theorem ori_eq_one : ∀ p q : BitVec 1, IntOp.ori p q = 1#1 ↔ p = 1#1 ∨ q = 1#1 := by decide

/-- Under `routed` every tile's expert is below 32. -/
theorem routed_lt {F : FTy → Type} [FloatOps F] {a0 a1 a2 a3 a4 a5 a6 a7}
    (h : Cert.Pre_routed.fn (F := F) a0 a1 a2 a3 a4 a5 a6 a7 = fun _ => 1#1) (x : Cert.Pre_routed.S160.Idx) :
    (a0 x).toNat < 32 := by
  have e := congrFun h x
  simp only [Pre_routed.fn, andi, cmpi, broadcastInDim, constantI, IntOp.cmpi, andi_ofBool, ofBool_eq_one,
    Bool.and_eq_true] at e
  obtain ⟨hge, hlt⟩ := e
  simp only [BitVec.sle, BitVec.slt, decide_eq_true_eq, BitVec.toInt, BitVec.toNat_ofNat] at hge hlt
  omega

/-- `routed_padded` at one slot of one tile: the tile's expert is below 32, and the tile is live or the slot's weight
    is zero. -/
theorem padded_at {F : FTy → Type} [FloatOps F] {a0 a1 a2 a3 a4 a5 a6 a7}
    (h : Cert.Pre_routed_padded.fn (F := F) a0 a1 a2 a3 a4 a5 a6 a7 = fun _ => 1#1) (n : Fin 160) (r : Fin 512) :
    (a0 (ValueIdx.ix1 n)).toNat < 32 ∧
      ((BitVec.ofNat 32 n.val).slt (a1 (ValueIdx.ix1 (0 : Fin 1))) = true ∨
        FloatOps.cmpf .oeq (a7 (ValueIdx.ix1 (⟨n.val * 512 + r.val, by omega⟩ : Fin 81920))) (FloatOps.ofBits .f32 0x00000000#32) = 1#1) := by
  have e := congrFun h (ValueIdx.ix2 n r)
  revert e
  pointwise [Pre_routed_padded.fn]
  intro e
  change IntOp.andi (IntOp.andi (IntOp.cmpi .sge (a0 (ValueIdx.ix1 n)) 0#32) (IntOp.cmpi .slt (a0 (ValueIdx.ix1 n)) 32#32))
    (IntOp.ori (IntOp.cmpi .slt (BitVec.ofNat 32 n.val) (a1 (ValueIdx.ix1 (0 : Fin 1))))
      (FloatOps.cmpf .oeq (a7 (ValueIdx.ix1 (⟨n.val * 512 + r.val, by omega⟩ : Fin 81920))) (FloatOps.ofBits .f32 0x00000000#32))) = 1#1 at e
  rw [andi_eq_one, andi_eq_one, ori_eq_one] at e
  obtain ⟨⟨hge, hlt⟩, hz⟩ := e
  simp only [IntOp.cmpi, ofBool_eq_one] at hge hlt hz
  refine ⟨?_, hz⟩
  simp only [BitVec.sle, BitVec.slt, decide_eq_true_eq, BitVec.toInt, BitVec.toNat_ofNat] at hge hlt
  omega

end Cert.Moe

end
-- ==== Proof.Moe.KernelFrame.lean ====
/- The frame of the kernel over float words. No operation was rewritten in the ideal program, so `Kernel` and `KernelIdeal`
   are one program at every carrier of the floats, and the frame proved of the one at any carrier is the other's. -/
module

public import proofs.«01_k».proof.Defs
public import proofs.«01_k».proof.Proof.Gen.Kernel
public import proofs.«01_k».proof.Proof.Moe.IdealWords
public import proofs.«01_k».proof.Proof.Moe.Routed

@[expose] public section

noncomputable section

namespace Cert.Moe

open Idealize.ShloMosaic Idealize.SL.Sem

variable {F : FTy → Type} [FloatOps F]

/-- The two programs' kernel bodies at their labels are the same. -/
theorem bodies_eq : Cert.Kernel.defs₀ (F := F) = Cert.KernelIdeal.defs₀ (F := F) := by
  unfold Cert.Kernel.defs₀ Cert.KernelIdeal.defs₀
  refine congrArg Defs.onTc (funext fun l => funext fun a => ?_)
  match l, a with
  | ⟨0, _⟩, (t, s) => with_unfolding_all rfl

/-- So are their body tables. -/
theorem defs_eq : Cert.Kernel.defs (F := F) = Cert.KernelIdeal.defs (F := F) :=
  congrArg (Pipeline.defs Cert.KernelIdeal.pcfgs) bodies_eq

/-- And their main functions. -/
theorem main_eq : Cert.Kernel.main (F := F) = Cert.KernelIdeal.main (F := F) := by with_unfolding_all rfl

/-- The kernel terminates, leaves its arguments and ends with its counters at zero. -/
theorem frame_kernel : Cert.quiescent_Kernel := fun m g h => by
  have := Cert.KernelIdeal.Gen.frame (F := Bits) m g (Cert.KernelIdeal.Moe.ok_of_words (F := Bits) m fun x => routed_lt (h 0) x)
  rw [← defs_eq, ← main_eq] at this
  exact this

end Cert.Moe

end
-- ==== Proof.Moe.IdealStep.lean ====
/- What one grid point of `KernelIdeal` leaves in the accumulator and in the result's staging buffer, per case. -/
module

public import proofs.«01_k».proof.Proof.Moe.IdealWords

@[expose] public section

set_option maxRecDepth 16384

noncomputable section

namespace Cert.KernelIdeal.Moe

open Idealize.ShloMosaic Idealize.ShloMosaic.TcCoe
open Cert.KernelIdeal Cert.KernelIdeal.Gen

variable {F : FTy → Type} [FloatOps F]
variable (m : (ℓ : Loc nD τ sig) → Buf (Elt F) ℓ)

/-- The tile of the point is live: the run's branch condition. -/
abbrev live (i : grid0.Coords) : Prop :=
  cond0_1 i (tbM0_1.view.readAt (Elt F) (Rect.unit (s := S1) ![0] S1.size inb_S1_S1_0).toLoadRect (tbl m 1) (Shape.Idx.first (numel1_S1.symm ▸ Nat.one_pos)))

/-- Reading the accumulator back gives what was put there. -/
theorem scratch_read (a : Vec F S512x2048 .f32) :
    View.read (Elt F) (View.whole cc0_scratch0) ((Memref.isWhole_whole cc0_scratch0).unread a) = a :=
  Memref.IsWhole.read_unread (m := Memref.whole cc0_scratch0) (Memref.isWhole_whole cc0_scratch0) a

set_option backward.isDefEq.respectTransparency false in
/-- A live tile's first point: zero, plus the block's product. -/
theorem acc_A (hO : Ok m) (c : Dev nD) (t : Fin (cfgM m hO).N) (h0 : t.val % 8 = 0) (h1 : live m (grid0.coords t)) (y : S512x2048.Idx) :
    (outsAt0 m hO c t.val t.isLt).2 y = k0_pay2 (F := F) (k0_pay4 (F := F) (iblk m hO c 0 t) (iblk m hO c 1 t) (iblk m hO c 3 t) (iblk m hO c 2 t) (iblk m hO c 4 t)) (k0_pay1 (F := F)) (iblk m hO c 5 t) y := by
  rw [outsAt0_A m hO c t h0 h1 (by omega)]
  frame_out

set_option backward.isDefEq.respectTransparency false in
/-- The first point of a tile that is not live: zero. -/
theorem acc_B (hO : Ok m) (c : Dev nD) (t : Fin (cfgM m hO).N) (h0 : t.val % 8 = 0) (h1 : ¬live m (grid0.coords t)) (y : S512x2048.Idx) :
    (outsAt0 m hO c t.val t.isLt).2 y = k0_pay1 (F := F) y := by
  rw [outsAt0_B m hO c t h0 h1 (by omega)]
  frame_out

set_option backward.isDefEq.respectTransparency false in
/-- A live tile's later point: what was there, plus the block's product. -/
theorem acc_C (hO : Ok m) (c : Dev nD) (t : Fin (cfgM m hO).N) (h0 : ¬t.val % 8 = 0) (h1 : live m (grid0.coords t)) (h2 : ¬t.val % 8 = 7) (y : S512x2048.Idx) :
    (outsAt0 m hO c t.val t.isLt).2 y = k0_pay2 (F := F) (k0_pay4 (F := F) (iblk m hO c 0 t) (iblk m hO c 1 t) (iblk m hO c 3 t) (iblk m hO c 2 t) (iblk m hO c 4 t)) (outsAt0 m hO c (t.val - 1) (Nat.lt_of_le_of_lt (Nat.sub_le _ _) t.isLt)).2 (iblk m hO c 5 t) y := by
  rw [outsAt0_C m hO c t h0 h1 h2]
  frame_out
  exact congrArg (fun a => k0_pay2 (F := F) _ a _ y) (scratch_read _)

set_option backward.isDefEq.respectTransparency false in
/-- A later point of a tile that is not live: what was there. -/
theorem acc_D (hO : Ok m) (c : Dev nD) (t : Fin (cfgM m hO).N) (h0 : ¬t.val % 8 = 0) (h1 : ¬live m (grid0.coords t)) (h2 : ¬t.val % 8 = 7) (y : S512x2048.Idx) :
    (outsAt0 m hO c t.val t.isLt).2 y = (outsAt0 m hO c (t.val - 1) (Nat.lt_of_le_of_lt (Nat.sub_le _ _) t.isLt)).2 y := by
  rw [outsAt0_D m hO c t h0 h1 h2]
  rfl

set_option backward.isDefEq.respectTransparency false in
/-- A live tile's last point accumulates as its others do. -/
theorem acc_E (hO : Ok m) (c : Dev nD) (t : Fin (cfgM m hO).N) (h0 : ¬t.val % 8 = 0) (h1 : live m (grid0.coords t)) (h2 : t.val % 8 = 7) (y : S512x2048.Idx) :
    (outsAt0 m hO c t.val t.isLt).2 y = k0_pay2 (F := F) (k0_pay4 (F := F) (iblk m hO c 0 t) (iblk m hO c 1 t) (iblk m hO c 3 t) (iblk m hO c 2 t) (iblk m hO c 4 t)) (outsAt0 m hO c (t.val - 1) (Nat.lt_of_le_of_lt (Nat.sub_le _ _) t.isLt)).2 (iblk m hO c 5 t) y := by
  rw [outsAt0_E m hO c t h0 h1 h2]
  frame_out
  exact congrArg (fun a => k0_pay2 (F := F) _ a _ y) (scratch_read _)

set_option backward.isDefEq.respectTransparency false in
/-- The last point of a tile that is not live leaves the accumulator too. -/
theorem acc_F (hO : Ok m) (c : Dev nD) (t : Fin (cfgM m hO).N) (h0 : ¬t.val % 8 = 0) (h1 : ¬live m (grid0.coords t)) (h2 : t.val % 8 = 7) (y : S512x2048.Idx) :
    (outsAt0 m hO c t.val t.isLt).2 y = (outsAt0 m hO c (t.val - 1) (Nat.lt_of_le_of_lt (Nat.sub_le _ _) t.isLt)).2 y := by
  rw [outsAt0_F m hO c t h0 h1 h2]
  rfl

set_option backward.isDefEq.respectTransparency false in
/-- A live tile's last point writes the accumulator, biased and weighted. -/
theorem out_E (hO : Ok m) (c : Dev nD) (t : Fin (cfgM m hO).N) (h0 : ¬t.val % 8 = 0) (h1 : live m (grid0.coords t)) (h2 : t.val % 8 = 7) (y : S512x2048.Idx) :
    (outsAt0 m hO c t.val t.isLt).1 y = k0_pay3 (F := F) (k0_pay2 (F := F) (k0_pay4 (F := F) (iblk m hO c 0 t) (iblk m hO c 1 t) (iblk m hO c 3 t) (iblk m hO c 2 t) (iblk m hO c 4 t)) (outsAt0 m hO c (t.val - 1) (Nat.lt_of_le_of_lt (Nat.sub_le _ _) t.isLt)).2 (iblk m hO c 5 t)) (iblk m hO c 6 t) (iblk m hO c 7 t) y := by
  rw [outsAt0_E m hO c t h0 h1 h2]
  frame_out
  exact congrArg (fun a => k0_pay3 (F := F) (k0_pay2 (F := F) _ a _) _ _ y) (scratch_read _)

set_option backward.isDefEq.respectTransparency false in
/-- So does the last point of a tile that is not live. -/
theorem out_F (hO : Ok m) (c : Dev nD) (t : Fin (cfgM m hO).N) (h0 : ¬t.val % 8 = 0) (h1 : ¬live m (grid0.coords t)) (h2 : t.val % 8 = 7) (y : S512x2048.Idx) :
    (outsAt0 m hO c t.val t.isLt).1 y = k0_pay3 (F := F) (outsAt0 m hO c (t.val - 1) (Nat.lt_of_le_of_lt (Nat.sub_le _ _) t.isLt)).2 (iblk m hO c 6 t) (iblk m hO c 7 t) y := by
  rw [outsAt0_F m hO c t h0 h1 h2]
  frame_out
  exact congrArg (fun a => k0_pay3 (F := F) a _ _ y) (scratch_read _)

end Cert.KernelIdeal.Moe

end
-- ==== Proof.Moe.Pay.lean ====
/- The kernel body's values at an index, in exact arithmetic. -/
module

public import proofs.«01_k».proof.Defs
public import proofs.«01_k».proof.Proof.Gen.KernelIdeal.Skeleton
public import Idealize.ShloMosaic.Lib.Pipeline.ValueKit
public import Idealize.ShloMosaic.Lib.Claim
public import Idealize.ShloMosaic.Lib.Pointwise

@[expose] public section

set_option maxRecDepth 16384

noncomputable section

namespace Cert.KernelIdeal.Moe

open Idealize.ShloMosaic Idealize.ShloMosaic.TcCoe
open Cert.KernelIdeal Cert.KernelIdeal.Gen

/-- The gated unit, of the gate's and the linear half's hidden values: the gate cut off at 7, the sigmoid of it scaled,
    the linear half clipped to ±7 and moved on by one. -/
def glu (g l : EReal) : EReal :=
  min g (Ideal.ofBits .f32 0x40E00000#32)
    * Ideal.div 1 (1 + Ideal.exp (0 - Ideal.ofBits .f32 0x3FD9DB23#32 * min g (Ideal.ofBits .f32 0x40E00000#32)))
    * (min (Ideal.ofBits .f32 0x40E00000#32) (max (Ideal.ofBits .f32 0xC0E00000#32) l) + 1)

/-- Hidden value `f` of slot `j` under expert `e` of the second layer. -/
def hidden (e : Fin 32) (x : FVec Ideal S81920x2048 .bf16) (w1 : FVec Ideal S2x32x2048x4096 .f32) (b1 : FVec Ideal S2x32x4096 .f32)
    (j : Fin 81920) (f : Fin 4096) : EReal :=
  ∑ k : Fin 2048, x (ValueIdx.ix2 j k) * w1 (ValueIdx.ix4 (1 : Fin 2) e k f) + b1 (ValueIdx.ix3 (1 : Fin 2) e f)

/-- Activated hidden value `f`: the gate at `f`, the linear half 2048 further on. -/
def unit (e : Fin 32) (x : FVec Ideal S81920x2048 .bf16) (w1 : FVec Ideal S2x32x2048x4096 .f32) (b1 : FVec Ideal S2x32x4096 .f32)
    (j : Fin 81920) (f : Fin 2048) : EReal :=
  glu (hidden e x w1 b1 j (⟨f.val, by omega⟩ : Fin 4096)) (hidden e x w1 b1 j (⟨2048 + f.val, by omega⟩ : Fin 4096))

/-- Column `d` of slot `j` under expert `e`, weighted. -/
def slot (e : Fin 32) (x : FVec Ideal S81920x2048 .bf16) (w1 : FVec Ideal S2x32x2048x4096 .f32) (b1 : FVec Ideal S2x32x4096 .f32)
    (w2 : FVec Ideal S2x32x2048x2048 .f32) (b2 : FVec Ideal S2x32x2048 .f32) (sw : FVec Ideal S81920 .f32)
    (j : Fin 81920) (d : Fin 2048) : EReal :=
  (∑ f : Fin 2048, unit e x w1 b1 j f * w2 (ValueIdx.ix4 (1 : Fin 2) e f d) + b2 (ValueIdx.ix3 (1 : Fin 2) e d)) * sw (ValueIdx.ix1 j)

theorem pay1_apply (r : Fin 512) (d : Fin 2048) : k0_pay1 (F := Ideal) (ValueIdx.ix2 r d) = 0 := by
  pointwise [k0_pay1]

theorem pay2_apply (a : FVec Ideal S512x256 .f32) (s : FVec Ideal S512x2048 .f32) (w : FVec Ideal S1x256x2048 .f32)
    (r : Fin 512) (d : Fin 2048) :
    k0_pay2 (F := Ideal) a s w (ValueIdx.ix2 r d) = s (ValueIdx.ix2 r d) + ∑ k : Fin 256, a (ValueIdx.ix2 r k) * w (ValueIdx.ix3 (0 : Fin 1) k d) := by
  pointwise [k0_pay2]
  rfl

theorem pay3_apply (s : FVec Ideal S512x2048 .f32) (b : FVec Ideal S1x1x2048 .f32) (v : FVec Ideal S512x1 .f32)
    (r : Fin 512) (d : Fin 2048) :
    k0_pay3 (F := Ideal) s b v (ValueIdx.ix2 r d) = (s (ValueIdx.ix2 r d) + b (ValueIdx.ix3 (0 : Fin 1) (0 : Fin 1) d)) * v (ValueIdx.ix2 r (0 : Fin 1)) := by
  pointwise [k0_pay3]
  rfl

theorem pay4_apply (x : FVec Ideal S512x2048 .bf16) (wg : FVec Ideal S1x2048x256 .f32) (bg : FVec Ideal S1x1x256 .f32)
    (wl : FVec Ideal S1x2048x256 .f32) (bl : FVec Ideal S1x1x256 .f32) (r : Fin 512) (f : Fin 256) :
    k0_pay4 (F := Ideal) x wg bg wl bl (ValueIdx.ix2 r f)
      = glu (∑ k : Fin 2048, x (ValueIdx.ix2 r k) * wg (ValueIdx.ix3 (0 : Fin 1) k f) + bg (ValueIdx.ix3 (0 : Fin 1) (0 : Fin 1) f))
          (∑ k : Fin 2048, x (ValueIdx.ix2 r k) * wl (ValueIdx.ix3 (0 : Fin 1) k f) + bl (ValueIdx.ix3 (0 : Fin 1) (0 : Fin 1) f)) := by
  pointwise [k0_pay4]
  rfl

end Cert.KernelIdeal.Moe

end
-- ==== Proof.Moe.IdealBlocks.lean ====
/- The blocks of `KernelIdeal`'s windows at a live tile's points, read at coordinates of the argument arrays: the tile's
   rows, and of its expert's weights the columns (or rows) of the point's hidden block. -/
module

public import proofs.«01_k».proof.Proof.Moe.IdealWords
public import proofs.«01_k».proof.Proof.Moe.Pay

@[expose] public section

set_option maxRecDepth 16384

noncomputable section

namespace Cert.KernelIdeal.Moe

open Idealize.ShloMosaic Idealize.ShloMosaic.TcCoe
open Cert.KernelIdeal Cert.KernelIdeal.Gen

variable (m : (ℓ : Loc nD τ sig) → Buf (Elt Ideal) ℓ)

abbrev aX : FVec Ideal S81920x2048 .bf16 := m (((0 : Dev nD) : Thread nD τ).loc main_arg2)
abbrev aW1 : FVec Ideal S2x32x2048x4096 .f32 := m (((0 : Dev nD) : Thread nD τ).loc main_arg3)
abbrev aB1 : FVec Ideal S2x32x4096 .f32 := m (((0 : Dev nD) : Thread nD τ).loc main_arg4)
abbrev aW2 : FVec Ideal S2x32x2048x2048 .f32 := m (((0 : Dev nD) : Thread nD τ).loc main_arg5)
abbrev aB2 : FVec Ideal S2x32x2048 .f32 := m (((0 : Dev nD) : Thread nD τ).loc main_arg6)
abbrev aSw : FVec Ideal S81920 .f32 := m (((0 : Dev nD) : Thread nD τ).loc main_arg7)

/-- A grid point's coordinates: its tile and its hidden block. -/
theorem coords_val : ∀ t : Fin grid0.N, (grid0.coords t 0).val = t.val / 8 ∧ (grid0.coords t 1).val = t.val % 8 := by
  decide +kernel

/-- Row `q` of the flattened weights is expert `q % 32` of layer `q / 32`. -/
theorem v0_at (q : Fin 64) (k : Fin 2048) (f : Fin 4096) :
    (V m (0 : Dev nD) main_v0 : FVec Ideal S64x2048x4096 .f32) (ValueIdx.ix3 q k f)
      = aW1 m (ValueIdx.ix4 (⟨q.val / 32, by omega⟩ : Fin 2) (⟨q.val % 32, by omega⟩ : Fin 32) k f) := by
  entry_read
  pointwise
  rfl
theorem v1_at (q : Fin 64) (k : Fin 2048) (f : Fin 2048) :
    (V m (0 : Dev nD) main_v1 : FVec Ideal S64x2048x2048 .f32) (ValueIdx.ix3 q k f)
      = aW2 m (ValueIdx.ix4 (⟨q.val / 32, by omega⟩ : Fin 2) (⟨q.val % 32, by omega⟩ : Fin 32) k f) := by
  entry_read
  pointwise
  rfl
theorem v2_at (q : Fin 64) (f : Fin 4096) :
    (V m (0 : Dev nD) main_v2 : FVec Ideal S64x1x4096 .f32) (ValueIdx.ix3 q (0 : Fin 1) f)
      = aB1 m (ValueIdx.ix3 (⟨q.val / 32, by omega⟩ : Fin 2) (⟨q.val % 32, by omega⟩ : Fin 32) f) := by
  entry_read
  pointwise
  rfl
theorem v3_at (q : Fin 64) (f : Fin 2048) :
    (V m (0 : Dev nD) main_v3 : FVec Ideal S64x1x2048 .f32) (ValueIdx.ix3 q (0 : Fin 1) f)
      = aB2 m (ValueIdx.ix3 (⟨q.val / 32, by omega⟩ : Fin 2) (⟨q.val % 32, by omega⟩ : Fin 32) f) := by
  entry_read
  pointwise
  rfl
theorem v6_at (q : Fin 81920) :
    (V m (0 : Dev nD) main_v6 : FVec Ideal S81920x1 .f32) (ValueIdx.ix2 q (0 : Fin 1)) = aSw m (ValueIdx.ix1 q) := by
  entry_read
  pointwise
  rfl

variable (hO : Ok m)

/-- The tile's rows. -/
theorem blk0 (t : Fin (cfgM m hO).N) (n : Fin 160) (hn : t.val / 8 = n.val) (r : Fin 512) (k : Fin 2048) :
    (iblk m hO (0 : Dev nD) 0 t : FVec Ideal S512x2048 .bf16) (ValueIdx.ix2 r k)
      = aX m (ValueIdx.ix2 (⟨n.val * 512 + r.val, by omega⟩ : Fin 81920) k) := by
  show V m (0 : Dev nD) main_arg2 ((((cfgM m hO).win 0).blk t).view.emb (ValueIdx.ix2 r k)) = _
  rw [V_main_arg2]
  refine congrArg (aX m) (funext fun a => Fin.ext ?_)
  have hc := (coords_val t).1
  fin_cases a
  · show (BitVec.ofNat 32 (grid0.coords t 0).val).toNat * 512 + 1 * r.val = n.val * 512 + r.val
    rw [BitVec.toNat_ofNat]
    omega
  · show 0 * 2048 + 1 * k.val = k.val
    omega

set_option maxHeartbeats 1600000 in
/-- The gate's columns of the point's block. -/
theorem blk1 (t : Fin (cfgM m hO).N) (q : Fin 64) (hq : (tword (tbl m) (grid0.coords t)).toNat = q.val) (s : Fin 8) (hs : (hblk (tbl m) (grid0.coords t)).toNat = s.val) (k : Fin 2048) (f : Fin 256) :
    (iblk m hO (0 : Dev nD) 1 t : FVec Ideal S1x2048x256 .f32) (ValueIdx.ix3 (0 : Fin 1) k f)
      = (V m (0 : Dev nD) main_v0 : FVec Ideal S64x2048x4096 .f32) (ValueIdx.ix3 q k (⟨s.val * 256 + f.val, by omega⟩ : Fin 4096)) := by
  show V m (0 : Dev nD) main_v0 ((((cfgM m hO).win 1).blk t).view.emb (ValueIdx.ix3 (0 : Fin 1) k f)) = _
  refine congrArg (V m (0 : Dev nD) main_v0) (funext fun a => Fin.ext ?_)
  have e := tr1 (tbl m) (grid0.coords t)
  fin_cases a
  · refine (congrArg (fun z : ℕ => z * 1 + 1 * 0) (congrFun e 0)).trans ?_
    show (tword (tbl m) (grid0.coords t)).toNat * 1 + 1 * 0 = q.val
    rw [hq]; omega
  · refine (congrArg (fun z : ℕ => z * 2048 + 1 * k.val) (congrFun e 1)).trans ?_
    show 0 * 2048 + 1 * k.val = k.val
    omega
  · refine (congrArg (fun z : ℕ => z * 256 + 1 * f.val) (congrFun e 2)).trans ?_
    show (hblk (tbl m) (grid0.coords t)).toNat * 256 + 1 * f.val = s.val * 256 + f.val
    rw [hs]; omega

set_option maxHeartbeats 1600000 in
/-- The linear half's columns. -/
theorem blk2 (t : Fin (cfgM m hO).N) (q : Fin 64) (hq : (tword (tbl m) (grid0.coords t)).toNat = q.val) (s : Fin 8) (hs : (hblk (tbl m) (grid0.coords t)).toNat = s.val) (k : Fin 2048) (f : Fin 256) :
    (iblk m hO (0 : Dev nD) 2 t : FVec Ideal S1x2048x256 .f32) (ValueIdx.ix3 (0 : Fin 1) k f)
      = (V m (0 : Dev nD) main_v0 : FVec Ideal S64x2048x4096 .f32) (ValueIdx.ix3 q k (⟨2048 + (s.val * 256 + f.val), by omega⟩ : Fin 4096)) := by
  show V m (0 : Dev nD) main_v0 ((((cfgM m hO).win 2).blk t).view.emb (ValueIdx.ix3 (0 : Fin 1) k f)) = _
  refine congrArg (V m (0 : Dev nD) main_v0) (funext fun a => Fin.ext ?_)
  have e := tr2 (tbl m) (grid0.coords t)
  fin_cases a
  · refine (congrArg (fun z : ℕ => z * 1 + 1 * 0) (congrFun e 0)).trans ?_
    show (tword (tbl m) (grid0.coords t)).toNat * 1 + 1 * 0 = q.val
    rw [hq]; omega
  · refine (congrArg (fun z : ℕ => z * 2048 + 1 * k.val) (congrFun e 1)).trans ?_
    show 0 * 2048 + 1 * k.val = k.val
    omega
  · refine (congrArg (fun z : ℕ => z * 256 + 1 * f.val) (congrFun e 2)).trans ?_
    show (8#32 + hblk (tbl m) (grid0.coords t)).toNat * 256 + 1 * f.val = 2048 + (s.val * 256 + f.val)
    rw [hblk8, hs]; omega

set_option maxHeartbeats 1600000 in
/-- The gate's bias. -/
theorem blk3 (t : Fin (cfgM m hO).N) (q : Fin 64) (hq : (tword (tbl m) (grid0.coords t)).toNat = q.val) (s : Fin 8) (hs : (hblk (tbl m) (grid0.coords t)).toNat = s.val) (f : Fin 256) :
    (iblk m hO (0 : Dev nD) 3 t : FVec Ideal S1x1x256 .f32) (ValueIdx.ix3 (0 : Fin 1) (0 : Fin 1) f)
      = (V m (0 : Dev nD) main_v2 : FVec Ideal S64x1x4096 .f32) (ValueIdx.ix3 q (0 : Fin 1) (⟨s.val * 256 + f.val, by omega⟩ : Fin 4096)) := by
  show V m (0 : Dev nD) main_v2 ((((cfgM m hO).win 3).blk t).view.emb (ValueIdx.ix3 (0 : Fin 1) (0 : Fin 1) f)) = _
  refine congrArg (V m (0 : Dev nD) main_v2) (funext fun a => Fin.ext ?_)
  have e := tr3 (tbl m) (grid0.coords t)
  fin_cases a
  · refine (congrArg (fun z : ℕ => z * 1 + 1 * 0) (congrFun e 0)).trans ?_
    show (tword (tbl m) (grid0.coords t)).toNat * 1 + 1 * 0 = q.val
    rw [hq]; omega
  · refine (congrArg (fun z : ℕ => z * 1 + 1 * 0) (congrFun e 1)).trans ?_
    show 0 * 1 + 1 * 0 = 0
    omega
  · refine (congrArg (fun z : ℕ => z * 256 + 1 * f.val) (congrFun e 2)).trans ?_
    show (hblk (tbl m) (grid0.coords t)).toNat * 256 + 1 * f.val = s.val * 256 + f.val
    rw [hs]; omega

set_option maxHeartbeats 1600000 in
/-- The linear half's bias. -/
theorem blk4 (t : Fin (cfgM m hO).N) (q : Fin 64) (hq : (tword (tbl m) (grid0.coords t)).toNat = q.val) (s : Fin 8) (hs : (hblk (tbl m) (grid0.coords t)).toNat = s.val) (f : Fin 256) :
    (iblk m hO (0 : Dev nD) 4 t : FVec Ideal S1x1x256 .f32) (ValueIdx.ix3 (0 : Fin 1) (0 : Fin 1) f)
      = (V m (0 : Dev nD) main_v2 : FVec Ideal S64x1x4096 .f32) (ValueIdx.ix3 q (0 : Fin 1) (⟨2048 + (s.val * 256 + f.val), by omega⟩ : Fin 4096)) := by
  show V m (0 : Dev nD) main_v2 ((((cfgM m hO).win 4).blk t).view.emb (ValueIdx.ix3 (0 : Fin 1) (0 : Fin 1) f)) = _
  refine congrArg (V m (0 : Dev nD) main_v2) (funext fun a => Fin.ext ?_)
  have e := tr4 (tbl m) (grid0.coords t)
  fin_cases a
  · refine (congrArg (fun z : ℕ => z * 1 + 1 * 0) (congrFun e 0)).trans ?_
    show (tword (tbl m) (grid0.coords t)).toNat * 1 + 1 * 0 = q.val
    rw [hq]; omega
  · refine (congrArg (fun z : ℕ => z * 1 + 1 * 0) (congrFun e 1)).trans ?_
    show 0 * 1 + 1 * 0 = 0
    omega
  · refine (congrArg (fun z : ℕ => z * 256 + 1 * f.val) (congrFun e 2)).trans ?_
    show (8#32 + hblk (tbl m) (grid0.coords t)).toNat * 256 + 1 * f.val = 2048 + (s.val * 256 + f.val)
    rw [hblk8, hs]; omega

set_option maxHeartbeats 1600000 in
/-- The down-projection's rows. -/
theorem blk5 (t : Fin (cfgM m hO).N) (q : Fin 64) (hq : (tword (tbl m) (grid0.coords t)).toNat = q.val) (s : Fin 8) (hs : (hblk (tbl m) (grid0.coords t)).toNat = s.val) (f : Fin 256) (d : Fin 2048) :
    (iblk m hO (0 : Dev nD) 5 t : FVec Ideal S1x256x2048 .f32) (ValueIdx.ix3 (0 : Fin 1) f d)
      = (V m (0 : Dev nD) main_v1 : FVec Ideal S64x2048x2048 .f32) (ValueIdx.ix3 q (⟨s.val * 256 + f.val, by omega⟩ : Fin 2048) d) := by
  show V m (0 : Dev nD) main_v1 ((((cfgM m hO).win 5).blk t).view.emb (ValueIdx.ix3 (0 : Fin 1) f d)) = _
  refine congrArg (V m (0 : Dev nD) main_v1) (funext fun a => Fin.ext ?_)
  have e := tr5 (tbl m) (grid0.coords t)
  fin_cases a
  · refine (congrArg (fun z : ℕ => z * 1 + 1 * 0) (congrFun e 0)).trans ?_
    show (tword (tbl m) (grid0.coords t)).toNat * 1 + 1 * 0 = q.val
    rw [hq]; omega
  · refine (congrArg (fun z : ℕ => z * 256 + 1 * f.val) (congrFun e 1)).trans ?_
    show (hblk (tbl m) (grid0.coords t)).toNat * 256 + 1 * f.val = s.val * 256 + f.val
    rw [hs]; omega
  · refine (congrArg (fun z : ℕ => z * 2048 + 1 * d.val) (congrFun e 2)).trans ?_
    show 0 * 2048 + 1 * d.val = d.val
    omega

set_option maxHeartbeats 1600000 in
/-- The down-projection's bias. -/
theorem blk6 (t : Fin (cfgM m hO).N) (q : Fin 64) (hq : (tword (tbl m) (grid0.coords t)).toNat = q.val) (d : Fin 2048) :
    (iblk m hO (0 : Dev nD) 6 t : FVec Ideal S1x1x2048 .f32) (ValueIdx.ix3 (0 : Fin 1) (0 : Fin 1) d)
      = (V m (0 : Dev nD) main_v3 : FVec Ideal S64x1x2048 .f32) (ValueIdx.ix3 q (0 : Fin 1) d) := by
  show V m (0 : Dev nD) main_v3 ((((cfgM m hO).win 6).blk t).view.emb (ValueIdx.ix3 (0 : Fin 1) (0 : Fin 1) d)) = _
  refine congrArg (V m (0 : Dev nD) main_v3) (funext fun a => Fin.ext ?_)
  have e := tr6 (tbl m) (grid0.coords t)
  fin_cases a
  · refine (congrArg (fun z : ℕ => z * 1 + 1 * 0) (congrFun e 0)).trans ?_
    show (tword (tbl m) (grid0.coords t)).toNat * 1 + 1 * 0 = q.val
    rw [hq]; omega
  · refine (congrArg (fun z : ℕ => z * 1 + 1 * 0) (congrFun e 1)).trans ?_
    show 0 * 1 + 1 * 0 = 0
    omega
  · refine (congrArg (fun z : ℕ => z * 2048 + 1 * d.val) (congrFun e 2)).trans ?_
    show 0 * 2048 + 1 * d.val = d.val
    omega

/-- The slots' weights. -/
theorem blk7 (t : Fin (cfgM m hO).N) (n : Fin 160) (hn : t.val / 8 = n.val) (r : Fin 512) :
    (iblk m hO (0 : Dev nD) 7 t : FVec Ideal S512x1 .f32) (ValueIdx.ix2 r (0 : Fin 1))
      = aSw m (ValueIdx.ix1 (⟨n.val * 512 + r.val, by omega⟩ : Fin 81920)) := by
  rw [← v6_at]
  show V m (0 : Dev nD) main_v6 ((((cfgM m hO).win 7).blk t).view.emb (ValueIdx.ix2 r (0 : Fin 1))) = _
  refine congrArg (V m (0 : Dev nD) main_v6) (funext fun a => Fin.ext ?_)
  have hc := (coords_val t).1
  fin_cases a
  · show (BitVec.ofNat 32 (grid0.coords t 0).val).toNat * 512 + 1 * r.val = n.val * 512 + r.val
    rw [BitVec.toNat_ofNat]
    omega
  · rfl

/-- At expert `e` of the second layer the flattened row is `e + 32`. -/
theorem layer_row (e : Fin 32) : (⟨(e.val + 32) / 32, by omega⟩ : Fin 2) = 1 ∧ (⟨(e.val + 32) % 32, by omega⟩ : Fin 32) = e :=
  ⟨Fin.ext (by show (e.val + 32) / 32 = 1; omega), Fin.ext (by show (e.val + 32) % 32 = e.val; omega)⟩

end Cert.KernelIdeal.Moe

end
-- ==== Proof.Moe.IdealAcc.lean ====
/- The accumulator of `KernelIdeal` over a tile's eight points, in exact arithmetic, and what the last of them writes: at
   a live tile the experts' formula `slot`, at a tile past the live count the weighted bias alone. -/
module

public import proofs.«01_k».proof.Proof.Moe.IdealStep
public import proofs.«01_k».proof.Proof.Moe.IdealBlocks

@[expose] public section

set_option maxRecDepth 16384

noncomputable section

namespace Cert.KernelIdeal.Moe

open Idealize.ShloMosaic Idealize.ShloMosaic.TcCoe
open Cert.KernelIdeal Cert.KernelIdeal.Gen

theorem ne_zero_iff : ∀ b : BitVec 1, Scalar.cmpi .ne (Scalar.extui b : BitVec 32) 0#32 = 1#1 ↔ b = 1#1 := by decide

section Live
variable {F : FTy → Type} [FloatOps F]
variable (m : (ℓ : Loc nD τ sig) → Buf (Elt F) ℓ)

/-- The branch condition is the one the index maps decide by. -/
theorem live_iff (i : grid0.Coords) : live m i ↔ liveBit (tbl m) i = 1#1 := by
  have e : tbM0_1.view.readAt (Elt F) (Rect.unit (s := S1) ![0] S1.size inb_S1_S1_0).toLoadRect (tbl m 1) (Shape.Idx.first (numel1_S1.symm ▸ Nat.one_pos))
      = (tbl m 1 (ValueIdx.ix1 (0 : Fin 1) : S1.Idx) : BitVec 32) :=
    congrArg (tbl m 1) point_live
  show cond0_1 i _ ↔ _
  rw [e]
  exact ne_zero_iff _

/-- It compares the tile's number with the live count. -/
theorem live_slt (i : grid0.Coords) :
    live m i ↔ (BitVec.ofNat 32 (i 0).val).slt (nlive m (ValueIdx.ix1 (0 : Fin 1))) = true := by
  rw [live_iff]
  unfold liveBit
  rw [tbl1_eq]
  show BitVec.ofBool (BitVec.slt (BitVec.ofNat 32 (i 0).val) (nlive m (ValueIdx.ix1 (0 : Fin 1)))) = 1#1 ↔ _
  generalize BitVec.slt _ _ = b
  cases b <;> decide

/-- At a live tile's points the hidden block is the second coordinate. -/
theorem hblk_live (i : grid0.Coords) (h : live m i) : (hblk (tbl m) i).toNat = (i 1).val := by
  have h1 : (i 1).val < 8 := (i 1).isLt
  have := (live_iff m i).mp h
  unfold hblk
  rw [this]
  show (BitVec.ofNat 32 (i 1).val).toNat = _
  rw [BitVec.toNat_ofNat]
  omega
end Live

variable (m : (ℓ : Loc nD τ sig) → Buf (Elt Ideal) ℓ) (hO : Ok m)

/-- Tile `n` is live. -/
def Live (n : Fin 160) : Prop := (BitVec.ofNat 32 n.val).slt (nlive m (ValueIdx.ix1 (0 : Fin 1))) = true

theorem live_tile (t : Fin grid0.N) (n : Fin 160) (hn : t.val / 8 = n.val) : live m (grid0.coords t) ↔ Live m n := by
  rw [live_slt, (coords_val t).1, hn]; rfl

/-- A slot's row of the array. -/
abbrev srow (n : Fin 160) (r : Fin 512) : Fin 81920 := ⟨n.val * 512 + r.val, by omega⟩

/-- What the point of hidden block `s` adds to the accumulator at `(r, d)` of tile `n` under expert `e`. -/
def part (e : Fin 32) (n : Fin 160) (r : Fin 512) (d : Fin 2048) (s : Fin 8) : EReal :=
  ∑ k : Fin 256, unit e (aX m) (aW1 m) (aB1 m) (srow n r) (⟨s.val * 256 + k.val, by omega⟩ : Fin 2048)
    * aW2 m (ValueIdx.ix4 (1 : Fin 2) e (⟨s.val * 256 + k.val, by omega⟩ : Fin 2048) d)

/-- A live tile's expert's row of the flattened weights. -/
theorem tword_tile (hw : ∀ x, (words m x).toNat < 32) (t : Fin grid0.N) (n : Fin 160) (hn : t.val / 8 = n.val) :
    (tword (tbl m) (grid0.coords t)).toNat = (words m (ValueIdx.ix1 n)).toNat + 32 := by
  rw [tword_toNat m hw]
  have : (⟨(grid0.coords t 0).val, (grid0.coords t 0).isLt⟩ : Fin 160) = n := Fin.ext ((coords_val t).1.trans hn)
  rw [this]

section Tile
variable (hw : ∀ x, (words m x).toNat < 32) (n : Fin 160) (e : Fin 32) (he : (words m (ValueIdx.ix1 n)).toNat = e.val)

include hw he in
theorem v_rows (t : Fin grid0.N) (hn : t.val / 8 = n.val) :
    (tword (tbl m) (grid0.coords t)).toNat = (⟨e.val + 32, by omega⟩ : Fin 64).val := by
  rw [tword_tile m hw t n hn, he]

include hw he in
/-- The gate and linear columns of one point. -/
theorem act_point (t : Fin (cfgM m hO).N) (hn : t.val / 8 = n.val) (hl : live m (grid0.coords t)) (s : Fin 8) (hs : t.val % 8 = s.val)
    (r : Fin 512) (f : Fin 256) :
    k0_pay4 (F := Ideal) (iblk m hO 0 0 t) (iblk m hO 0 1 t) (iblk m hO 0 3 t) (iblk m hO 0 2 t) (iblk m hO 0 4 t) (ValueIdx.ix2 r f)
      = unit e (aX m) (aW1 m) (aB1 m) (srow n r) (⟨s.val * 256 + f.val, by omega⟩ : Fin 2048) := by
  have hq := v_rows m hw n e he t hn
  have hb : (hblk (tbl m) (grid0.coords t)).toNat = s.val := ((hblk_live m _ hl).trans (coords_val t).2).trans hs
  have hr := layer_row e
  refine (pay4_apply _ _ _ _ _ r f).trans ?_
  unfold unit hidden
  rw [blk3 m hO t _ hq s hb, blk4 m hO t _ hq s hb, v2_at, v2_at]
  have g (k : Fin 2048) := (blk1 m hO t _ hq s hb k f).trans (v0_at m _ _ _)
  have l (k : Fin 2048) := (blk2 m hO t _ hq s hb k f).trans (v0_at m _ _ _)
  simp only [hr.1, hr.2] at g l ⊢
  simp only [blk0 m hO t n hn, g, l]

include hw he in
/-- One point's share. -/
theorem part_point (t : Fin (cfgM m hO).N) (hn : t.val / 8 = n.val) (hl : live m (grid0.coords t)) (s : Fin 8) (hs : t.val % 8 = s.val)
    (a : FVec Ideal S512x2048 .f32) (r : Fin 512) (d : Fin 2048) :
    k0_pay2 (F := Ideal) (k0_pay4 (F := Ideal) (iblk m hO 0 0 t) (iblk m hO 0 1 t) (iblk m hO 0 3 t) (iblk m hO 0 2 t) (iblk m hO 0 4 t)) a (iblk m hO 0 5 t) (ValueIdx.ix2 r d)
      = a (ValueIdx.ix2 r d) + part m e n r d s := by
  have hq := v_rows m hw n e he t hn
  have hb : (hblk (tbl m) (grid0.coords t)).toNat = s.val := ((hblk_live m _ hl).trans (coords_val t).2).trans hs
  have hr := layer_row e
  refine (pay2_apply _ _ _ r d).trans (congrArg (fun z : EReal => a (ValueIdx.ix2 r d) + z) ?_)
  unfold part
  refine Finset.sum_congr rfl fun k _ => ?_
  rw [act_point m hO hw n e he t hn hl s hs, blk5 m hO t _ hq s hb, v1_at, hr.1, hr.2]

/-- The shares of the points up to the `j`-th. -/
def upto (r : Fin 512) (d : Fin 2048) (j : ℕ) : EReal :=
  ∑ i ∈ Finset.range j, if h : i < 8 then part m e n r d ⟨i, h⟩ else 0

include hw he in
/-- A live tile's later point adds its share to what the one before it left. -/
theorem acc_step (t : Fin (cfgM m hO).N) (hn : t.val / 8 = n.val) (hl : live m (grid0.coords t)) (h0 : ¬t.val % 8 = 0) (s : Fin 8) (hs : t.val % 8 = s.val)
    (r : Fin 512) (d : Fin 2048) :
    (outsAt0 m hO 0 t.val t.isLt).2 (ValueIdx.ix2 r d)
      = (outsAt0 m hO 0 (t.val - 1) (Nat.lt_of_le_of_lt (Nat.sub_le _ _) t.isLt)).2 (ValueIdx.ix2 r d) + part m e n r d s := by
  by_cases h2 : t.val % 8 = 7
  · exact (acc_E m hO 0 t h0 hl h2 _).trans (part_point m hO hw n e he t hn hl s hs _ r d)
  · exact (acc_C m hO 0 t h0 hl h2 _).trans (part_point m hO hw n e he t hn hl s hs _ r d)

include hw he in
/-- A live tile's first point leaves its share. -/
theorem acc_first (t : Fin (cfgM m hO).N) (hn : t.val / 8 = n.val) (hl : live m (grid0.coords t)) (h0 : t.val % 8 = 0)
    (r : Fin 512) (d : Fin 2048) : (outsAt0 m hO 0 t.val t.isLt).2 (ValueIdx.ix2 r d) = 0 + part m e n r d 0 := by
  refine (acc_A m hO 0 t h0 hl _).trans ((part_point m hO hw n e he t hn hl 0 h0 _ r d).trans ?_)
  rw [pay1_apply]

include hw he in
/-- THE ACCUMULATOR AT A LIVE TILE after its point `j`: the shares of the points so far. -/
theorem acc_live (hl : Live m n) (r : Fin 512) (d : Fin 2048) : ∀ (j : ℕ) (_ : j < 8) (t : Fin (cfgM m hO).N), t.val = n.val * 8 + j →
    (outsAt0 m hO 0 t.val t.isLt).2 (ValueIdx.ix2 r d) = upto m n e r d (j + 1) := by
  intro j
  induction j with
  | zero =>
    intro hj t ht
    have hn : t.val / 8 = n.val := by omega
    refine (acc_first m hO hw n e he t hn ((live_tile m t n hn).mpr hl) (by omega) r d).trans ?_
    unfold upto
    rw [Finset.sum_range_succ, Finset.sum_range_zero, dif_pos (by decide)]
    rfl
  | succ j ih =>
    intro hj t ht
    have hn : t.val / 8 = n.val := by omega
    refine (acc_step m hO hw n e he t hn ((live_tile m t n hn).mpr hl) (by omega) ⟨j + 1, hj⟩ (by show _ = j + 1; omega) r d).trans ?_
    rw [ih (by omega) ⟨t.val - 1, Nat.lt_of_le_of_lt (Nat.sub_le _ _) t.isLt⟩ (by show t.val - 1 = _; omega)]
    unfold upto
    rw [Finset.sum_range_succ _ (j + 1), dif_pos hj]

/-- All eight shares together are the whole contraction. -/
theorem upto_eight (r : Fin 512) (d : Fin 2048) :
    upto m n e r d 8 = ∑ f : Fin 2048, unit e (aX m) (aW1 m) (aB1 m) (srow n r) f * aW2 m (ValueIdx.ix4 (1 : Fin 2) e f d) := by
  unfold upto
  rw [Finset.sum_range]
  refine (Finset.sum_congr rfl fun s _ => dif_pos s.isLt).trans ?_
  exact Fin.sum_mul_add_congr fun s k hl => rfl

include hw he in
/-- WHAT A LIVE TILE'S LAST POINT WRITES. -/
theorem out_live (hl : Live m n) (t : Fin (cfgM m hO).N) (hn : t.val / 8 = n.val) (h7 : t.val % 8 = 7) (r : Fin 512) (d : Fin 2048) :
    (outsAt0 m hO 0 t.val t.isLt).1 (ValueIdx.ix2 r d) = slot e (aX m) (aW1 m) (aB1 m) (aW2 m) (aB2 m) (aSw m) (srow n r) d := by
  have hL := (live_tile m t n hn).mpr hl
  have h0 : ¬t.val % 8 = 0 := by omega
  have hq := v_rows m hw n e he t hn
  have hr := layer_row e
  have hacc := (acc_E m hO 0 t h0 hL h7 (ValueIdx.ix2 r d)).symm.trans (acc_live m hO hw n e he hl r d 7 (by decide) t (by omega))
  have hb := (blk6 m hO t _ hq d).trans (v3_at m _ _)
  simp only [hr.1, hr.2] at hb
  refine (out_E m hO 0 t h0 hL h7 _).trans ((pay3_apply _ _ _ r d).trans ?_)
  rw [hacc, hb, upto_eight, blk7 m hO t n hn]
  rfl
end Tile

/-- What a tile that is not live writes is weighted by its slots' weights. -/
theorem out_dead (n : Fin 160) (hl : ¬Live m n) (t : Fin (cfgM m hO).N) (hn : t.val / 8 = n.val) (h7 : t.val % 8 = 7) (r : Fin 512) (d : Fin 2048)
    (hz : aSw m (ValueIdx.ix1 (srow n r)) = 0) :
    (outsAt0 m hO 0 t.val t.isLt).1 (ValueIdx.ix2 r d) = 0 := by
  have hL : ¬live m (grid0.coords t) := fun h' => hl ((live_tile m t n hn).mp h')
  refine (out_F m hO 0 t (by omega) hL h7 _).trans ((pay3_apply _ _ _ r d).trans ?_)
  rw [blk7 m hO t n hn, hz, mul_zero]

end Cert.KernelIdeal.Moe

end
-- ==== Proof.Moe.IdealValue.lean ====
/- What `KernelIdeal` leaves in its result array: every slot's row through its tile's expert, weighted. -/
module

public import proofs.«01_k».proof.Proof.Moe.IdealAcc
public import proofs.«01_k».proof.Proof.Moe.Routed

@[expose] public section

set_option maxRecDepth 16384

noncomputable section

namespace Cert.KernelIdeal.Moe

open Idealize.ShloMosaic Idealize.ShloMosaic.TcCoe Idealize.SL.Sem
open Cert.KernelIdeal Cert.KernelIdeal.Gen

variable (m : (ℓ : Loc nD τ sig) → Buf (Elt Ideal) ℓ) (hO : Ok m)

/-- A comparison with zero that holds. -/
theorem eq_zero_of_oeq (x : EReal) (h : FloatOps.cmpf (F := Ideal) (φ := .f32) .oeq x (FloatOps.ofBits .f32 0x00000000#32) = 1#1) : x = 0 := by
  by_contra hx
  have : BitVec.ofBool (decide (x = Ideal.ofBits .f32 0x00000000#32)) = 1#1 := h
  rw [Ideal.ofBits_zero, decide_eq_false hx] at this
  exact absurd this (by decide)

/-- The tiles' blocks cover the result. -/
theorem covers8 : ((cfgM m hO).win 8).Covers := by
  have p0 : 0 < 512 := by decide
  have p1 : 0 < 2048 := by decide
  refine ⟨fun a => by fin_cases a; exacts [p0, p1], fun β => ?_⟩
  have s0 : ((cfgM m hO).win 8).nblk (0 : Fin 2) = 160 := by show (81920 + 512 - 1) / 512 = 160; decide
  have s1 : ((cfgM m hO).win 8).nblk (1 : Fin 2) = 1 := by show (2048 + 2048 - 1) / 2048 = 1; decide
  have hb0 : (β (0 : Fin 2)).val < 160 := lt_of_lt_of_eq (β (0 : Fin 2)).isLt s0
  have hb1 : (β (1 : Fin 2)).val < 1 := lt_of_lt_of_eq (β (1 : Fin 2)).isLt s1
  refine ⟨⟨(β (0 : Fin 2)).val * 8 + 7, by show _ < 1280; omega⟩, (flush0_8 _ _).mpr (by show ((β (0 : Fin 2)).val * 8 + 7) % 8 = 7; omega), fun a => ⟨?_, .inl ?_⟩⟩
  · have hc := (coords_val ⟨(β (0 : Fin 2)).val * 8 + 7, by show _ < 1280; omega⟩).1
    fin_cases a
    · show (BitVec.ofNat 32 (grid0.coords ⟨(β (0 : Fin 2)).val * 8 + 7, _⟩ 0).val).toNat = (β (0 : Fin 2)).val
      rw [hc, BitVec.toNat_ofNat]
      show ((β (0 : Fin 2)).val * 8 + 7) / 8 % 2 ^ 32 = _
      omega
    · show 0 = (β (1 : Fin 2)).val
      omega
  · fin_cases a <;> rfl

/-- THE RESULT ARRAY, under what `routed_padded` says, any function `G` that reads at `(n * 512 + r, d)` as the formula. -/
theorem arr8 (hw : ∀ n : Fin 160, (words m (ValueIdx.ix1 n)).toNat < 32)
    (hz : ∀ (n : Fin 160) (r : Fin 512), Live m n ∨ aSw m (ValueIdx.ix1 (srow n r)) = 0)
    (G : FVec Ideal S81920x2048 .f32)
    (hG : ∀ (n : Fin 160) (r : Fin 512) (d : Fin 2048), G (ValueIdx.ix2 (srow n r) d)
      = slot ⟨(words m (ValueIdx.ix1 n)).toNat, hw n⟩ (aX m) (aW1 m) (aB1 m) (aW2 m) (aB2 m) (aSw m) (srow n r) d) :
    (dats m hO 0 0).arrAt 8 (cfgM m hO).N = G := by
  have hw' : ∀ x, (words m x).toNat < 32 := fun x => by
    rw [show x = ValueIdx.ix1 (x 0) from ValueIdx.eq_ix1 x]; exact hw _
  refine (dats m hO 0 0).arrAt_eq_of_covers 8 G (covers8 m hO) fun t hf y => ?_
  have h7 : t.val % 8 = 7 := (flush0_8 _ t).mp hf
  have ht : t.val < 1280 := t.isLt
  obtain ⟨n, hn⟩ : ∃ n : Fin 160, t.val / 8 = n.val := ⟨⟨t.val / 8, by omega⟩, rfl⟩
  obtain ⟨r, d, rfl⟩ : ∃ (r : Fin 512) (d : Fin 2048), y = (ValueIdx.ix2 r d : S512x2048.Idx) := ⟨y (0 : Fin 2), y (1 : Fin 2), ValueIdx.eq_ix2 (y : S512x2048.Idx)⟩
  have hemb : (((cfgM m hO).win 8).blk t).view.emb (ValueIdx.ix2 r d : S512x2048.Idx) = (ValueIdx.ix2 (srow n r) d : S81920x2048.Idx) := by
    funext a
    apply Fin.ext
    have hc := (coords_val t).1
    fin_cases a
    · show (BitVec.ofNat 32 (grid0.coords t 0).val).toNat * 512 + 1 * r.val = n.val * 512 + r.val
      rw [BitVec.toNat_ofNat]
      omega
    · show 0 * 2048 + 1 * d.val = d.val
      omega
  refine Eq.trans ?_ (congrArg G hemb).symm
  rw [hG]
  show (dats m hO 0 0).after 8 t (ValueIdx.ix2 r d) = _
  rw [after0_8]
  by_cases hl : Live m n
  · exact out_live m hO hw' n _ rfl hl t hn h7 r d
  · have h0 := (hz n r).resolve_left hl
    refine (out_dead m hO n hl t hn h7 r d h0).trans ?_
    unfold slot
    rw [h0, mul_zero]

end Cert.KernelIdeal.Moe

end
-- ==== Proof.Moe.Gather.lean ====
/- A gather of whole slabs along the leading axis, one start index per result slab, read at an index: the operand's slab
   at the start index, read as a signed integer and clamped into range. -/
module

public import Idealize.ShloMosaic.Lib.ValueIdxCore
public import Idealize.ShloMosaic.Lib.Pointwise

@[expose] public section

noncomputable section

namespace Cert.Moe

open Idealize.ShloMosaic

variable {α : Type}

/-- The dimension numbers of a gather of rank-2 slabs. -/
abbrev slabDims (N B K L : Nat)
    (wf : GatherDims.WF ⟨3, ![N, K, L]⟩ ⟨2, ![B, 1]⟩ ⟨3, ![B, K, L]⟩ [1, 2] [0] [] [0] [] 1 ![1, K, L]) :
    GatherDims ⟨3, ![N, K, L]⟩ ⟨2, ![B, 1]⟩ ⟨3, ![B, K, L]⟩ where
  offsetDims := [1, 2]
  collapsedSliceDims := [0]
  operandBatchingDims := []
  startIndicesBatchingDims := []
  startIndexMap := [0]
  indexVectorDim := 1
  sliceSizes := ![1, K, L]
  wf := wf

theorem slab_apply {N B K L w : Nat} (hN : 0 < N)
    (wf : GatherDims.WF ⟨3, ![N, K, L]⟩ ⟨2, ![B, 1]⟩ ⟨3, ![B, K, L]⟩ [1, 2] [0] [] [0] [] 1 ![1, K, L])
    (x : (⟨3, ![N, K, L]⟩ : Shape).Idx → α) (idx : IVec ⟨2, ![B, 1]⟩ w) (b : Fin B) (k : Fin K) (l : Fin L) :
    Host.gather (slabDims N B K L wf) x idx (ValueIdx.ix3 b k l)
      = x (ValueIdx.ix3 (⟨min (idx (ValueIdx.ix2 b (0 : Fin 1))).toInt.toNat (N - 1), by omega⟩ : Fin N) k l) := by
  unfold Host.gather
  congr 1
  funext a
  refine Fin.ext ?_
  show (slabDims N B K L wf).start (ValueIdx.ix3 b k l) idx a + (slabDims N B K L wf).batchCoord (ValueIdx.ix3 b k l) a
      + (slabDims N B K L wf).offCoord (ValueIdx.ix3 b k l) a = _
  rw [GatherDims.batchCoord_eq_zero _ _ _ List.not_mem_nil, Nat.add_zero]
  match a with
  | ⟨0, _⟩ =>
    show (slabDims N B K L wf).start (ValueIdx.ix3 b k l) idx 0 + (slabDims N B K L wf).offCoord (ValueIdx.ix3 b k l) 0 = _
    rw [GatherDims.offCoord_eq_zero _ _ _ (fun h => ((GatherDims.mem_sKept _ _).mp h).1 (List.mem_singleton.mpr rfl)),
      Nat.add_zero]
    unfold GatherDims.start
    rw [dif_pos (show (0 : Fin 3) ∈ (slabDims N B K L wf).startIndexMap from List.mem_singleton.mpr rfl)]
    have hsi : (slabDims N B K L wf).siIdx (ValueIdx.ix3 b k l) ⟨List.idxOf (0 : Fin 3) (slabDims N B K L wf).startIndexMap,
        List.idxOf_lt_length_iff.2 (List.mem_singleton.mpr rfl)⟩ = ValueIdx.ix2 b (0 : Fin 1) := by
      funext e; refine Fin.ext ?_
      match e with
      | ⟨0, _⟩ => rfl
      | ⟨1, _⟩ => rfl
    rw [hsi]
    rfl
  | ⟨1, _⟩ =>
    show (slabDims N B K L wf).start (ValueIdx.ix3 b k l) idx 1 + (slabDims N B K L wf).offCoord (ValueIdx.ix3 b k l) 1 = k.val
    unfold GatherDims.start
    rw [dif_neg (show ¬(1 : Fin 3) ∈ (slabDims N B K L wf).startIndexMap from by simp), Nat.zero_add]
    rfl
  | ⟨2, _⟩ =>
    show (slabDims N B K L wf).start (ValueIdx.ix3 b k l) idx 2 + (slabDims N B K L wf).offCoord (ValueIdx.ix3 b k l) 2 = l.val
    unfold GatherDims.start
    rw [dif_neg (show ¬(2 : Fin 3) ∈ (slabDims N B K L wf).startIndexMap from by simp), Nat.zero_add]
    rfl

/-- The dimension numbers of a gather of rows. -/
abbrev rowDims (N B L : Nat)
    (wf : GatherDims.WF ⟨2, ![N, L]⟩ ⟨2, ![B, 1]⟩ ⟨2, ![B, L]⟩ [1] [0] [] [0] [] 1 ![1, L]) :
    GatherDims ⟨2, ![N, L]⟩ ⟨2, ![B, 1]⟩ ⟨2, ![B, L]⟩ where
  offsetDims := [1]
  collapsedSliceDims := [0]
  operandBatchingDims := []
  startIndicesBatchingDims := []
  startIndexMap := [0]
  indexVectorDim := 1
  sliceSizes := ![1, L]
  wf := wf

theorem row_apply {N B L w : Nat} (hN : 0 < N)
    (wf : GatherDims.WF ⟨2, ![N, L]⟩ ⟨2, ![B, 1]⟩ ⟨2, ![B, L]⟩ [1] [0] [] [0] [] 1 ![1, L])
    (x : (⟨2, ![N, L]⟩ : Shape).Idx → α) (idx : IVec ⟨2, ![B, 1]⟩ w) (b : Fin B) (l : Fin L) :
    Host.gather (rowDims N B L wf) x idx (ValueIdx.ix2 b l)
      = x (ValueIdx.ix2 (⟨min (idx (ValueIdx.ix2 b (0 : Fin 1))).toInt.toNat (N - 1), by omega⟩ : Fin N) l) := by
  unfold Host.gather
  congr 1
  funext a
  refine Fin.ext ?_
  show (rowDims N B L wf).start (ValueIdx.ix2 b l) idx a + (rowDims N B L wf).batchCoord (ValueIdx.ix2 b l) a
      + (rowDims N B L wf).offCoord (ValueIdx.ix2 b l) a = _
  rw [GatherDims.batchCoord_eq_zero _ _ _ List.not_mem_nil, Nat.add_zero]
  match a with
  | ⟨0, _⟩ =>
    show (rowDims N B L wf).start (ValueIdx.ix2 b l) idx 0 + (rowDims N B L wf).offCoord (ValueIdx.ix2 b l) 0 = _
    rw [GatherDims.offCoord_eq_zero _ _ _ (fun h => ((GatherDims.mem_sKept _ _).mp h).1 (List.mem_singleton.mpr rfl)),
      Nat.add_zero]
    unfold GatherDims.start
    rw [dif_pos (show (0 : Fin 2) ∈ (rowDims N B L wf).startIndexMap from List.mem_singleton.mpr rfl)]
    have hsi : (rowDims N B L wf).siIdx (ValueIdx.ix2 b l) ⟨List.idxOf (0 : Fin 2) (rowDims N B L wf).startIndexMap,
        List.idxOf_lt_length_iff.2 (List.mem_singleton.mpr rfl)⟩ = ValueIdx.ix2 b (0 : Fin 1) := by
      funext e; refine Fin.ext ?_
      match e with
      | ⟨0, _⟩ => rfl
      | ⟨1, _⟩ => rfl
    rw [hsi]
    rfl
  | ⟨1, _⟩ =>
    show (rowDims N B L wf).start (ValueIdx.ix2 b l) idx 1 + (rowDims N B L wf).offCoord (ValueIdx.ix2 b l) 1 = l.val
    unfold GatherDims.start
    rw [dif_neg (show ¬(1 : Fin 2) ∈ (rowDims N B L wf).startIndexMap from by simp), Nat.zero_add]
    rfl

end Cert.Moe

end
-- ==== Proof.Moe.Ref.lean ====
/- The reference's result at an index. -/
module

public import proofs.«01_k».proof.Defs
public import proofs.«01_k».proof.Proof.Gen.ReferenceIdeal.Run
public import proofs.«01_k».proof.Proof.Moe.Pay
public import proofs.«01_k».proof.Proof.Moe.Gather

@[expose] public section

set_option maxRecDepth 16384

noncomputable section

namespace Cert.ReferenceIdeal.Moe

open Idealize.ShloMosaic Idealize.ShloMosaic.TcCoe
open Cert.ReferenceIdeal Cert.ReferenceIdeal.Gen Cert.ReferenceIdeal.Value

variable (m : (ℓ : Loc nD τ sig) → Buf (Elt Ideal) ℓ)

/-- The start indices the reference gathers the experts' weights at. -/
abbrev starts (e : IVec S160 32) : IVec S160x1 32 :=
  broadcastInDim S160x1 ![0] bcast_S160_S160x1_0 (select (cmpi .slt e (broadcastInDim S160 ![] bcast_S_S160 (constantI S_ 32 0#32))) (addi e (broadcastInDim S160 ![] bcast_S_S160 (constantI S_ 32 32#32))) e)

/-- The hidden layer before its activation. -/
def hid (x : FVec Ideal S81920x2048 .bf16) (w1 : FVec Ideal S160x2048x4096 .f32) (b1 : FVec Ideal S160x4096 .f32) : FVec Ideal S160x512x4096 .f32 :=
  addf (Host.dotGeneral dot_S160x512x2048_S160x2048x4096_S160x512x4096_2_1_1_2_0_0 none (shapeCast _ (extf .f32 x bitsLt_bf16_f32) shapeCasts_S81920x2048_S160x512x2048) w1) (broadcastInDim S160x512x4096 ![0, 1, 2] bcast_S160x1x4096_S160x512x4096_0_1_2 (broadcastInDim S160x1x4096 ![0, 2] bcast_S160x4096_S160x1x4096_0_2 b1))

/-- The activated hidden layer. -/
def act (H : FVec Ideal S160x512x4096 .f32) : FVec Ideal S160x512x2048 .f32 :=
  mulf (mulf (minimumf (extractStridedSlice S160x512x2048 ![0, 0, 0] H slices_S160x512x4096_S160x512x2048_0_0_0) (broadcastInDim S160x512x2048 ![] bcast_S_S160x512x2048 (constant S_ .f32 0x40E00000#32))) (Host.divf (broadcastInDim S160x512x2048 ![] bcast_S_S160x512x2048 (constant S_ .f32 0x3F800000#32)) (addf (broadcastInDim S160x512x2048 ![] bcast_S_S160x512x2048 (constant S_ .f32 0x3F800000#32)) (Host.exp (Host.negf (mulf (broadcastInDim S160x512x2048 ![] bcast_S_S160x512x2048 (constant S_ .f32 0x3FD9DB23#32)) (minimumf (extractStridedSlice S160x512x2048 ![0, 0, 0] H slices_S160x512x4096_S160x512x2048_0_0_0) (broadcastInDim S160x512x2048 ![] bcast_S_S160x512x2048 (constant S_ .f32 0x40E00000#32))))))))) (addf (minimumf (broadcastInDim S160x512x2048 ![] bcast_S_S160x512x2048 (id (constant S_ .f32 0x40E00000#32))) (maximumf (broadcastInDim S160x512x2048 ![] bcast_S_S160x512x2048 (id (constant S_ .f32 0xC0E00000#32))) (extractStridedSlice S160x512x2048 ![0, 0, 2048] H slices_S160x512x4096_S160x512x2048_0_0_2048))) (broadcastInDim S160x512x2048 ![] bcast_S_S160x512x2048 (constant S_ .f32 0x3F800000#32)))

/-- The result, of the activated hidden layer. -/
def out (A : FVec Ideal S160x512x2048 .f32) (w2 : FVec Ideal S160x2048x2048 .f32) (b2 : FVec Ideal S160x2048 .f32) (sw : FVec Ideal S81920 .f32) : FVec Ideal S81920x2048 .f32 :=
  mulf (shapeCast _ (addf (Host.dotGeneral dot_S160x512x2048_S160x2048x2048_S160x512x2048_2_1_1_2_0_0 none A w2) (broadcastInDim S160x512x2048 ![0, 1, 2] bcast_S160x1x2048_S160x512x2048_0_1_2 (broadcastInDim S160x1x2048 ![0, 2] bcast_S160x2048_S160x1x2048_0_2 b2))) shapeCasts_S160x512x2048_S81920x2048) (broadcastInDim S81920x2048 ![0, 1] bcast_S81920x1_S81920x2048_0_1 (broadcastInDim S81920x1 ![0] bcast_S81920_S81920x1_0 sw))

/-- The experts' up-projections, one slab a tile. -/
def up (e : IVec S160 32) (w : FVec Ideal S2x32x2048x4096 .f32) : FVec Ideal S160x2048x4096 .f32 :=
  Host.gather gather_S32x2048x4096_S160x1_S160x2048x4096_12_0_n_n_0_1_120484096 (shapeCast _ (extractStridedSlice S1x32x2048x4096 ![1, 0, 0, 0] w slices_S2x32x2048x4096_S1x32x2048x4096_1_0_0_0) shapeCasts_S1x32x2048x4096_S32x2048x4096) (starts e)
/-- Their biases. -/
def upBias (e : IVec S160 32) (w : FVec Ideal S2x32x4096 .f32) : FVec Ideal S160x4096 .f32 :=
  Host.gather gather_S32x4096_S160x1_S160x4096_1_0_n_n_0_1_14096 (shapeCast _ (extractStridedSlice S1x32x4096 ![1, 0, 0] w slices_S2x32x4096_S1x32x4096_1_0_0) shapeCasts_S1x32x4096_S32x4096) (starts e)
/-- The experts' down-projections. -/
def down (e : IVec S160 32) (w : FVec Ideal S2x32x2048x2048 .f32) : FVec Ideal S160x2048x2048 .f32 :=
  Host.gather gather_S32x2048x2048_S160x1_S160x2048x2048_12_0_n_n_0_1_120482048 (shapeCast _ (extractStridedSlice S1x32x2048x2048 ![1, 0, 0, 0] w slices_S2x32x2048x2048_S1x32x2048x2048_1_0_0_0) shapeCasts_S1x32x2048x2048_S32x2048x2048) (starts e)
/-- Their biases. -/
def downBias (e : IVec S160 32) (w : FVec Ideal S2x32x2048 .f32) : FVec Ideal S160x2048 .f32 :=
  Host.gather gather_S32x2048_S160x1_S160x2048_1_0_n_n_0_1_12048 (shapeCast _ (extractStridedSlice S1x32x2048 ![1, 0, 0] w slices_S2x32x2048_S1x32x2048_1_0_0) shapeCasts_S1x32x2048_S32x2048) (starts e)

/-- The reference is those stages in turn. -/
theorem res_eq (c : Dev nD) : res_out0 (F := Ideal) m c
    = out (act (hid (m ((c.tc : Thread nD τ).loc main_arg2)) (up (m ((c.tc : Thread nD τ).loc main_arg0)) (m ((c.tc : Thread nD τ).loc main_arg3))) (upBias (m ((c.tc : Thread nD τ).loc main_arg0)) (m ((c.tc : Thread nD τ).loc main_arg4))))) (down (m ((c.tc : Thread nD τ).loc main_arg0)) (m ((c.tc : Thread nD τ).loc main_arg5))) (downBias (m ((c.tc : Thread nD τ).loc main_arg0)) (m ((c.tc : Thread nD τ).loc main_arg6))) (m ((c.tc : Thread nD τ).loc main_arg7)) := rfl

theorem hid_apply (x : FVec Ideal S81920x2048 .bf16) (w1 : FVec Ideal S160x2048x4096 .f32) (b1 : FVec Ideal S160x4096 .f32)
    (n : Fin 160) (r : Fin 512) (f : Fin 4096) :
    hid x w1 b1 (ValueIdx.ix3 n r f)
      = ∑ k : Fin 2048, x (ValueIdx.ix2 (⟨n.val * 512 + r.val, by omega⟩ : Fin 81920) k) * w1 (ValueIdx.ix3 n k f) + b1 (ValueIdx.ix2 n f) := by
  pointwise [hid]
  rfl

theorem act_apply (H : FVec Ideal S160x512x4096 .f32) (n : Fin 160) (r : Fin 512) (f : Fin 2048) :
    act H (ValueIdx.ix3 n r f)
      = Cert.KernelIdeal.Moe.glu (H (ValueIdx.ix3 n r (⟨f.val, by omega⟩ : Fin 4096))) (H (ValueIdx.ix3 n r (⟨2048 + f.val, by omega⟩ : Fin 4096))) := by
  pointwise [act]
  unfold Cert.KernelIdeal.Moe.glu
  rw [zero_sub]
  rfl

theorem out_apply (A : FVec Ideal S160x512x2048 .f32) (w2 : FVec Ideal S160x2048x2048 .f32) (b2 : FVec Ideal S160x2048 .f32) (sw : FVec Ideal S81920 .f32)
    (n : Fin 160) (r : Fin 512) (d : Fin 2048) :
    out A w2 b2 sw (ValueIdx.ix2 (⟨n.val * 512 + r.val, by omega⟩ : Fin 81920) d)
      = (∑ f : Fin 2048, A (ValueIdx.ix3 n r f) * w2 (ValueIdx.ix3 n f d) + b2 (ValueIdx.ix2 n d)) * sw (ValueIdx.ix1 (⟨n.val * 512 + r.val, by omega⟩ : Fin 81920)) := by
  have hq : (⟨(n.val * 512 + r.val) / 512, by omega⟩ : Fin 160) = n := Fin.ext (by show _ / 512 = n.val; omega)
  have hr : (⟨(n.val * 512 + r.val) % 512, by omega⟩ : Fin 512) = r := Fin.ext (by show _ % 512 = r.val; omega)
  pointwise [out]
  rw [hq, hr]
  rfl

/-- An index that is not negative is not moved on. -/
theorem wrap_eq (w : BitVec 32) (h : w.toNat < 32) :
    min (Scalar.select (IntOp.cmpi .slt w 0#32) (IntOp.addi w 32#32) w).toInt.toNat 31 = w.toNat := by
  have hs : IntOp.cmpi .slt w 0#32 = 0#1 := by
    have : w.slt 0#32 = false := by
      rw [BitVec.slt, decide_eq_false_iff_not]
      simp only [BitVec.toInt, BitVec.toNat_ofNat]
      omega
    show BitVec.ofBool (w.slt 0#32) = 0#1
    rw [this]; rfl
  rw [hs]
  show min w.toInt.toNat 31 = w.toNat
  rw [BitVec.toInt_eq_toNat_of_lt (by omega)]
  simp only [Int.toNat_natCast]
  omega

theorem starts_lt (e : IVec S160 32) (n : Fin 160) (h : (e (ValueIdx.ix1 n)).toNat < 32) :
    min (starts e (ValueIdx.ix2 n (0 : Fin 1))).toInt.toNat (32 - 1) = (e (ValueIdx.ix1 n)).toNat := by
  pointwise [starts]
  exact wrap_eq _ h

theorem up_apply (e : IVec S160 32) (w : FVec Ideal S2x32x2048x4096 .f32) (n : Fin 160) (h : (e (ValueIdx.ix1 n)).toNat < 32) (k : Fin 2048) (f : Fin 4096) :
    up e w (ValueIdx.ix3 n k f) = w (ValueIdx.ix4 (1 : Fin 2) (⟨(e (ValueIdx.ix1 n)).toNat, h⟩ : Fin 32) k f) := by
  unfold up
  refine (Cert.Moe.slab_apply (by decide) _ _ _ n k f).trans ?_
  have hi : (⟨min (starts e (ValueIdx.ix2 n (0 : Fin 1))).toInt.toNat (32 - 1), by omega⟩ : Fin 32)
      = ⟨(e (ValueIdx.ix1 n)).toNat, h⟩ := Fin.ext (starts_lt e n h)
  refine (congrArg (fun i : Fin 32 => shapeCast _ (extractStridedSlice _ _ w _) _ (ValueIdx.ix3 i k f)) hi).trans ?_
  pointwise []
  rfl

theorem down_apply (e : IVec S160 32) (w : FVec Ideal S2x32x2048x2048 .f32) (n : Fin 160) (h : (e (ValueIdx.ix1 n)).toNat < 32) (k : Fin 2048) (f : Fin 2048) :
    down e w (ValueIdx.ix3 n k f) = w (ValueIdx.ix4 (1 : Fin 2) (⟨(e (ValueIdx.ix1 n)).toNat, h⟩ : Fin 32) k f) := by
  unfold down
  refine (Cert.Moe.slab_apply (by decide) _ _ _ n k f).trans ?_
  have hi : (⟨min (starts e (ValueIdx.ix2 n (0 : Fin 1))).toInt.toNat (32 - 1), by omega⟩ : Fin 32)
      = ⟨(e (ValueIdx.ix1 n)).toNat, h⟩ := Fin.ext (starts_lt e n h)
  refine (congrArg (fun i : Fin 32 => shapeCast _ (extractStridedSlice _ _ w _) _ (ValueIdx.ix3 i k f)) hi).trans ?_
  pointwise []
  rfl

theorem upBias_apply (e : IVec S160 32) (w : FVec Ideal S2x32x4096 .f32) (n : Fin 160) (h : (e (ValueIdx.ix1 n)).toNat < 32) (f : Fin 4096) :
    upBias e w (ValueIdx.ix2 n f) = w (ValueIdx.ix3 (1 : Fin 2) (⟨(e (ValueIdx.ix1 n)).toNat, h⟩ : Fin 32) f) := by
  unfold upBias
  refine (Cert.Moe.row_apply (by decide) _ _ _ n f).trans ?_
  have hi : (⟨min (starts e (ValueIdx.ix2 n (0 : Fin 1))).toInt.toNat (32 - 1), by omega⟩ : Fin 32)
      = ⟨(e (ValueIdx.ix1 n)).toNat, h⟩ := Fin.ext (starts_lt e n h)
  refine (congrArg (fun i : Fin 32 => shapeCast _ (extractStridedSlice _ _ w _) _ (ValueIdx.ix2 i f)) hi).trans ?_
  pointwise []
  rfl

theorem downBias_apply (e : IVec S160 32) (w : FVec Ideal S2x32x2048 .f32) (n : Fin 160) (h : (e (ValueIdx.ix1 n)).toNat < 32) (f : Fin 2048) :
    downBias e w (ValueIdx.ix2 n f) = w (ValueIdx.ix3 (1 : Fin 2) (⟨(e (ValueIdx.ix1 n)).toNat, h⟩ : Fin 32) f) := by
  unfold downBias
  refine (Cert.Moe.row_apply (by decide) _ _ _ n f).trans ?_
  have hi : (⟨min (starts e (ValueIdx.ix2 n (0 : Fin 1))).toInt.toNat (32 - 1), by omega⟩ : Fin 32)
      = ⟨(e (ValueIdx.ix1 n)).toNat, h⟩ := Fin.ext (starts_lt e n h)
  refine (congrArg (fun i : Fin 32 => shapeCast _ (extractStridedSlice _ _ w _) _ (ValueIdx.ix2 i f)) hi).trans ?_
  pointwise []
  rfl

/-- THE REFERENCE AT AN INDEX: each slot's row through its tile's expert, weighted. -/
theorem res_apply (c : Dev nD) (x : FVec Ideal S81920x2048 .bf16) (e : IVec S160 32) (w1 : FVec Ideal S2x32x2048x4096 .f32)
    (b1 : FVec Ideal S2x32x4096 .f32) (w2 : FVec Ideal S2x32x2048x2048 .f32) (b2 : FVec Ideal S2x32x2048 .f32) (sw : FVec Ideal S81920 .f32)
    (n : Fin 160) (h : (e (ValueIdx.ix1 n)).toNat < 32) (r : Fin 512) (d : Fin 2048) :
    out (act (hid x (up e w1) (upBias e b1))) (down e w2) (downBias e b2) sw (ValueIdx.ix2 (⟨n.val * 512 + r.val, by omega⟩ : Fin 81920) d)
      = Cert.KernelIdeal.Moe.slot (⟨(e (ValueIdx.ix1 n)).toNat, h⟩ : Fin 32) x w1 b1 w2 b2 sw (⟨n.val * 512 + r.val, by omega⟩ : Fin 81920) d := by
  rw [out_apply]
  unfold Cert.KernelIdeal.Moe.slot Cert.KernelIdeal.Moe.unit Cert.KernelIdeal.Moe.hidden
  rw [downBias_apply e b2 n h]
  refine congrArg (fun z : EReal => (z + b2 _) * sw _) (Finset.sum_congr rfl fun f _ => ?_)
  rw [act_apply, hid_apply, hid_apply, down_apply e w2 n h, upBias_apply e b1 n h, upBias_apply e b1 n h]
  simp only [up_apply e w1 n h]

end Cert.ReferenceIdeal.Moe

end
-- ==== Proof.Moe.Claims.lean ====
/- The claims about the routed experts: the three programs run and leave their arguments and counters, and the kernel's
   result is the reference's in exact arithmetic. -/
module

public import proofs.«01_k».proof.Defs
public import proofs.«01_k».proof.Proof.Gen.ReferenceIdeal
public import proofs.«01_k».proof.Proof.Moe.KernelFrame
public import proofs.«01_k».proof.Proof.Moe.IdealValue
public import proofs.«01_k».proof.Proof.Moe.Ref
public import Idealize.ShloMosaic.Adequacy
public import Idealize.ShloMosaic.Init

@[expose] public section

set_option maxRecDepth 16384

noncomputable section

namespace Cert.Moe

open Idealize.ShloMosaic Idealize.SL.Sem

theorem frame_ideal : Cert.quiescent_KernelIdeal := fun m g h =>
  Cert.KernelIdeal.Gen.frame m g (Cert.KernelIdeal.Moe.ok_of_words m fun x => routed_lt (h 0) x)

/-- Under the stronger precondition, too, every tile's expert is below 32. -/
theorem padded_words (m : (ℓ : Loc Cert.KernelIdeal.nD Cert.KernelIdeal.τ Cert.KernelIdeal.sig) → Buf (Elt Ideal) ℓ)
    (h : Cert.Pre_KernelIdeal_routed_padded m) (n : Fin 160) : (Cert.KernelIdeal.Moe.words m (ValueIdx.ix1 n)).toNat < 32 :=
  (padded_at (h 0) n 0).1

theorem padded_ok (m : (ℓ : Loc Cert.KernelIdeal.nD Cert.KernelIdeal.τ Cert.KernelIdeal.sig) → Buf (Elt Ideal) ℓ)
    (h : Cert.Pre_KernelIdeal_routed_padded m) : Cert.KernelIdeal.Gen.Ok m :=
  Cert.KernelIdeal.Moe.ok_of_words m fun x => by
    rw [show x = ValueIdx.ix1 (x 0) from ValueIdx.eq_ix1 x]; exact padded_words m h _

theorem frame_padded : Cert.quiescent_KernelIdeal_pre_routed_padded := fun m g h =>
  Cert.KernelIdeal.Gen.frame m g (padded_ok m h)

theorem frame_reference : Cert.quiescent_ReferenceIdeal := fun m g _ =>
  (θ_run _ _ _).mono (fun r h => ⟨fun c => (h c).2, sem_eq_zero_of_no_sems (by decide) r.2⟩)
    (Cert.ReferenceIdeal.Value.run m g)

theorem frame_reference_padded : Cert.quiescent_ReferenceIdeal_pre_routed_padded := fun m g _ =>
  (θ_run _ _ _).mono (fun r h => ⟨fun c => (h c).2, sem_eq_zero_of_no_sems (by decide) r.2⟩)
    (Cert.ReferenceIdeal.Value.run m g)

/-- The reference's stages, of the kernel's arguments. -/
abbrev formula (m : (ℓ : Loc Cert.KernelIdeal.nD Cert.KernelIdeal.τ Cert.KernelIdeal.sig) → Buf (Elt Ideal) ℓ) : FVec Ideal Cert.KernelIdeal.S81920x2048 .f32 :=
  Cert.ReferenceIdeal.Moe.out (Cert.ReferenceIdeal.Moe.act (Cert.ReferenceIdeal.Moe.hid (Cert.KernelIdeal.Moe.aX m)
      (Cert.ReferenceIdeal.Moe.up (Cert.KernelIdeal.Moe.words m) (Cert.KernelIdeal.Moe.aW1 m))
      (Cert.ReferenceIdeal.Moe.upBias (Cert.KernelIdeal.Moe.words m) (Cert.KernelIdeal.Moe.aB1 m))))
    (Cert.ReferenceIdeal.Moe.down (Cert.KernelIdeal.Moe.words m) (Cert.KernelIdeal.Moe.aW2 m))
    (Cert.ReferenceIdeal.Moe.downBias (Cert.KernelIdeal.Moe.words m) (Cert.KernelIdeal.Moe.aB2 m)) (Cert.KernelIdeal.Moe.aSw m)

/-- The kernel's final array is the reference's composed term. -/
theorem value_eq (m : (ℓ : Loc Cert.KernelIdeal.nD Cert.KernelIdeal.τ Cert.KernelIdeal.sig) → Buf (Elt Ideal) ℓ)
    (h : Cert.Pre_KernelIdeal_routed_padded m) :
    (Cert.KernelIdeal.Gen.dats m (padded_ok m h) 0 0).arrAt 8 (Cert.KernelIdeal.Gen.cfgM m (padded_ok m h)).N = formula m :=
  Cert.KernelIdeal.Moe.arr8 m (padded_ok m h) (padded_words m h)
    (fun n r => (padded_at (h 0) n r).2.imp id fun hz => Cert.KernelIdeal.Moe.eq_zero_of_oeq _ hz) _ fun n r d =>
    Cert.ReferenceIdeal.Moe.res_apply 0 _ _ _ _ _ _ _ n (padded_words m h n) r d

theorem value : Cert.algebraic_KernelIdeal_ReferenceIdeal_pre_routed_padded := by
  intro m g m' g' h hargs
  refine ⟨fun _ => formula m, ?_, ?_⟩
  · refine (θ_run _ _ _).mono (fun r hr c => ⟨?_, hr.2 c⟩)
      (θ_run_and (Cert.KernelIdeal.Gen.run_main m g (padded_ok m h)) (Cert.KernelIdeal.Gen.unchanged m g (padded_ok m h)))
    obtain rfl : c = 0 := Subsingleton.elim (α := Fin 1) _ _
    exact ((hr.1 0).1 8).trans (value_eq m h)
  · refine (θ_run _ _ _).mono (fun r hr c => ⟨?_, (hr c).2⟩) (Cert.ReferenceIdeal.Value.run m' g')
    obtain rfl : c = 0 := Subsingleton.elim (α := Fin 1) _ _
    obtain ⟨h0, _, h2, h3, h4, h5, h6, h7⟩ := hargs 0
    refine (hr 0).1.trans ((Cert.ReferenceIdeal.Moe.res_eq m' 0).trans ?_)
    rw [h0, h2, h3, h4, h5, h6, h7]

end Cert.Moe

end
-- ==== Proof.Proj.Tiles.lean ====
/- The grid of the row-tiled calls, 4 batches by 16 tiles of 256 rows: where a point's blocks lie in the arrays. -/
module

public import Idealize.ShloMosaic.Lib.Pipeline.ValueKit
public import Idealize.ShloMosaic.Lib.Claim

@[expose] public section

set_option maxRecDepth 16384

noncomputable section

namespace Cert.Proj

open Idealize.ShloMosaic

abbrev grid : Pipeline.Grid := ⟨2, ![4, 16], ![false, false]⟩

/-- A grid point's coordinates: its batch and its tile of rows. -/
theorem coords_val : ∀ t : Fin grid.N, (grid.coords t 0).val = t.val / 16 ∧ (grid.coords t 1).val = t.val % 16 := by
  decide +kernel

/-- A point's batch. -/
abbrev batch (t : Fin grid.N) : Fin 4 := ⟨t.val / 16, by have : t.val < 64 := t.isLt; omega⟩
/-- Row `r` of a point's tile. -/
abbrev row (t : Fin grid.N) (r : Fin 256) : Fin 4096 := ⟨t.val % 16 * 256 + r.val, by omega⟩

/-- The index of an array of rows at a point's row. -/
theorem tile_ext {D : Nat} (t : Fin grid.N) (r : Fin 256) (k : Fin D) (i : Shape.Idx ⟨3, ![4, 4096, D]⟩)
    (h0 : (i (0 : Fin 3)).val = (BitVec.ofNat 32 (grid.coords t 0).val).toNat * 1 + 1 * 0)
    (h1 : (i (1 : Fin 3)).val = (BitVec.ofNat 32 (grid.coords t 1).val).toNat * 256 + 1 * r.val)
    (h2 : (i (2 : Fin 3)).val = 0 * D + 1 * k.val) : i = ValueIdx.ix3 (batch t) (row t r) k := by
  obtain ⟨e0, e1⟩ := coords_val t
  have ht : t.val < 64 := t.isLt
  rw [BitVec.toNat_ofNat] at h0 h1
  funext a
  apply Fin.ext
  fin_cases a
  · refine Eq.trans h0 ?_
    show _ = t.val / 16
    omega
  · refine Eq.trans h1 ?_
    show _ = t.val % 16 * 256 + r.val
    omega
  · refine Eq.trans h2 ?_
    show _ = k.val
    omega

/-- The index of an array of one row a batch at a point's batch. -/
theorem batch_ext {D : Nat} (t : Fin grid.N) (k : Fin D) (i : Shape.Idx ⟨3, ![4, 1, D]⟩)
    (h0 : (i (0 : Fin 3)).val = (BitVec.ofNat 32 (grid.coords t 0).val).toNat * 1 + 1 * 0)
    (h2 : (i (2 : Fin 3)).val = 0 * D + 1 * k.val) : i = ValueIdx.ix3 (batch t) (0 : Fin 1) k := by
  obtain ⟨e0, e1⟩ := coords_val t
  have ht : t.val < 64 := t.isLt
  rw [BitVec.toNat_ofNat] at h0
  funext a
  apply Fin.ext
  fin_cases a
  · refine Eq.trans h0 ?_
    show _ = t.val / 16
    omega
  · exact congrArg Fin.val (Subsingleton.elim (α := Fin 1) _ _)
  · refine Eq.trans h2 ?_
    show _ = k.val
    omega

/-- The index of a matrix from an offset in it. -/
theorem mat_ext {A B : Nat} (p q : Nat) {a : Fin A} {b : Fin B} (k d : Nat) (i : Shape.Idx ⟨2, ![A, B]⟩)
    (h0 : (i (0 : Fin 2)).val = p + 1 * k) (h1 : (i (1 : Fin 2)).val = q + 1 * d) (ha : a.val = p + k) (hb : b.val = q + d) :
    i = ValueIdx.ix2 a b := by
  funext x
  apply Fin.ext
  fin_cases x
  · refine Eq.trans h0 ?_
    show _ = a.val
    omega
  · refine Eq.trans h1 ?_
    show _ = b.val
    omega

/-- An index of a block of rows has batch 0. -/
theorem tile_idx {D : Nat} (y : Shape.Idx ⟨3, ![1, 256, D]⟩) : ∃ (r : Fin 256) (d : Fin D), y = ValueIdx.ix3 (0 : Fin 1) r d :=
  ⟨y (1 : Fin 3), y (2 : Fin 3), (ValueIdx.eq_ix3 y).trans (congrArg (fun z => ValueIdx.ix3 z _ _) (Subsingleton.elim (α := Fin 1) _ _))⟩

end Cert.Proj

end
-- ==== Proof.Proj.Norm.lean ====
/- Layer normalization of a row of 2048, in exact arithmetic. -/
module

public import Idealize.ShloMosaic.Lib.Pipeline.ValueKit
public import Idealize.ShloMosaic.Lib.Claim
public import Idealize.ShloMosaic.Lib.Pointwise

@[expose] public section

noncomputable section

namespace Cert.Proj

open Idealize.ShloMosaic

/-- A row's mean. -/
def mean (r : Fin 2048 → EReal) : EReal := Ideal.div (∑ k, r k) (Ideal.ofBits .f32 0x45000000#32)

/-- Entry `j` of a row less its mean, over the root of its variance and a small number. -/
def lnorm (r : Fin 2048 → EReal) (j : Fin 2048) : EReal :=
  (r j - mean r) * Ideal.rsqrt (mean (fun k => (r k - mean r) * (r k - mean r)) + Ideal.ofBits .f32 0x3727C5AC#32)

/-- A normalized row, scaled by one more than `sc` and shifted by `sh`. -/
def modulate (r sc sh : Fin 2048 → EReal) (j : Fin 2048) : EReal := lnorm r j * (1 + sc j) + sh j

/-- A row plus its gated update, the row weighted, normalized and put through an affine map. -/
def gated (r g1 y g b : Fin 2048 → EReal) (j : Fin 2048) : EReal :=
  lnorm (fun k => Ideal.ofBits .f32 0x3FB504F3#32 * r k + (1 + g1 k) * y k) j * g j + b j

end Cert.Proj

end
-- ==== Proof.Proj.InPay.lean ====
/- The input projection's values at an index, in exact arithmetic: the kernel's body and the reference. -/
module

public import proofs.«01_k».proof.Proof.Gen.Kernel2Ideal.Skeleton
public import proofs.«01_k».proof.Proof.Proj.Norm

@[expose] public section

set_option maxRecDepth 16384

noncomputable section

namespace Cert.Kernel2Ideal.Proj

open Idealize.ShloMosaic Idealize.ShloMosaic.TcCoe Cert.Proj
open Cert.Kernel2Ideal Cert.Kernel2Ideal.Gen

/-- The modulated rows of a block. -/
theorem rows_apply (x : FVec Ideal S1x256x2048 .f32) (sc sh : FVec Ideal S1x1x2048 .f32) (r : Fin 256) (k : Fin 2048) :
    k0_pay5 (F := Ideal) x sc sh (ValueIdx.ix2 r k)
      = modulate (fun j => x (ValueIdx.ix3 (0 : Fin 1) r j)) (fun j => sc (ValueIdx.ix3 (0 : Fin 1) (0 : Fin 1) j))
          (fun j => sh (ValueIdx.ix3 (0 : Fin 1) (0 : Fin 1) j)) k := by
  pointwise [k0_pay5]
  rfl

theorem pay1_apply (h : FVec Ideal S256x2048 .bf16) (w : FVec Ideal S2048x768 .bf16) (r : Fin 256) (d : Fin 768) :
    k0_pay1 (F := Ideal) h w (ValueIdx.ix3 (0 : Fin 1) r d) = ∑ k : Fin 2048, h (ValueIdx.ix2 r k) * w (ValueIdx.ix2 k d) := by
  pointwise [k0_pay1]
  rfl

theorem pay2_apply (h : FVec Ideal S256x2048 .bf16) (w : FVec Ideal S2048x1536 .bf16) (r : Fin 256) (d : Fin 1536) :
    k0_pay2 (F := Ideal) h w (ValueIdx.ix3 (0 : Fin 1) r d) = ∑ k : Fin 2048, h (ValueIdx.ix2 r k) * w (ValueIdx.ix2 k d) := by
  pointwise [k0_pay2]
  rfl

theorem pay3_apply (h : FVec Ideal S256x2048 .bf16) (w : FVec Ideal S2048x1536 .bf16) (r : Fin 256) (d : Fin 1536) :
    k0_pay3 (F := Ideal) h w (ValueIdx.ix3 (0 : Fin 1) r d) = ∑ k : Fin 2048, h (ValueIdx.ix2 r k) * w (ValueIdx.ix2 k d) := by
  pointwise [k0_pay3]
  rfl

theorem pay4_apply (h : FVec Ideal S256x2048 .bf16) (w : FVec Ideal S2048x1280 .bf16) (r : Fin 256) (d : Fin 1280) :
    k0_pay4 (F := Ideal) h w (ValueIdx.ix3 (0 : Fin 1) r d) = ∑ k : Fin 2048, h (ValueIdx.ix2 r k) * w (ValueIdx.ix2 k d) := by
  pointwise [k0_pay4]
  rfl

theorem pay6_apply (x : FVec Ideal S1x256x2048 .f32) (sc sh : FVec Ideal S1x1x2048 .f32) (w : FVec Ideal S2048x1024 .bf16) (r : Fin 256) (d : Fin 1024) :
    k0_pay6 (F := Ideal) x sc sh w (ValueIdx.ix3 (0 : Fin 1) r d)
      = ∑ k : Fin 2048, k0_pay5 (F := Ideal) x sc sh (ValueIdx.ix2 r k) * w (ValueIdx.ix2 k d) := by
  pointwise [k0_pay6]
  rfl

end Cert.Kernel2Ideal.Proj

end
-- ==== Proof.Proj.InRef.lean ====
/- The reference of the input projection, at an index. -/
module

public import proofs.«01_k».proof.Proof.Gen.Reference2Ideal.Run
public import proofs.«01_k».proof.Proof.Proj.Norm

@[expose] public section

set_option maxRecDepth 16384

noncomputable section

namespace Cert.Reference2Ideal.Proj

open Idealize.ShloMosaic Idealize.ShloMosaic.TcCoe Cert.Proj
open Cert.Reference2Ideal Cert.Reference2Ideal.Gen Cert.Reference2Ideal.Value

/-- Every row's mean. -/
def means (x : FVec Ideal S4x4096x2048 .f32) : FVec Ideal S4x4096x1 .f32 :=
  Host.divf (broadcastInDim S4x4096x1 ![0, 1] bcast_S4x4096_S4x4096x1_0_1 (Host.reduceAdd x (constant S_ .f32 0x00000000#32) reducesTo_S4x4096x2048_S4x4096_d2 h_S_)) (broadcastInDim S4x4096x1 ![] bcast_S_S4x4096x1 (constant S_ .f32 0x45000000#32))

/-- The rows less their means. -/
def centred (x : FVec Ideal S4x4096x2048 .f32) : FVec Ideal S4x4096x2048 .f32 :=
  subf x (broadcastInDim S4x4096x2048 ![0, 1, 2] bcast_S4x4096x1_S4x4096x2048_0_1_2 (means x))

/-- The normalized rows. -/
def normed (x : FVec Ideal S4x4096x2048 .f32) : FVec Ideal S4x4096x2048 .f32 :=
  mulf (centred x) (broadcastInDim S4x4096x2048 ![0, 1, 2] bcast_S4x4096x1_S4x4096x2048_0_1_2 (Host.rsqrt (addf (means (mulf (centred x) (centred x))) (broadcastInDim S4x4096x1 ![] bcast_S_S4x4096x1 (constant S_ .f32 0x3727C5AC#32)))))

/-- The modulated rows. -/
def rows (x : FVec Ideal S4x4096x2048 .f32) (sc sh : FVec Ideal S4x1x2048 .f32) : FVec Ideal S4x4096x2048 .f32 :=
  addf (mulf (normed x) (broadcastInDim S4x4096x2048 ![0, 1, 2] bcast_S4x1x2048_S4x4096x2048_0_1_2 (addf (broadcastInDim S4x1x2048 ![] bcast_S_S4x1x2048 (constant S_ .f32 0x3F800000#32)) sc))) (broadcastInDim S4x4096x2048 ![0, 1, 2] bcast_S4x1x2048_S4x4096x2048_0_1_2 sh)

/-- The product, all five parts side by side. -/
def full (h : FVec Ideal S4x4096x2048 .f32) (w : FVec Ideal S2048x6144 .bf16) : FVec Ideal S4x4096x6144 .f32 :=
  Host.dotGeneral dot_S4x4096x2048_S2048x6144_S4x4096x6144_2_0_01_1_n_n none h (extf .f32 w bitsLt_bf16_f32)

theorem means_apply (x : FVec Ideal S4x4096x2048 .f32) (b : Fin 4) (s : Fin 4096) :
    means x (ValueIdx.ix3 b s (0 : Fin 1)) = mean fun j => x (ValueIdx.ix3 b s j) := by
  pointwise [means]
  rfl

theorem centred_apply (x : FVec Ideal S4x4096x2048 .f32) (b : Fin 4) (s : Fin 4096) (k : Fin 2048) :
    centred x (ValueIdx.ix3 b s k) = x (ValueIdx.ix3 b s k) - mean fun j => x (ValueIdx.ix3 b s j) := by
  rw [← means_apply]
  pointwise [centred]
  rfl

theorem normed_apply (x : FVec Ideal S4x4096x2048 .f32) (b : Fin 4) (s : Fin 4096) (k : Fin 2048) :
    normed x (ValueIdx.ix3 b s k) = lnorm (fun j => x (ValueIdx.ix3 b s j)) k := by
  have hm : means (mulf (centred x) (centred x)) (ValueIdx.ix3 b s (0 : Fin 1))
      = mean fun j => (x (ValueIdx.ix3 b s j) - mean fun j => x (ValueIdx.ix3 b s j)) * (x (ValueIdx.ix3 b s j) - mean fun j => x (ValueIdx.ix3 b s j)) := by
    rw [means_apply]
    refine congrArg mean (funext fun j => ?_)
    rw [← centred_apply]
    rfl
  unfold lnorm
  rw [← hm, ← centred_apply]
  pointwise [normed]
  rfl

theorem rows_apply (x : FVec Ideal S4x4096x2048 .f32) (sc sh : FVec Ideal S4x1x2048 .f32) (b : Fin 4) (s : Fin 4096) (k : Fin 2048) :
    rows x sc sh (ValueIdx.ix3 b s k)
      = modulate (fun j => x (ValueIdx.ix3 b s j)) (fun j => sc (ValueIdx.ix3 b (0 : Fin 1) j)) (fun j => sh (ValueIdx.ix3 b (0 : Fin 1) j)) k := by
  unfold modulate
  rw [← normed_apply]
  pointwise [rows]
  rfl

theorem full_apply (h : FVec Ideal S4x4096x2048 .f32) (w : FVec Ideal S2048x6144 .bf16) (b : Fin 4) (s : Fin 4096) (d : Fin 6144) :
    full h w (ValueIdx.ix3 b s d) = ∑ k : Fin 2048, h (ValueIdx.ix3 b s k) * w (ValueIdx.ix2 k d) := by
  pointwise [full]
  rfl

/-- The convolution's columns. -/
def conv (P : FVec Ideal S4x4096x6144 .f32) : FVec Ideal S4x4096x1024 .f32 := extractStridedSlice S4x4096x1024 ![0, 0, 0] P slices_S4x4096x6144_S4x4096x1024_0_0_0
/-- The latent attention's columns. -/
def latent (P : FVec Ideal S4x4096x6144 .f32) : FVec Ideal S4x4096x768 .f32 := extractStridedSlice S4x4096x768 ![0, 0, 1024] P slices_S4x4096x6144_S4x4096x768_0_0_1024
/-- The recurrence's columns. -/
def recurrent (P : FVec Ideal S4x4096x6144 .f32) : FVec Ideal S4x4096x1536 .f32 := extractStridedSlice S4x4096x1536 ![0, 0, 1792] P slices_S4x4096x6144_S4x4096x1536_0_0_1792
/-- The band attention's columns. -/
def band (P : FVec Ideal S4x4096x6144 .f32) : FVec Ideal S4x4096x1536 .f32 := extractStridedSlice S4x4096x1536 ![0, 0, 3328] P slices_S4x4096x6144_S4x4096x1536_0_0_3328
/-- The low-rank columns. -/
def lowrank (P : FVec Ideal S4x4096x6144 .f32) : FVec Ideal S4x4096x1280 .f32 := extractStridedSlice S4x4096x1280 ![0, 0, 4864] P slices_S4x4096x6144_S4x4096x1280_0_0_4864

theorem conv_apply (P : FVec Ideal S4x4096x6144 .f32) (b : Fin 4) (s : Fin 4096) (d : Fin 1024) :
    conv P (ValueIdx.ix3 b s d) = P (ValueIdx.ix3 b s (⟨d.val, by omega⟩ : Fin 6144)) := by
  pointwise [conv]
  rfl
theorem latent_apply (P : FVec Ideal S4x4096x6144 .f32) (b : Fin 4) (s : Fin 4096) (d : Fin 768) :
    latent P (ValueIdx.ix3 b s d) = P (ValueIdx.ix3 b s (⟨1024 + d.val, by omega⟩ : Fin 6144)) := by
  pointwise [latent]
  rfl
theorem recurrent_apply (P : FVec Ideal S4x4096x6144 .f32) (b : Fin 4) (s : Fin 4096) (d : Fin 1536) :
    recurrent P (ValueIdx.ix3 b s d) = P (ValueIdx.ix3 b s (⟨1792 + d.val, by omega⟩ : Fin 6144)) := by
  pointwise [recurrent]
  rfl
theorem band_apply (P : FVec Ideal S4x4096x6144 .f32) (b : Fin 4) (s : Fin 4096) (d : Fin 1536) :
    band P (ValueIdx.ix3 b s d) = P (ValueIdx.ix3 b s (⟨3328 + d.val, by omega⟩ : Fin 6144)) := by
  pointwise [band]
  rfl
theorem lowrank_apply (P : FVec Ideal S4x4096x6144 .f32) (b : Fin 4) (s : Fin 4096) (d : Fin 1280) :
    lowrank P (ValueIdx.ix3 b s d) = P (ValueIdx.ix3 b s (⟨4864 + d.val, by omega⟩ : Fin 6144)) := by
  pointwise [lowrank]
  rfl

end Cert.Reference2Ideal.Proj

end
-- ==== Proof.Proj.InValue.lean ====
/- What the input projection's call leaves in its five result arrays. -/
module

public import proofs.«01_k».proof.Proof.Gen.Kernel2Ideal.Value
public import proofs.«01_k».proof.Proof.Proj.Tiles
public import proofs.«01_k».proof.Proof.Proj.InPay
public import proofs.«01_k».proof.Proof.Proj.InRef

@[expose] public section

set_option maxRecDepth 16384

noncomputable section

namespace Cert.Kernel2Ideal.Proj

open Idealize.ShloMosaic Idealize.ShloMosaic.TcCoe Idealize.SL.Sem Cert.Proj
open Cert.Kernel2Ideal Cert.Kernel2Ideal.Gen

variable (m : (ℓ : Loc nD τ sig) → Buf (Elt Ideal) ℓ)

abbrev aX : FVec Ideal S4x4096x2048 .f32 := m (((0 : Dev nD) : Thread nD τ).loc main_arg0)
abbrev aSc : FVec Ideal S4x1x2048 .f32 := m (((0 : Dev nD) : Thread nD τ).loc main_arg1)
abbrev aSh : FVec Ideal S4x1x2048 .f32 := m (((0 : Dev nD) : Thread nD τ).loc main_arg2)
abbrev aW : FVec Ideal S2048x6144 .bf16 := m (((0 : Dev nD) : Thread nD τ).loc main_arg3)

theorem blk0 (t : Fin cfg0.N) (r : Fin 256) (k : Fin 2048) :
    (iblk m (0 : Dev nD) 0 t : FVec Ideal S1x256x2048 .f32) (ValueIdx.ix3 (0 : Fin 1) r k) = aX m (ValueIdx.ix3 (batch t) (row t r) k) := by
  show V m (0 : Dev nD) main_arg0 (((cfg0.win 0).blk t).view.emb (ValueIdx.ix3 (0 : Fin 1) r k)) = _
  rw [V_main_arg0]
  exact congrArg (aX m) (tile_ext t r k _ rfl rfl rfl)

theorem blk1 (t : Fin cfg0.N) (k : Fin 2048) :
    (iblk m (0 : Dev nD) 1 t : FVec Ideal S1x1x2048 .f32) (ValueIdx.ix3 (0 : Fin 1) (0 : Fin 1) k) = aSc m (ValueIdx.ix3 (batch t) (0 : Fin 1) k) := by
  show V m (0 : Dev nD) main_arg1 (((cfg0.win 1).blk t).view.emb (ValueIdx.ix3 (0 : Fin 1) (0 : Fin 1) k)) = _
  rw [V_main_arg1]
  exact congrArg (aSc m) (batch_ext t k _ rfl rfl)

theorem blk2 (t : Fin cfg0.N) (k : Fin 2048) :
    (iblk m (0 : Dev nD) 2 t : FVec Ideal S1x1x2048 .f32) (ValueIdx.ix3 (0 : Fin 1) (0 : Fin 1) k) = aSh m (ValueIdx.ix3 (batch t) (0 : Fin 1) k) := by
  show V m (0 : Dev nD) main_arg2 (((cfg0.win 2).blk t).view.emb (ValueIdx.ix3 (0 : Fin 1) (0 : Fin 1) k)) = _
  rw [V_main_arg2]
  exact congrArg (aSh m) (batch_ext t k _ rfl rfl)

theorem blk3 (t : Fin cfg0.N) (k : Fin 2048) (d : Fin 6144) :
    (iblk m (0 : Dev nD) 3 t : FVec Ideal S2048x6144 .bf16) (ValueIdx.ix2 k d) = aW m (ValueIdx.ix2 k d) := by
  show V m (0 : Dev nD) main_arg3 (((cfg0.win 3).blk t).view.emb (ValueIdx.ix2 k d)) = _
  rw [V_main_arg3]
  exact congrArg (aW m) (mat_ext (0 * 2048) (0 * 6144) k.val d.val _ rfl rfl (by omega) (by omega))

/-- The reference's rows and product, of the kernel's arguments. -/
abbrev hRows : FVec Ideal S4x4096x2048 .f32 := Cert.Reference2Ideal.Proj.rows (aX m) (aSc m) (aSh m)
abbrev hFull : FVec Ideal Cert.Reference2Ideal.S4x4096x6144 .f32 := Cert.Reference2Ideal.Proj.full (hRows m) (aW m)

/-- The narrowed rows are the rows. -/
theorem pay7_apply (x : FVec Ideal S1x256x2048 .f32) (sc sh : FVec Ideal S1x1x2048 .f32) (w : FVec Ideal S2048x6144 .bf16) (r : Fin 256) (k : Fin 2048) :
    k0_pay7 (F := Ideal) x sc sh w (ValueIdx.ix2 r k) = k0_pay5 (F := Ideal) x sc sh (ValueIdx.ix2 r k) := by
  unfold k0_pay7
  frame_out

/-- A point's modulated rows are the reference's. -/
theorem rows_eq (t : Fin cfg0.N) (r : Fin 256) (k : Fin 2048) :
    k0_pay5 (F := Ideal) (iblk m (0 : Dev nD) 0 t) (iblk m (0 : Dev nD) 1 t) (iblk m (0 : Dev nD) 2 t) (ValueIdx.ix2 r k)
      = hRows m (ValueIdx.ix3 (batch t) (row t r) k) := by
  refine Eq.trans ?_ (Cert.Reference2Ideal.Proj.rows_apply _ _ _ _ _ _).symm
  refine (rows_apply _ _ _ r k).trans ?_
  simp only [blk0, blk1, blk2]

/-- A product of a point's rows with columns of the weights is those columns of the reference's. -/
theorem col_eq (t : Fin cfg0.N) (r : Fin 256) (d : Fin 6144) :
    ∑ k : Fin 2048, k0_pay5 (F := Ideal) (iblk m (0 : Dev nD) 0 t) (iblk m (0 : Dev nD) 1 t) (iblk m (0 : Dev nD) 2 t) (ValueIdx.ix2 r k)
        * (iblk m (0 : Dev nD) 3 t : FVec Ideal S2048x6144 .bf16) (ValueIdx.ix2 k d)
      = hFull m (ValueIdx.ix3 (batch t) (row t r) d) := by
  refine Eq.trans ?_ (Cert.Reference2Ideal.Proj.full_apply _ _ _ _ _).symm
  exact Finset.sum_congr rfl fun k _ => by rw [rows_eq, blk3]

theorem arr4 : (dats m 0 0).arrAt 4 cfg0.N = Cert.Reference2Ideal.Proj.conv (hFull m) := by
  refine (dats m 0 0).arrAt_eq_of_covers 4 _ (by decide +kernel) fun t hf y => ?_
  obtain ⟨r, d, rfl⟩ := tile_idx (D := 1024) y
  refine Eq.trans ?_ (congrArg (Cert.Reference2Ideal.Proj.conv (hFull m)) (tile_ext t r d _ rfl rfl rfl)).symm
  rw [Cert.Reference2Ideal.Proj.conv_apply, ← col_eq]
  show (dats m 0 0).after 4 t (ValueIdx.ix3 (0 : Fin 1) r d) = _
  rw [after0_4]
  frame_out
  refine (pay6_apply _ _ _ _ r d).trans (Finset.sum_congr rfl fun k _ => congrArg (_ * ·) ?_)
  exact congrArg (iblk m (0 : Dev nD) 3 t : FVec Ideal S2048x6144 .bf16) (mat_ext 0 0 k.val d.val _ rfl rfl (by omega) (Nat.zero_add _).symm)

theorem arr5 : (dats m 0 0).arrAt 5 cfg0.N = Cert.Reference2Ideal.Proj.latent (hFull m) := by
  refine (dats m 0 0).arrAt_eq_of_covers 5 _ (by decide +kernel) fun t hf y => ?_
  obtain ⟨r, d, rfl⟩ := tile_idx (D := 768) y
  refine Eq.trans ?_ (congrArg (Cert.Reference2Ideal.Proj.latent (hFull m)) (tile_ext t r d _ rfl rfl rfl)).symm
  rw [Cert.Reference2Ideal.Proj.latent_apply, ← col_eq]
  show (dats m 0 0).after 5 t (ValueIdx.ix3 (0 : Fin 1) r d) = _
  rw [after0_5]
  frame_out
  refine (pay1_apply _ _ r d).trans (Finset.sum_congr rfl fun k _ => congrArg₂ (· * ·) (pay7_apply _ _ _ _ r k) ?_)
  exact congrArg (iblk m (0 : Dev nD) 3 t : FVec Ideal S2048x6144 .bf16) (mat_ext 0 1024 k.val d.val _ rfl rfl (by omega) rfl)

theorem arr6 : (dats m 0 0).arrAt 6 cfg0.N = Cert.Reference2Ideal.Proj.recurrent (hFull m) := by
  refine (dats m 0 0).arrAt_eq_of_covers 6 _ (by decide +kernel) fun t hf y => ?_
  obtain ⟨r, d, rfl⟩ := tile_idx (D := 1536) y
  refine Eq.trans ?_ (congrArg (Cert.Reference2Ideal.Proj.recurrent (hFull m)) (tile_ext t r d _ rfl rfl rfl)).symm
  rw [Cert.Reference2Ideal.Proj.recurrent_apply, ← col_eq]
  show (dats m 0 0).after 6 t (ValueIdx.ix3 (0 : Fin 1) r d) = _
  rw [after0_6]
  frame_out
  refine (pay2_apply _ _ r d).trans (Finset.sum_congr rfl fun k _ => congrArg₂ (· * ·) (pay7_apply _ _ _ _ r k) ?_)
  exact congrArg (iblk m (0 : Dev nD) 3 t : FVec Ideal S2048x6144 .bf16) (mat_ext 0 1792 k.val d.val _ rfl rfl (by omega) rfl)

theorem arr7 : (dats m 0 0).arrAt 7 cfg0.N = Cert.Reference2Ideal.Proj.band (hFull m) := by
  refine (dats m 0 0).arrAt_eq_of_covers 7 _ (by decide +kernel) fun t hf y => ?_
  obtain ⟨r, d, rfl⟩ := tile_idx (D := 1536) y
  refine Eq.trans ?_ (congrArg (Cert.Reference2Ideal.Proj.band (hFull m)) (tile_ext t r d _ rfl rfl rfl)).symm
  rw [Cert.Reference2Ideal.Proj.band_apply, ← col_eq]
  show (dats m 0 0).after 7 t (ValueIdx.ix3 (0 : Fin 1) r d) = _
  rw [after0_7]
  frame_out
  refine (pay3_apply _ _ r d).trans (Finset.sum_congr rfl fun k _ => congrArg₂ (· * ·) (pay7_apply _ _ _ _ r k) ?_)
  exact congrArg (iblk m (0 : Dev nD) 3 t : FVec Ideal S2048x6144 .bf16) (mat_ext 0 3328 k.val d.val _ rfl rfl (by omega) rfl)

theorem arr8 : (dats m 0 0).arrAt 8 cfg0.N = Cert.Reference2Ideal.Proj.lowrank (hFull m) := by
  refine (dats m 0 0).arrAt_eq_of_covers 8 _ (by decide +kernel) fun t hf y => ?_
  obtain ⟨r, d, rfl⟩ := tile_idx (D := 1280) y
  refine Eq.trans ?_ (congrArg (Cert.Reference2Ideal.Proj.lowrank (hFull m)) (tile_ext t r d _ rfl rfl rfl)).symm
  rw [Cert.Reference2Ideal.Proj.lowrank_apply, ← col_eq]
  show (dats m 0 0).after 8 t (ValueIdx.ix3 (0 : Fin 1) r d) = _
  rw [after0_8]
  frame_out
  refine (pay4_apply _ _ r d).trans (Finset.sum_congr rfl fun k _ => congrArg₂ (· * ·) (pay7_apply _ _ _ _ r k) ?_)
  exact congrArg (iblk m (0 : Dev nD) 3 t : FVec Ideal S2048x6144 .bf16) (mat_ext 0 4864 k.val d.val _ rfl rfl (by omega) rfl)

end Cert.Kernel2Ideal.Proj

end
-- ==== Proof.Proj.InClaims.lean ====
/- The claims about the input projection: its programs run and leave their arguments and counters, and the kernel's five
   results are the reference's in exact arithmetic. -/
module

public import proofs.«01_k».proof.Defs
public import proofs.«01_k».proof.Proof.Gen.Kernel2.Frame
public import proofs.«01_k».proof.Proof.Proj.InValue
public import Idealize.ShloMosaic.Adequacy
public import Idealize.ShloMosaic.Init

@[expose] public section

set_option maxRecDepth 16384

noncomputable section

namespace Cert.Proj.In

open Idealize.ShloMosaic Idealize.SL.Sem

theorem frame_kernel : Cert.quiescent_Kernel2 := fun m g _ => Cert.Kernel2.Gen.frame m g

theorem frame_ideal : Cert.quiescent_Kernel2Ideal := fun m g _ => Cert.Kernel2Ideal.Gen.frame m g

theorem frame_reference : Cert.quiescent_Reference2Ideal := fun m g _ =>
  (θ_run _ _ _).mono (fun r h => ⟨fun c => (h c).2.2.2.2.2, sem_eq_zero_of_no_sems (by decide) r.2⟩)
    (Cert.Reference2Ideal.Value.run m g)

open Cert.Kernel2Ideal.Proj Cert.Reference2Ideal.Proj in
theorem value : Cert.algebraic_Kernel2Ideal_Reference2Ideal := by
  intro m g m' g' _ hargs
  refine ⟨fun _ => conv (hFull m), fun _ => latent (hFull m), fun _ => recurrent (hFull m), fun _ => band (hFull m), fun _ => lowrank (hFull m), ?_, ?_⟩
  · refine (θ_run _ _ _).mono (fun r hr c => ?_) (Cert.Kernel2Ideal.Value.run_blocks m g)
    obtain rfl : c = 0 := Subsingleton.elim (α := Fin 1) _ _
    obtain ⟨h4, h5, h6, h7, h8, hr⟩ := hr 0
    exact ⟨h4.trans (arr4 m), h5.trans (arr5 m), h6.trans (arr6 m), h7.trans (arr7 m), h8.trans (arr8 m), hr⟩
  · refine (θ_run _ _ _).mono (fun r hr c => ?_) (Cert.Reference2Ideal.Value.run m' g')
    obtain rfl : c = 0 := Subsingleton.elim (α := Fin 1) _ _
    obtain ⟨h0, h1, h2, h3⟩ := hargs 0
    obtain ⟨r0, r1, r2, r3, r4, hr⟩ := hr 0
    rw [h0, h1, h2, h3] at r0 r1 r2 r3 r4
    exact ⟨r0, r1, r2, r3, r4, hr⟩

end Cert.Proj.In

end
-- ==== Proof.Proj.FinalRef.lean ====
/- The last step of the layer at an index: the kernel's body and the reference, in exact arithmetic. -/
module

public import proofs.«01_k».proof.Proof.Gen.Reference4Ideal.Run
public import proofs.«01_k».proof.Proof.Gen.Kernel4Ideal.Skeleton
public import proofs.«01_k».proof.Proof.Proj.InRef

@[expose] public section

set_option maxRecDepth 16384

noncomputable section

namespace Cert.Reference4Ideal.Proj

open Idealize.ShloMosaic Idealize.ShloMosaic.TcCoe Cert.Proj
open Cert.Reference2Ideal.Proj (means centred normed normed_apply)
open Cert.Reference4Ideal Cert.Reference4Ideal.Gen Cert.Reference4Ideal.Value

/-- The weighted rows plus their gated update. -/
def mixed (x y : FVec Ideal S4x4096x2048 .f32) (g2 : FVec Ideal S4x1x2048 .f32) : FVec Ideal S4x4096x2048 .f32 :=
  addf (mulf (broadcastInDim S4x4096x2048 ![] bcast_S_S4x4096x2048 (constant S_ .f32 0x3FB504F3#32)) x) (mulf (broadcastInDim S4x4096x2048 ![0, 1, 2] bcast_S4x1x2048_S4x4096x2048_0_1_2 (addf (broadcastInDim S4x1x2048 ![] bcast_S_S4x1x2048 (constant S_ .f32 0x3F800000#32)) g2)) y)

/-- A vector put in every row. -/
def everyRow (g : FVec Ideal S2048 .f32) : FVec Ideal S4x4096x2048 .f32 :=
  broadcastInDim S4x4096x2048 ![0, 1, 2] bcast_S1x1x2048_S4x4096x2048_0_1_2 (broadcastInDim S1x1x2048 ![2] bcast_S2048_S1x1x2048_2 g)

/-- The normalized mixed rows, put through the affine map. -/
def post (x y : FVec Ideal S4x4096x2048 .f32) (g2 : FVec Ideal S4x1x2048 .f32) (g b : FVec Ideal S2048 .f32) : FVec Ideal S4x4096x2048 .f32 :=
  addf (mulf (normed (mixed x y g2)) (everyRow g)) (everyRow b)

theorem mixed_apply (x y : FVec Ideal S4x4096x2048 .f32) (g2 : FVec Ideal S4x1x2048 .f32) (b : Fin 4) (s : Fin 4096) (k : Fin 2048) :
    mixed x y g2 (ValueIdx.ix3 b s k)
      = Ideal.ofBits .f32 0x3FB504F3#32 * x (ValueIdx.ix3 b s k) + (1 + g2 (ValueIdx.ix3 b (0 : Fin 1) k)) * y (ValueIdx.ix3 b s k) := by
  pointwise [mixed]
  rfl

theorem everyRow_apply (g : FVec Ideal S2048 .f32) (b : Fin 4) (s : Fin 4096) (k : Fin 2048) :
    everyRow g (ValueIdx.ix3 b s k) = g (ValueIdx.ix1 k) := by
  pointwise [everyRow]
  rfl

theorem post_apply (x y : FVec Ideal S4x4096x2048 .f32) (g2 : FVec Ideal S4x1x2048 .f32) (g b : FVec Ideal S2048 .f32) (n : Fin 4) (s : Fin 4096) (k : Fin 2048) :
    post x y g2 g b (ValueIdx.ix3 n s k)
      = gated (fun j => x (ValueIdx.ix3 n s j)) (fun j => g2 (ValueIdx.ix3 n (0 : Fin 1) j)) (fun j => y (ValueIdx.ix3 n s j))
          (fun j => g (ValueIdx.ix1 j)) (fun j => b (ValueIdx.ix1 j)) k := by
  unfold gated
  simp only [← mixed_apply, ← everyRow_apply _ n s, ← normed_apply]
  rfl

/-- The reference's result. -/
def out (x y0 y1 y2 y3 : FVec Ideal S4x4096x2048 .f32) (g2 : FVec Ideal S4x1x2048 .f32) (g b : FVec Ideal S2048 .f32) : FVec Ideal S4x4096x2048 .f32 :=
  post x (addf (addf (addf y0 y1) y2) y3) g2 g b

theorem res_eq (m : (ℓ : Loc nD τ sig) → Buf (Elt Ideal) ℓ) (c : Dev nD) :
    res_main_v33 (F := Ideal) m c = out (m ((c.tc : Thread nD τ).loc main_arg0)) (m ((c.tc : Thread nD τ).loc main_arg1)) (m ((c.tc : Thread nD τ).loc main_arg2))
      (m ((c.tc : Thread nD τ).loc main_arg3)) (m ((c.tc : Thread nD τ).loc main_arg4)) (m ((c.tc : Thread nD τ).loc main_arg5))
      (m ((c.tc : Thread nD τ).loc main_arg6)) (m ((c.tc : Thread nD τ).loc main_arg7)) := rfl

end Cert.Reference4Ideal.Proj

namespace Cert.Kernel4Ideal.Proj

open Idealize.ShloMosaic Idealize.ShloMosaic.TcCoe Cert.Proj
open Cert.Kernel4Ideal Cert.Kernel4Ideal.Gen

/-- What the body writes at a row and a column. -/
theorem body_apply (x y0 y1 y2 y3 : FVec Ideal S1x256x2048 .f32) (g2 : FVec Ideal S1x1x2048 .f32) (g b : FVec Ideal S1x2048 .f32) (r : Fin 256) (k : Fin 2048) :
    k0_pay1 (F := Ideal) (k0_pay2 y0 y1 y2 y3 x g2) (k0_pay3 y0 y1 y2 y3 x g2) (Scalar.ofBits .f32 0x3727C5AC#32) g b (ValueIdx.ix3 (0 : Fin 1) r k)
      = gated (fun j => x (ValueIdx.ix3 (0 : Fin 1) r j)) (fun j => g2 (ValueIdx.ix3 (0 : Fin 1) (0 : Fin 1) j))
          (fun j => (y0 (ValueIdx.ix3 (0 : Fin 1) r j) + y1 (ValueIdx.ix3 (0 : Fin 1) r j)) + (y2 (ValueIdx.ix3 (0 : Fin 1) r j) + y3 (ValueIdx.ix3 (0 : Fin 1) r j)))
          (fun j => g (ValueIdx.ix2 (0 : Fin 1) j)) (fun j => b (ValueIdx.ix2 (0 : Fin 1) j)) k := by
  pointwise [k0_pay1, k0_pay3, k0_pay2]
  rfl

end Cert.Kernel4Ideal.Proj

end
-- ==== Proof.Proj.OutRef.lean ====
/- The output projection at an index: the kernel's body and the reference, in exact arithmetic. -/
module

public import proofs.«01_k».proof.Proof.Gen.Reference3Ideal.Run
public import proofs.«01_k».proof.Proof.Gen.Kernel3Ideal.Skeleton
public import proofs.«01_k».proof.Proof.Proj.FinalRef

@[expose] public section

set_option maxRecDepth 16384

noncomputable section

namespace Cert.Proj

open Idealize.ShloMosaic

/-- A row of a product whose left operand is four rows of 512 side by side. -/
def quarters (y0 y1 y2 y3 : Fin 512 → EReal) (w : Fin 2048 → EReal) : EReal :=
  (∑ k, y0 k * w ⟨k.val, by omega⟩) + (∑ k, y1 k * w ⟨512 + k.val, by omega⟩) + (∑ k, y2 k * w ⟨1024 + k.val, by omega⟩) + ∑ k, y3 k * w ⟨1536 + k.val, by omega⟩

/-- A sum over 2048 is the sums over its four runs of 512. -/
theorem sum_quarters (f : Fin 2048 → EReal) :
    ∑ x, f x = (∑ k : Fin 512, f ⟨k.val, by omega⟩) + (∑ k : Fin 512, f ⟨512 + k.val, by omega⟩) + (∑ k : Fin 512, f ⟨1024 + k.val, by omega⟩)
      + ∑ k : Fin 512, f ⟨1536 + k.val, by omega⟩ := by
  refine (Fin.sum_univ_add (a := 1536) (b := 512) f).trans (congrArg (· + _) ?_)
  refine (Fin.sum_univ_add (a := 1024) (b := 512) _).trans (congrArg (· + _) ?_)
  exact Fin.sum_univ_add (a := 512) (b := 512) _

end Cert.Proj

namespace Cert.Reference3Ideal.Proj

open Idealize.ShloMosaic Idealize.ShloMosaic.TcCoe Cert.Proj
open Cert.Reference2Ideal.Proj (rows rows_apply)
open Cert.Reference4Ideal.Proj (post post_apply)
open Cert.Reference3Ideal Cert.Reference3Ideal.Gen Cert.Reference3Ideal.Value

/-- The product of the four parts side by side with the weights. -/
def prod (y0 y1 y2 y3 : FVec Ideal S4x4096x512 .bf16) (w : FVec Ideal S2048x2048 .bf16) : FVec Ideal S4x4096x2048 .f32 :=
  Host.dotGeneral dot_S4x4096x2048_S2048x2048_S4x4096x2048_2_0_01_1_n_n none (extf .f32 ((concatenate S4x4096x2048 2 [⟨S4x4096x512, (y0 : (⟨S4x4096x512, .bf16⟩ : BufTy).Contents (Elt Ideal))⟩, ⟨S4x4096x512, (y1 : (⟨S4x4096x512, .bf16⟩ : BufTy).Contents (Elt Ideal))⟩, ⟨S4x4096x512, (y2 : (⟨S4x4096x512, .bf16⟩ : BufTy).Contents (Elt Ideal))⟩, ⟨S4x4096x512, (y3 : (⟨S4x4096x512, .bf16⟩ : BufTy).Contents (Elt Ideal))⟩] concatenates_S4x4096x512_S4x4096x512_S4x4096x512_S4x4096x512_S4x4096x2048_d2 : (⟨S4x4096x2048, .bf16⟩ : BufTy).Contents (Elt Ideal))) bitsLt_bf16_f32) (extf .f32 w bitsLt_bf16_f32)

/-- The router's logits. -/
def logits (h : FVec Ideal S4x4096x2048 .f32) (rw : FVec Ideal S2048x32 .f32) (rb : FVec Ideal S32 .f32) : FVec Ideal S4x4096x32 .f32 :=
  addf (Host.dotGeneral dot_S4x4096x2048_S2048x32_S4x4096x32_2_0_01_1_n_n none h rw) (broadcastInDim S4x4096x32 ![0, 1, 2] bcast_S1x1x32_S4x4096x32_0_1_2 (broadcastInDim S1x1x32 ![2] bcast_S32_S1x1x32_2 rb))

theorem prod_apply (y0 y1 y2 y3 : FVec Ideal S4x4096x512 .bf16) (w : FVec Ideal S2048x2048 .bf16) (n : Fin 4) (s : Fin 4096) (d : Fin 2048) :
    prod y0 y1 y2 y3 w (ValueIdx.ix3 n s d)
      = quarters (fun k => y0 (ValueIdx.ix3 n s k)) (fun k => y1 (ValueIdx.ix3 n s k)) (fun k => y2 (ValueIdx.ix3 n s k)) (fun k => y3 (ValueIdx.ix3 n s k))
          (fun k => w (ValueIdx.ix2 k d)) := by
  pointwise [prod]
  refine (sum_quarters _).trans (congrArg₂ (· + ·) (congrArg₂ (· + ·) (congrArg₂ (· + ·) (Finset.sum_congr rfl fun k _ => ?_) (Finset.sum_congr rfl fun k _ => ?_))
    (Finset.sum_congr rfl fun k _ => ?_)) (Finset.sum_congr rfl fun k _ => ?_))
  · refine congrArg (· * w (ValueIdx.ix2 ⟨k.val, by omega⟩ d)) (dif_pos k.isLt)
  · refine congrArg (· * w (ValueIdx.ix2 ⟨512 + k.val, by omega⟩ d)) ?_
    refine (dif_neg (by show ¬ (512 + k.val < 512); omega)).trans ((dif_pos (by show 512 + k.val - 512 < 512; omega)).trans ?_)
    exact congrArg (fun z => y1 (ValueIdx.ix3 n s z)) (Fin.ext (by show 512 + k.val - 512 = k.val; omega))
  · refine congrArg (· * w (ValueIdx.ix2 ⟨1024 + k.val, by omega⟩ d)) ?_
    refine (dif_neg (by show ¬ (1024 + k.val < 512); omega)).trans ((dif_neg (by show ¬ (1024 + k.val - 512 < 512); omega)).trans
      ((dif_pos (by show 1024 + k.val - 512 - 512 < 512; omega)).trans ?_))
    exact congrArg (fun z => y2 (ValueIdx.ix3 n s z)) (Fin.ext (by show 1024 + k.val - 512 - 512 = k.val; omega))
  · refine congrArg (· * w (ValueIdx.ix2 ⟨1536 + k.val, by omega⟩ d)) ?_
    refine (dif_neg (by show ¬ (1536 + k.val < 512); omega)).trans ((dif_neg (by show ¬ (1536 + k.val - 512 < 512); omega)).trans
      ((dif_neg (by show ¬ (1536 + k.val - 512 - 512 < 512); omega)).trans ?_))
    exact congrArg (fun z => y3 (ValueIdx.ix3 n s z)) (Fin.ext (by show 1536 + k.val - 512 - 512 - 512 = k.val; omega))

theorem logits_apply (h : FVec Ideal S4x4096x2048 .f32) (rw : FVec Ideal S2048x32 .f32) (rb : FVec Ideal S32 .f32) (n : Fin 4) (s : Fin 4096) (e : Fin 32) :
    logits h rw rb (ValueIdx.ix3 n s e) = (∑ k : Fin 2048, h (ValueIdx.ix3 n s k) * rw (ValueIdx.ix2 k e)) + rb (ValueIdx.ix1 e) := by
  pointwise [logits]
  rfl

variable (m : (ℓ : Loc nD τ sig) → Buf (Elt Ideal) ℓ) (c : Dev nD)

/-- The new rows, of the arguments. -/
abbrev x1 : FVec Ideal S4x4096x2048 .f32 :=
  post (m ((c.tc : Thread nD τ).loc main_arg5))
    (prod (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)))
    (m ((c.tc : Thread nD τ).loc main_arg6)) (m ((c.tc : Thread nD τ).loc main_arg7)) (m ((c.tc : Thread nD τ).loc main_arg8))

theorem res34_eq : res_main_v34 (F := Ideal) m c = x1 m c := rfl

theorem res59_eq : (res_main_v59 (F := Ideal) m c : FVec Ideal S4x4096x2048 .bf16)
    = truncf .bf16 (rows (x1 m c) (m ((c.tc : Thread nD τ).loc main_arg9)) (m ((c.tc : Thread nD τ).loc main_arg10))) bitsLt_bf16_f32 := rfl

theorem res63_eq : res_main_v63 (F := Ideal) m c
    = logits (rows (x1 m c) (m ((c.tc : Thread nD τ).loc main_arg9)) (m ((c.tc : Thread nD τ).loc main_arg10))) (m ((c.tc : Thread nD τ).loc main_arg11)) (m ((c.tc : Thread nD τ).loc main_arg12)) := rfl

end Cert.Reference3Ideal.Proj

namespace Cert.Kernel3Ideal.Proj

open Idealize.ShloMosaic Idealize.ShloMosaic.TcCoe Cert.Proj
open Cert.Kernel3Ideal Cert.Kernel3Ideal.Gen

/-- The body's product. -/
theorem prod_apply (y0 y1 y2 y3 : FVec Ideal S1x256x512 .bf16) (w0 w1 w2 w3 : FVec Ideal S512x2048 .bf16) (r : Fin 256) (d : Fin 2048) :
    k0_pay4 (F := Ideal) y0 w0 y1 w1 y2 w2 y3 w3 (ValueIdx.ix2 r d)
      = (∑ k : Fin 512, y0 (ValueIdx.ix3 (0 : Fin 1) r k) * w0 (ValueIdx.ix2 k d)) + (∑ k : Fin 512, y1 (ValueIdx.ix3 (0 : Fin 1) r k) * w1 (ValueIdx.ix2 k d))
        + (∑ k : Fin 512, y2 (ValueIdx.ix3 (0 : Fin 1) r k) * w2 (ValueIdx.ix2 k d)) + ∑ k : Fin 512, y3 (ValueIdx.ix3 (0 : Fin 1) r k) * w3 (ValueIdx.ix2 k d) := by
  pointwise [k0_pay4]
  rfl

/-- The body's new rows. -/
theorem x1_apply (p : FVec Ideal S256x2048 .f32) (x : FVec Ideal S1x256x2048 .f32) (g1 : FVec Ideal S1x1x2048 .f32) (g b : FVec Ideal S1x2048 .f32) (r : Fin 256) (k : Fin 2048) :
    k0_pay6 (F := Ideal) p (k0_pay5 x) g1 g b (ValueIdx.ix2 r k)
      = gated (fun j => x (ValueIdx.ix3 (0 : Fin 1) r j)) (fun j => g1 (ValueIdx.ix3 (0 : Fin 1) (0 : Fin 1) j)) (fun j => p (ValueIdx.ix2 r j))
          (fun j => g (ValueIdx.ix2 (0 : Fin 1) j)) (fun j => b (ValueIdx.ix2 (0 : Fin 1) j)) k := by
  pointwise [k0_pay6, k0_pay5]
  rfl

/-- The body's modulated rows. -/
theorem h_apply (p v24 : FVec Ideal S256x2048 .f32) (g1 : FVec Ideal S1x1x2048 .f32) (g b : FVec Ideal S1x2048 .f32) (sc sh : FVec Ideal S1x1x2048 .f32) (r : Fin 256) (k : Fin 2048) :
    k0_pay1 (F := Ideal) (k0_pay8 p v24 g1 g b) (k0_pay9 p v24 g1 g b) (Scalar.ofBits .f32 0x45000000#32) sc sh (ValueIdx.ix2 r k)
      = modulate (fun j => k0_pay6 (F := Ideal) p v24 g1 g b (ValueIdx.ix2 r j)) (fun j => sc (ValueIdx.ix3 (0 : Fin 1) (0 : Fin 1) j))
          (fun j => sh (ValueIdx.ix3 (0 : Fin 1) (0 : Fin 1) j)) k := by
  pointwise [k0_pay1, k0_pay9, k0_pay8]
  rfl

theorem pay7_apply (p v24 : FVec Ideal S256x2048 .f32) (g1 : FVec Ideal S1x1x2048 .f32) (g b : FVec Ideal S1x2048 .f32) (r : Fin 256) (k : Fin 2048) :
    k0_pay7 (F := Ideal) p v24 g1 g b (ValueIdx.ix3 (0 : Fin 1) r k) = k0_pay6 (F := Ideal) p v24 g1 g b (ValueIdx.ix2 r k) := by
  pointwise [k0_pay7]
  rfl

theorem pay2_apply (v64 : FVec Ideal S256x2048 .f32) (v67 : FVec Ideal S256x1 .f32) (c : Ideal .f32) (sc sh : FVec Ideal S1x1x2048 .f32) (r : Fin 256) (k : Fin 2048) :
    k0_pay2 (F := Ideal) v64 v67 c sc sh (ValueIdx.ix3 (0 : Fin 1) r k) = k0_pay1 (F := Ideal) v64 v67 c sc sh (ValueIdx.ix2 r k) := by
  pointwise [k0_pay2]
  rfl

theorem pay3_apply (v64 : FVec Ideal S256x2048 .f32) (v67 : FVec Ideal S256x1 .f32) (c : Ideal .f32) (sc sh : FVec Ideal S1x1x2048 .f32) (rw : FVec Ideal S2048x32 .f32) (rb : FVec Ideal S1x32 .f32) (r : Fin 256) (e : Fin 32) :
    k0_pay3 (F := Ideal) v64 v67 c sc sh rw rb (ValueIdx.ix3 (0 : Fin 1) r e)
      = (∑ k : Fin 2048, k0_pay1 (F := Ideal) v64 v67 c sc sh (ValueIdx.ix2 r k) * rw (ValueIdx.ix2 k e)) + rb (ValueIdx.ix2 (0 : Fin 1) e) := by
  pointwise [k0_pay3]
  rfl

end Cert.Kernel3Ideal.Proj

end
-- ==== Proof.Proj.OutValue.lean ====
/- What the output projection's call leaves in its three result arrays. -/
module

public import proofs.«01_k».proof.Proof.Gen.Kernel3Ideal.Value
public import proofs.«01_k».proof.Proof.Proj.Tiles
public import proofs.«01_k».proof.Proof.Proj.OutRef

@[expose] public section

set_option maxRecDepth 16384

noncomputable section

namespace Cert.Kernel3Ideal.Proj

open Idealize.ShloMosaic Idealize.ShloMosaic.TcCoe Idealize.SL.Sem Cert.Proj
open Cert.Kernel3Ideal Cert.Kernel3Ideal.Gen

section Body

variable (x0 : FVec Ideal S1x256x512 .bf16) (x1 : FVec Ideal S1x256x512 .bf16) (x2 : FVec Ideal S1x256x512 .bf16) (x3 : FVec Ideal S1x256x512 .bf16) (x4 : FVec Ideal S2048x2048 .bf16) (x5 : FVec Ideal S1x256x2048 .f32) (x6 : FVec Ideal S1x1x2048 .f32) (x7 : FVec Ideal S1x2048 .f32) (x8 : FVec Ideal S1x2048 .f32) (x9 : FVec Ideal S1x1x2048 .f32) (x10 : FVec Ideal S1x1x2048 .f32) (x11 : FVec Ideal S2048x32 .f32) (x12 : FVec Ideal S1x32 .f32)

/-- The body's product, of the blocks. -/
abbrev bodyProd : FVec Ideal S256x2048 .f32 :=
  k0_pay4 x0 (View.ld x4 r0_1) x1 (View.ld x4 r0_2) x2 (View.ld x4 r0_3) x3 (View.ld x4 r0_4)

theorem pay10_eq : k0_pay10 (F := Ideal) x0 x1 x2 x3 x4 x5 x6 x7 x8 x9 x10 x11 x12 = bodyProd x0 x1 x2 x3 x4 := by
  unfold k0_pay10
  frame_out
theorem pay11_eq : k0_pay11 (F := Ideal) x0 x1 x2 x3 x4 x5 x6 x7 x8 x9 x10 x11 x12 = k0_pay5 x5 := by
  unfold k0_pay11
  frame_out
theorem pay12_eq : k0_pay12 (F := Ideal) x0 x1 x2 x3 x4 x5 x6 x7 x8 x9 x10 x11 x12 = k0_pay8 (bodyProd x0 x1 x2 x3 x4) (k0_pay5 x5) x6 x7 x8 := by
  unfold k0_pay12
  rw [pay10_eq, pay11_eq]
  frame_out
theorem pay13_eq : k0_pay13 (F := Ideal) x0 x1 x2 x3 x4 x5 x6 x7 x8 x9 x10 x11 x12 = k0_pay9 (bodyProd x0 x1 x2 x3 x4) (k0_pay5 x5) x6 x7 x8 := by
  unfold k0_pay13
  rw [pay10_eq, pay11_eq]
  frame_out

theorem bodyProd_apply (r : Fin 256) (d : Fin 2048) :
    bodyProd x0 x1 x2 x3 x4 (ValueIdx.ix2 r d)
      = quarters (fun k => x0 (ValueIdx.ix3 (0 : Fin 1) r k)) (fun k => x1 (ValueIdx.ix3 (0 : Fin 1) r k)) (fun k => x2 (ValueIdx.ix3 (0 : Fin 1) r k))
          (fun k => x3 (ValueIdx.ix3 (0 : Fin 1) r k)) (fun k => x4 (ValueIdx.ix2 k d)) := by
  refine (prod_apply _ _ _ _ _ _ _ _ r d).trans (congrArg₂ (· + ·) (congrArg₂ (· + ·) (congrArg₂ (· + ·) ?_ ?_) ?_) ?_) <;>
    refine Finset.sum_congr rfl fun k _ => congrArg (_ * ·) ?_
  · exact congrArg x4 (mat_ext 0 0 k.val d.val _ rfl rfl (Nat.zero_add _).symm (Nat.zero_add _).symm)
  · exact congrArg x4 (mat_ext 512 0 k.val d.val _ rfl rfl rfl (Nat.zero_add _).symm)
  · exact congrArg x4 (mat_ext 1024 0 k.val d.val _ rfl rfl rfl (Nat.zero_add _).symm)
  · exact congrArg x4 (mat_ext 1536 0 k.val d.val _ rfl rfl rfl (Nat.zero_add _).symm)

end Body

variable (m : (ℓ : Loc nD τ sig) → Buf (Elt Ideal) ℓ)

abbrev aY0 : FVec Ideal S4x4096x512 .bf16 := m (((0 : Dev nD) : Thread nD τ).loc main_arg0)
abbrev aY1 : FVec Ideal S4x4096x512 .bf16 := m (((0 : Dev nD) : Thread nD τ).loc main_arg1)
abbrev aY2 : FVec Ideal S4x4096x512 .bf16 := m (((0 : Dev nD) : Thread nD τ).loc main_arg2)
abbrev aY3 : FVec Ideal S4x4096x512 .bf16 := m (((0 : Dev nD) : Thread nD τ).loc main_arg3)
abbrev aW : FVec Ideal S2048x2048 .bf16 := m (((0 : Dev nD) : Thread nD τ).loc main_arg4)
abbrev aX : FVec Ideal S4x4096x2048 .f32 := m (((0 : Dev nD) : Thread nD τ).loc main_arg5)
abbrev aG1 : FVec Ideal S4x1x2048 .f32 := m (((0 : Dev nD) : Thread nD τ).loc main_arg6)
abbrev aLg : FVec Ideal S2048 .f32 := m (((0 : Dev nD) : Thread nD τ).loc main_arg7)
abbrev aLb : FVec Ideal S2048 .f32 := m (((0 : Dev nD) : Thread nD τ).loc main_arg8)
abbrev aSc : FVec Ideal S4x1x2048 .f32 := m (((0 : Dev nD) : Thread nD τ).loc main_arg9)
abbrev aSh : FVec Ideal S4x1x2048 .f32 := m (((0 : Dev nD) : Thread nD τ).loc main_arg10)
abbrev aRw : FVec Ideal S2048x32 .f32 := m (((0 : Dev nD) : Thread nD τ).loc main_arg11)
abbrev aRb : FVec Ideal S32 .f32 := m (((0 : Dev nD) : Thread nD τ).loc main_arg12)

theorem blk0 (t : Fin cfg0.N) (r : Fin 256) (k : Fin 512) :
    (iblk m (0 : Dev nD) 0 t : FVec Ideal S1x256x512 .bf16) (ValueIdx.ix3 (0 : Fin 1) r k) = aY0 m (ValueIdx.ix3 (batch t) (row t r) k) := by
  show V m (0 : Dev nD) main_arg0 (((cfg0.win 0).blk t).view.emb (ValueIdx.ix3 (0 : Fin 1) r k)) = _
  rw [V_main_arg0]
  exact congrArg (aY0 m) (tile_ext t r k _ rfl rfl rfl)
theorem blk1 (t : Fin cfg0.N) (r : Fin 256) (k : Fin 512) :
    (iblk m (0 : Dev nD) 1 t : FVec Ideal S1x256x512 .bf16) (ValueIdx.ix3 (0 : Fin 1) r k) = aY1 m (ValueIdx.ix3 (batch t) (row t r) k) := by
  show V m (0 : Dev nD) main_arg1 (((cfg0.win 1).blk t).view.emb (ValueIdx.ix3 (0 : Fin 1) r k)) = _
  rw [V_main_arg1]
  exact congrArg (aY1 m) (tile_ext t r k _ rfl rfl rfl)
theorem blk2 (t : Fin cfg0.N) (r : Fin 256) (k : Fin 512) :
    (iblk m (0 : Dev nD) 2 t : FVec Ideal S1x256x512 .bf16) (ValueIdx.ix3 (0 : Fin 1) r k) = aY2 m (ValueIdx.ix3 (batch t) (row t r) k) := by
  show V m (0 : Dev nD) main_arg2 (((cfg0.win 2).blk t).view.emb (ValueIdx.ix3 (0 : Fin 1) r k)) = _
  rw [V_main_arg2]
  exact congrArg (aY2 m) (tile_ext t r k _ rfl rfl rfl)
theorem blk3 (t : Fin cfg0.N) (r : Fin 256) (k : Fin 512) :
    (iblk m (0 : Dev nD) 3 t : FVec Ideal S1x256x512 .bf16) (ValueIdx.ix3 (0 : Fin 1) r k) = aY3 m (ValueIdx.ix3 (batch t) (row t r) k) := by
  show V m (0 : Dev nD) main_arg3 (((cfg0.win 3).blk t).view.emb (ValueIdx.ix3 (0 : Fin 1) r k)) = _
  rw [V_main_arg3]
  exact congrArg (aY3 m) (tile_ext t r k _ rfl rfl rfl)
theorem blk5 (t : Fin cfg0.N) (r : Fin 256) (k : Fin 2048) :
    (iblk m (0 : Dev nD) 5 t : FVec Ideal S1x256x2048 .f32) (ValueIdx.ix3 (0 : Fin 1) r k) = aX m (ValueIdx.ix3 (batch t) (row t r) k) := by
  show V m (0 : Dev nD) main_arg5 (((cfg0.win 5).blk t).view.emb (ValueIdx.ix3 (0 : Fin 1) r k)) = _
  rw [V_main_arg5]
  exact congrArg (aX m) (tile_ext t r k _ rfl rfl rfl)
theorem blk6 (t : Fin cfg0.N) (k : Fin 2048) :
    (iblk m (0 : Dev nD) 6 t : FVec Ideal S1x1x2048 .f32) (ValueIdx.ix3 (0 : Fin 1) (0 : Fin 1) k) = aG1 m (ValueIdx.ix3 (batch t) (0 : Fin 1) k) := by
  show V m (0 : Dev nD) main_arg6 (((cfg0.win 6).blk t).view.emb (ValueIdx.ix3 (0 : Fin 1) (0 : Fin 1) k)) = _
  rw [V_main_arg6]
  exact congrArg (aG1 m) (batch_ext t k _ rfl rfl)
theorem blk9 (t : Fin cfg0.N) (k : Fin 2048) :
    (iblk m (0 : Dev nD) 9 t : FVec Ideal S1x1x2048 .f32) (ValueIdx.ix3 (0 : Fin 1) (0 : Fin 1) k) = aSc m (ValueIdx.ix3 (batch t) (0 : Fin 1) k) := by
  show V m (0 : Dev nD) main_arg9 (((cfg0.win 9).blk t).view.emb (ValueIdx.ix3 (0 : Fin 1) (0 : Fin 1) k)) = _
  rw [V_main_arg9]
  exact congrArg (aSc m) (batch_ext t k _ rfl rfl)
theorem blk10 (t : Fin cfg0.N) (k : Fin 2048) :
    (iblk m (0 : Dev nD) 10 t : FVec Ideal S1x1x2048 .f32) (ValueIdx.ix3 (0 : Fin 1) (0 : Fin 1) k) = aSh m (ValueIdx.ix3 (batch t) (0 : Fin 1) k) := by
  show V m (0 : Dev nD) main_arg10 (((cfg0.win 10).blk t).view.emb (ValueIdx.ix3 (0 : Fin 1) (0 : Fin 1) k)) = _
  rw [V_main_arg10]
  exact congrArg (aSh m) (batch_ext t k _ rfl rfl)
theorem blk4 (t : Fin cfg0.N) (k : Fin 2048) (d : Fin 2048) :
    (iblk m (0 : Dev nD) 4 t : FVec Ideal S2048x2048 .bf16) (ValueIdx.ix2 k d) = aW m (ValueIdx.ix2 k d) := by
  show V m (0 : Dev nD) main_arg4 (((cfg0.win 4).blk t).view.emb (ValueIdx.ix2 k d)) = _
  rw [V_main_arg4]
  exact congrArg (aW m) (mat_ext (0 * 2048) (0 * 2048) k.val d.val _ rfl rfl (by omega) (by omega))
theorem blk11 (t : Fin cfg0.N) (k : Fin 2048) (d : Fin 32) :
    (iblk m (0 : Dev nD) 11 t : FVec Ideal S2048x32 .f32) (ValueIdx.ix2 k d) = aRw m (ValueIdx.ix2 k d) := by
  show V m (0 : Dev nD) main_arg11 (((cfg0.win 11).blk t).view.emb (ValueIdx.ix2 k d)) = _
  rw [V_main_arg11]
  exact congrArg (aRw m) (mat_ext (0 * 2048) (0 * 32) k.val d.val _ rfl rfl (by omega) (by omega))
theorem v0_at (k : Fin 2048) : (V m (0 : Dev nD) main_v0 : FVec Ideal S1x2048 .f32) (ValueIdx.ix2 (0 : Fin 1) k) = aLg m (ValueIdx.ix1 k) := by
  entry_read
  pointwise
  rfl
theorem blk7 (t : Fin cfg0.N) (k : Fin 2048) :
    (iblk m (0 : Dev nD) 7 t : FVec Ideal S1x2048 .f32) (ValueIdx.ix2 (0 : Fin 1) k) = aLg m (ValueIdx.ix1 k) := by
  rw [← v0_at]
  exact congrArg (V m (0 : Dev nD) main_v0 : FVec Ideal S1x2048 .f32) (mat_ext (0 * 1) (0 * 2048) 0 k.val (((cfg0.win 7).blk t).view.emb (ValueIdx.ix2 (0 : Fin 1) k)) rfl rfl rfl (by omega))
theorem v1_at (k : Fin 2048) : (V m (0 : Dev nD) main_v1 : FVec Ideal S1x2048 .f32) (ValueIdx.ix2 (0 : Fin 1) k) = aLb m (ValueIdx.ix1 k) := by
  entry_read
  pointwise
  rfl
theorem blk8 (t : Fin cfg0.N) (k : Fin 2048) :
    (iblk m (0 : Dev nD) 8 t : FVec Ideal S1x2048 .f32) (ValueIdx.ix2 (0 : Fin 1) k) = aLb m (ValueIdx.ix1 k) := by
  rw [← v1_at]
  exact congrArg (V m (0 : Dev nD) main_v1 : FVec Ideal S1x2048 .f32) (mat_ext (0 * 1) (0 * 2048) 0 k.val (((cfg0.win 8).blk t).view.emb (ValueIdx.ix2 (0 : Fin 1) k)) rfl rfl rfl (by omega))
theorem v2_at (k : Fin 32) : (V m (0 : Dev nD) main_v2 : FVec Ideal S1x32 .f32) (ValueIdx.ix2 (0 : Fin 1) k) = aRb m (ValueIdx.ix1 k) := by
  entry_read
  pointwise
  rfl
theorem blk12 (t : Fin cfg0.N) (k : Fin 32) :
    (iblk m (0 : Dev nD) 12 t : FVec Ideal S1x32 .f32) (ValueIdx.ix2 (0 : Fin 1) k) = aRb m (ValueIdx.ix1 k) := by
  rw [← v2_at]
  exact congrArg (V m (0 : Dev nD) main_v2 : FVec Ideal S1x32 .f32) (mat_ext (0 * 1) (0 * 32) 0 k.val (((cfg0.win 12).blk t).view.emb (ValueIdx.ix2 (0 : Fin 1) k)) rfl rfl rfl (by omega))

/-- The reference's results, of the kernel's arguments. -/
abbrev newRows : FVec Ideal S4x4096x2048 .f32 :=
  Cert.Reference4Ideal.Proj.post (aX m) (Cert.Reference3Ideal.Proj.prod (aY0 m) (aY1 m) (aY2 m) (aY3 m) (aW m)) (aG1 m) (aLg m) (aLb m)
abbrev hRows : FVec Ideal S4x4096x2048 .f32 := Cert.Reference2Ideal.Proj.rows (newRows m) (aSc m) (aSh m)
abbrev router : FVec Ideal S4x4096x32 .f32 := Cert.Reference3Ideal.Proj.logits (hRows m) (aRw m) (aRb m)

/-- A point's new rows are the reference's. -/
theorem newRows_eq (t : Fin cfg0.N) (r : Fin 256) (k : Fin 2048) :
    k0_pay6 (F := Ideal) (bodyProd (iblk m (0 : Dev nD) 0 t) (iblk m (0 : Dev nD) 1 t) (iblk m (0 : Dev nD) 2 t) (iblk m (0 : Dev nD) 3 t) (iblk m (0 : Dev nD) 4 t)) (k0_pay5 (iblk m (0 : Dev nD) 5 t)) (iblk m (0 : Dev nD) 6 t) (iblk m (0 : Dev nD) 7 t) (iblk m (0 : Dev nD) 8 t) (ValueIdx.ix2 r k)
      = newRows m (ValueIdx.ix3 (batch t) (row t r) k) := by
  refine Eq.trans ?_ (Cert.Reference4Ideal.Proj.post_apply _ _ _ _ _ _ _ _).symm
  refine (x1_apply _ _ _ _ _ r k).trans ?_
  simp only [bodyProd_apply, blk0, blk1, blk2, blk3, blk4, blk5, blk6, blk7, blk8, Cert.Reference3Ideal.Proj.prod_apply]

/-- A point's modulated rows are the reference's. -/
theorem hRows_eq (t : Fin cfg0.N) (r : Fin 256) (k : Fin 2048) :
    k0_pay1 (F := Ideal) (k0_pay8 (bodyProd (iblk m (0 : Dev nD) 0 t) (iblk m (0 : Dev nD) 1 t) (iblk m (0 : Dev nD) 2 t) (iblk m (0 : Dev nD) 3 t) (iblk m (0 : Dev nD) 4 t)) (k0_pay5 (iblk m (0 : Dev nD) 5 t)) (iblk m (0 : Dev nD) 6 t) (iblk m (0 : Dev nD) 7 t) (iblk m (0 : Dev nD) 8 t))
        (k0_pay9 (bodyProd (iblk m (0 : Dev nD) 0 t) (iblk m (0 : Dev nD) 1 t) (iblk m (0 : Dev nD) 2 t) (iblk m (0 : Dev nD) 3 t) (iblk m (0 : Dev nD) 4 t)) (k0_pay5 (iblk m (0 : Dev nD) 5 t)) (iblk m (0 : Dev nD) 6 t) (iblk m (0 : Dev nD) 7 t) (iblk m (0 : Dev nD) 8 t))
        (Scalar.ofBits .f32 0x45000000#32) (iblk m (0 : Dev nD) 9 t) (iblk m (0 : Dev nD) 10 t) (ValueIdx.ix2 r k)
      = hRows m (ValueIdx.ix3 (batch t) (row t r) k) := by
  refine Eq.trans ?_ (Cert.Reference2Ideal.Proj.rows_apply _ _ _ _ _ _).symm
  refine (h_apply _ _ _ _ _ _ _ r k).trans ?_
  simp only [newRows_eq, blk9, blk10]

theorem arr13 : (dats m 0 0).arrAt 13 cfg0.N = newRows m := by
  refine (dats m 0 0).arrAt_eq_of_covers 13 _ (by decide +kernel) fun t hf y => ?_
  obtain ⟨r, d, rfl⟩ := tile_idx (D := 2048) y
  refine Eq.trans ?_ (congrArg (newRows m) (tile_ext t r d _ rfl rfl rfl)).symm
  rw [← newRows_eq]
  show (dats m 0 0).after 13 t (ValueIdx.ix3 (0 : Fin 1) r d) = _
  rw [after0_13]
  frame_out
  rw [pay10_eq, pay11_eq]
  exact pay7_apply _ _ _ _ _ r d

theorem arr14 : (dats m 0 0).arrAt 14 cfg0.N = hRows m := by
  refine (dats m 0 0).arrAt_eq_of_covers 14 _ (by decide +kernel) fun t hf y => ?_
  obtain ⟨r, d, rfl⟩ := tile_idx (D := 2048) y
  refine Eq.trans ?_ (congrArg (hRows m) (tile_ext t r d _ rfl rfl rfl)).symm
  rw [← hRows_eq]
  show (dats m 0 0).after 14 t (ValueIdx.ix3 (0 : Fin 1) r d) = _
  rw [after0_14]
  frame_out
  rw [pay12_eq, pay13_eq]
  exact pay2_apply _ _ _ _ _ r d

theorem arr15 : (dats m 0 0).arrAt 15 cfg0.N = router m := by
  refine (dats m 0 0).arrAt_eq_of_covers 15 _ (by decide +kernel) fun t hf y => ?_
  obtain ⟨r, d, rfl⟩ := tile_idx (D := 32) y
  refine Eq.trans ?_ (congrArg (router m) (tile_ext t r d _ rfl rfl rfl)).symm
  refine Eq.trans ?_ (Cert.Reference3Ideal.Proj.logits_apply _ _ _ _ _ _).symm
  show (dats m 0 0).after 15 t (ValueIdx.ix3 (0 : Fin 1) r d) = _
  rw [after0_15]
  frame_out
  rw [pay12_eq, pay13_eq]
  refine (pay3_apply _ _ _ _ _ _ _ r d).trans (congrArg₂ (· + ·) (Finset.sum_congr rfl fun k _ => ?_) (blk12 m t d))
  rw [hRows_eq, blk11]

end Cert.Kernel3Ideal.Proj

end
-- ==== Proof.Proj.OutClaims.lean ====
/- The claims about the output projection: its programs run and leave their arguments and counters, and the kernel's
   three results are the reference's in exact arithmetic. -/
module

public import proofs.«01_k».proof.Defs
public import proofs.«01_k».proof.Proof.Gen.Kernel3.Frame
public import proofs.«01_k».proof.Proof.Proj.OutValue
public import Idealize.ShloMosaic.Adequacy
public import Idealize.ShloMosaic.Init

@[expose] public section

set_option maxRecDepth 16384

noncomputable section

namespace Cert.Proj.Out

open Idealize.ShloMosaic Idealize.SL.Sem

theorem frame_kernel : Cert.quiescent_Kernel3 := fun m g _ => Cert.Kernel3.Gen.frame m g

theorem frame_ideal : Cert.quiescent_Kernel3Ideal := fun m g _ => Cert.Kernel3Ideal.Gen.frame m g

theorem frame_reference : Cert.quiescent_Reference3Ideal := fun m g _ =>
  (θ_run _ _ _).mono (fun r h => ⟨fun c => (h c).2.2.2, sem_eq_zero_of_no_sems (by decide) r.2⟩)
    (Cert.Reference3Ideal.Value.run m g)

open Cert.Kernel3Ideal.Proj in
theorem value : Cert.algebraic_Kernel3Ideal_Reference3Ideal := by
  intro m g m' g' _ hargs
  refine ⟨fun _ => newRows m, fun _ => hRows m, fun _ => router m, ?_, ?_⟩
  · refine (θ_run _ _ _).mono (fun r hr c => ?_) (Cert.Kernel3Ideal.Value.run_blocks m g)
    obtain rfl : c = 0 := Subsingleton.elim (α := Fin 1) _ _
    obtain ⟨h13, h14, h15, hr⟩ := hr 0
    exact ⟨h13.trans (arr13 m), h14.trans (arr14 m), h15.trans (arr15 m), hr⟩
  · refine (θ_run _ _ _).mono (fun r hr c => ?_) (Cert.Reference3Ideal.Value.run m' g')
    obtain rfl : c = 0 := Subsingleton.elim (α := Fin 1) _ _
    obtain ⟨h0, h1, h2, h3, h4, h5, h6, h7, h8, h9, h10, h11, h12⟩ := hargs 0
    obtain ⟨r0, r1, r2, hr⟩ := hr 0
    have e : Cert.Reference3Ideal.Proj.x1 m' 0 = newRows m := by
      unfold Cert.Reference3Ideal.Proj.x1
      rw [h0, h1, h2, h3, h4, h5, h6, h7, h8]
    refine ⟨r0.trans ((Cert.Reference3Ideal.Proj.res34_eq m' 0).trans e), r1.trans ((Cert.Reference3Ideal.Proj.res59_eq m' 0).trans ?_),
      r2.trans ((Cert.Reference3Ideal.Proj.res63_eq m' 0).trans ?_), hr⟩
    · rw [e, h9, h10]
      rfl
    · rw [e, h9, h10, h11, h12]

end Cert.Proj.Out

end
-- ==== Proof.Proj.FinalValue.lean ====
/- What the layer's last step leaves in its result array. -/
module

public import proofs.«01_k».proof.Proof.Gen.Kernel4Ideal.Value
public import proofs.«01_k».proof.Proof.Proj.Tiles
public import proofs.«01_k».proof.Proof.Proj.FinalRef

@[expose] public section

set_option maxRecDepth 16384

noncomputable section

namespace Cert.Kernel4Ideal.Proj

open Idealize.ShloMosaic Idealize.ShloMosaic.TcCoe Idealize.SL.Sem Cert.Proj
open Cert.Kernel4Ideal Cert.Kernel4Ideal.Gen

variable (m : (ℓ : Loc nD τ sig) → Buf (Elt Ideal) ℓ)

abbrev aX : FVec Ideal S4x4096x2048 .f32 := m (((0 : Dev nD) : Thread nD τ).loc main_arg0)
abbrev aY0 : FVec Ideal S4x4096x2048 .f32 := m (((0 : Dev nD) : Thread nD τ).loc main_arg1)
abbrev aY1 : FVec Ideal S4x4096x2048 .f32 := m (((0 : Dev nD) : Thread nD τ).loc main_arg2)
abbrev aY2 : FVec Ideal S4x4096x2048 .f32 := m (((0 : Dev nD) : Thread nD τ).loc main_arg3)
abbrev aY3 : FVec Ideal S4x4096x2048 .f32 := m (((0 : Dev nD) : Thread nD τ).loc main_arg4)
abbrev aG2 : FVec Ideal S4x1x2048 .f32 := m (((0 : Dev nD) : Thread nD τ).loc main_arg5)
abbrev aLg : FVec Ideal S2048 .f32 := m (((0 : Dev nD) : Thread nD τ).loc main_arg6)
abbrev aLb : FVec Ideal S2048 .f32 := m (((0 : Dev nD) : Thread nD τ).loc main_arg7)

theorem blk0 (t : Fin cfg0.N) (r : Fin 256) (k : Fin 2048) :
    (iblk m (0 : Dev nD) 0 t : FVec Ideal S1x256x2048 .f32) (ValueIdx.ix3 (0 : Fin 1) r k) = aX m (ValueIdx.ix3 (batch t) (row t r) k) := by
  show V m (0 : Dev nD) main_arg0 (((cfg0.win 0).blk t).view.emb (ValueIdx.ix3 (0 : Fin 1) r k)) = _
  rw [V_main_arg0]
  exact congrArg (aX m) (tile_ext t r k _ rfl rfl rfl)
theorem blk1 (t : Fin cfg0.N) (r : Fin 256) (k : Fin 2048) :
    (iblk m (0 : Dev nD) 1 t : FVec Ideal S1x256x2048 .f32) (ValueIdx.ix3 (0 : Fin 1) r k) = aY0 m (ValueIdx.ix3 (batch t) (row t r) k) := by
  show V m (0 : Dev nD) main_arg1 (((cfg0.win 1).blk t).view.emb (ValueIdx.ix3 (0 : Fin 1) r k)) = _
  rw [V_main_arg1]
  exact congrArg (aY0 m) (tile_ext t r k _ rfl rfl rfl)
theorem blk2 (t : Fin cfg0.N) (r : Fin 256) (k : Fin 2048) :
    (iblk m (0 : Dev nD) 2 t : FVec Ideal S1x256x2048 .f32) (ValueIdx.ix3 (0 : Fin 1) r k) = aY1 m (ValueIdx.ix3 (batch t) (row t r) k) := by
  show V m (0 : Dev nD) main_arg2 (((cfg0.win 2).blk t).view.emb (ValueIdx.ix3 (0 : Fin 1) r k)) = _
  rw [V_main_arg2]
  exact congrArg (aY1 m) (tile_ext t r k _ rfl rfl rfl)
theorem blk3 (t : Fin cfg0.N) (r : Fin 256) (k : Fin 2048) :
    (iblk m (0 : Dev nD) 3 t : FVec Ideal S1x256x2048 .f32) (ValueIdx.ix3 (0 : Fin 1) r k) = aY2 m (ValueIdx.ix3 (batch t) (row t r) k) := by
  show V m (0 : Dev nD) main_arg3 (((cfg0.win 3).blk t).view.emb (ValueIdx.ix3 (0 : Fin 1) r k)) = _
  rw [V_main_arg3]
  exact congrArg (aY2 m) (tile_ext t r k _ rfl rfl rfl)
theorem blk4 (t : Fin cfg0.N) (r : Fin 256) (k : Fin 2048) :
    (iblk m (0 : Dev nD) 4 t : FVec Ideal S1x256x2048 .f32) (ValueIdx.ix3 (0 : Fin 1) r k) = aY3 m (ValueIdx.ix3 (batch t) (row t r) k) := by
  show V m (0 : Dev nD) main_arg4 (((cfg0.win 4).blk t).view.emb (ValueIdx.ix3 (0 : Fin 1) r k)) = _
  rw [V_main_arg4]
  exact congrArg (aY3 m) (tile_ext t r k _ rfl rfl rfl)
theorem blk5 (t : Fin cfg0.N) (k : Fin 2048) :
    (iblk m (0 : Dev nD) 5 t : FVec Ideal S1x1x2048 .f32) (ValueIdx.ix3 (0 : Fin 1) (0 : Fin 1) k) = aG2 m (ValueIdx.ix3 (batch t) (0 : Fin 1) k) := by
  show V m (0 : Dev nD) main_arg5 (((cfg0.win 5).blk t).view.emb (ValueIdx.ix3 (0 : Fin 1) (0 : Fin 1) k)) = _
  rw [V_main_arg5]
  exact congrArg (aG2 m) (batch_ext t k _ rfl rfl)

theorem v0_at (k : Fin 2048) : (V m (0 : Dev nD) main_v0 : FVec Ideal S1x2048 .f32) (ValueIdx.ix2 (0 : Fin 1) k) = aLg m (ValueIdx.ix1 k) := by
  entry_read
  pointwise
  rfl
theorem v1_at (k : Fin 2048) : (V m (0 : Dev nD) main_v1 : FVec Ideal S1x2048 .f32) (ValueIdx.ix2 (0 : Fin 1) k) = aLb m (ValueIdx.ix1 k) := by
  entry_read
  pointwise
  rfl
theorem blk6 (t : Fin cfg0.N) (k : Fin 2048) :
    (iblk m (0 : Dev nD) 6 t : FVec Ideal S1x2048 .f32) (ValueIdx.ix2 (0 : Fin 1) k) = aLg m (ValueIdx.ix1 k) := by
  rw [← v0_at]
  exact congrArg (V m (0 : Dev nD) main_v0 : FVec Ideal S1x2048 .f32) (mat_ext (0 * 1) (0 * 2048) 0 k.val (((cfg0.win 6).blk t).view.emb (ValueIdx.ix2 (0 : Fin 1) k)) rfl rfl rfl (by omega))
theorem blk7 (t : Fin cfg0.N) (k : Fin 2048) :
    (iblk m (0 : Dev nD) 7 t : FVec Ideal S1x2048 .f32) (ValueIdx.ix2 (0 : Fin 1) k) = aLb m (ValueIdx.ix1 k) := by
  rw [← v1_at]
  exact congrArg (V m (0 : Dev nD) main_v1 : FVec Ideal S1x2048 .f32) (mat_ext (0 * 1) (0 * 2048) 0 k.val (((cfg0.win 7).blk t).view.emb (ValueIdx.ix2 (0 : Fin 1) k)) rfl rfl rfl (by omega))

/-- The reference's result, of the kernel's arguments. -/
abbrev formula : FVec Ideal S4x4096x2048 .f32 :=
  Cert.Reference4Ideal.Proj.out (aX m) (aY0 m) (aY1 m) (aY2 m) (aY3 m) (aG2 m) (aLg m) (aLb m)

theorem formula_apply (n : Fin 4) (s : Fin 4096) (k : Fin 2048) :
    formula m (ValueIdx.ix3 n s k)
      = gated (fun j => aX m (ValueIdx.ix3 n s j)) (fun j => aG2 m (ValueIdx.ix3 n (0 : Fin 1) j))
          (fun j => (aY0 m (ValueIdx.ix3 n s j) + aY1 m (ValueIdx.ix3 n s j)) + (aY2 m (ValueIdx.ix3 n s j) + aY3 m (ValueIdx.ix3 n s j)))
          (fun j => aLg m (ValueIdx.ix1 j)) (fun j => aLb m (ValueIdx.ix1 j)) k := by
  refine (Cert.Reference4Ideal.Proj.post_apply _ _ _ _ _ n s k).trans ?_
  refine congrArg (fun y => gated _ _ y _ _ k) (funext fun j => ?_)
  exact add_assoc _ _ _

theorem arr8 : (dats m 0 0).arrAt 8 cfg0.N = formula m := by
  refine (dats m 0 0).arrAt_eq_of_covers 8 _ (by decide +kernel) fun t hf y => ?_
  obtain ⟨r, d, rfl⟩ := tile_idx (D := 2048) y
  refine Eq.trans ?_ (congrArg (formula m) (tile_ext t r d _ rfl rfl rfl)).symm
  rw [formula_apply]
  show (dats m 0 0).after 8 t (ValueIdx.ix3 (0 : Fin 1) r d) = _
  rw [after0_8]
  frame_out
  refine (body_apply _ _ _ _ _ _ _ _ r d).trans ?_
  simp only [blk0, blk1, blk2, blk3, blk4, blk5, blk6, blk7]

end Cert.Kernel4Ideal.Proj

end
-- ==== Proof.Proj.FinalClaims.lean ====
/- The claims about the layer's last step: its programs run and leave their arguments and counters, and the kernel's
   result is the reference's in exact arithmetic. -/
module

public import proofs.«01_k».proof.Defs
public import proofs.«01_k».proof.Proof.Gen.Kernel4.Frame
public import proofs.«01_k».proof.Proof.Proj.FinalValue
public import Idealize.ShloMosaic.Adequacy
public import Idealize.ShloMosaic.Init

@[expose] public section

set_option maxRecDepth 16384

noncomputable section

namespace Cert.Proj.Final

open Idealize.ShloMosaic Idealize.SL.Sem

theorem frame_kernel : Cert.quiescent_Kernel4 := fun m g _ => Cert.Kernel4.Gen.frame m g

theorem frame_ideal : Cert.quiescent_Kernel4Ideal := fun m g _ => Cert.Kernel4Ideal.Gen.frame m g

theorem frame_reference : Cert.quiescent_Reference4Ideal := fun m g _ =>
  (θ_run _ _ _).mono (fun r h => ⟨fun c => (h c).2, sem_eq_zero_of_no_sems (by decide) r.2⟩)
    (Cert.Reference4Ideal.Value.run m g)

theorem value : Cert.algebraic_Kernel4Ideal_Reference4Ideal := by
  intro m g m' g' _ hargs
  refine ⟨fun _ => Cert.Kernel4Ideal.Proj.formula m, ?_, ?_⟩
  · refine (θ_run _ _ _).mono (fun r hr c => ?_) (Cert.Kernel4Ideal.Value.run_blocks m g)
    obtain rfl : c = 0 := Subsingleton.elim (α := Fin 1) _ _
    exact ⟨(hr 0).1.trans (Cert.Kernel4Ideal.Proj.arr8 m), (hr 0).2⟩
  · refine (θ_run _ _ _).mono (fun r hr c => ⟨?_, (hr c).2⟩) (Cert.Reference4Ideal.Value.run m' g')
    obtain rfl : c = 0 := Subsingleton.elim (α := Fin 1) _ _
    obtain ⟨h0, h1, h2, h3, h4, h5, h6, h7⟩ := hargs 0
    refine (hr 0).1.trans ((Cert.Reference4Ideal.Proj.res_eq m' 0).trans ?_)
    rw [h0, h1, h2, h3, h4, h5, h6, h7]

end Cert.Proj.Final

end
-- ==== Proof.lean ====
module

public import proofs.«01_k».proof.Proof.Gen.Kernel2.Frame
public import proofs.«01_k».proof.Proof.Gen.Kernel2Ideal.Frame
public import proofs.«01_k».proof.Proof.Gen.Kernel2Ideal.Value
public import proofs.«01_k».proof.Proof.Gen.Reference2Ideal.Run
public import proofs.«01_k».proof.Proof.Gen.Kernel3.Frame
public import proofs.«01_k».proof.Proof.Gen.Kernel3Ideal.Frame
public import proofs.«01_k».proof.Proof.Gen.Kernel3Ideal.Value
public import proofs.«01_k».proof.Proof.Gen.Reference3Ideal.Run
public import proofs.«01_k».proof.Proof.Gen.Kernel4.Frame
public import proofs.«01_k».proof.Proof.Gen.Kernel4Ideal.Frame
public import proofs.«01_k».proof.Proof.Gen.Kernel4Ideal.Value
public import proofs.«01_k».proof.Proof.Gen.Reference4Ideal.Run
public import proofs.«01_k».proof.Proof.Gen.Kernel5.Frame
public import proofs.«01_k».proof.Proof.Gen.Kernel5Ideal.Frame
public import proofs.«01_k».proof.Proof.Gen.Kernel5Ideal.Value
public import proofs.«01_k».proof.Proof.Gen.Reference5Ideal.Run
public import proofs.«01_k».proof.Proof.Gen.Pre_finite
public import proofs.«01_k».proof.Proof.Gen.Pre_routed
public import proofs.«01_k».proof.Proof.Gen.Pre_routed_padded
public import proofs.«01_k».proof.Proof.Attn.Claims
public import proofs.«01_k».proof.Proof.Moe.Claims
public import proofs.«01_k».proof.Proof.Proj.InClaims
public import proofs.«01_k».proof.Proof.Proj.OutClaims
public import proofs.«01_k».proof.Proof.Proj.FinalClaims

@[expose] public section

noncomputable section

namespace Cert.Proof

open Cert.Proj

theorem claim : Cert.Claim :=
  ⟨Cert.Kernel.Gen.facts, Cert.KernelIdeal.Gen.facts, Cert.ReferenceIdeal.Gen.facts,
    Cert.Kernel2.Gen.facts, Cert.Kernel2Ideal.Gen.facts, Cert.Reference2Ideal.Gen.facts,
    Cert.Kernel3.Gen.facts, Cert.Kernel3Ideal.Gen.facts, Cert.Reference3Ideal.Gen.facts,
    Cert.Kernel4.Gen.facts, Cert.Kernel4Ideal.Gen.facts, Cert.Reference4Ideal.Gen.facts,
    Cert.Kernel5.Gen.facts, Cert.Kernel5Ideal.Gen.facts, Cert.Reference5Ideal.Gen.facts,
    Cert.Pre_routed.Gen.facts, Cert.Pre_routed_padded.Gen.facts, Cert.Pre_finite.Gen.facts,
    Cert.Moe.frame_kernel, Cert.Moe.frame_ideal, Cert.Moe.frame_padded, Cert.Moe.frame_reference, Cert.Moe.frame_reference_padded,
    In.frame_kernel, In.frame_ideal, In.frame_reference,
    Out.frame_kernel, Out.frame_ideal, Out.frame_reference,
    Final.frame_kernel, Final.frame_ideal, Final.frame_reference,
    Cert.Attn.frame_kernel, Cert.Attn.frame_ideal, Cert.Attn.frame_ideal_finite, Cert.Attn.frame_reference, Cert.Attn.frame_reference_finite,
    trivial, Cert.Moe.value, trivial, In.value, trivial, Out.value, trivial, Final.value, trivial, Cert.Attn.agrees⟩

end Cert.Proof

end
